-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_UpBwd0 (m : (ℓ : Loc Cert.UpBwd0.nD Cert.UpBwd0.τ Cert.UpBwd0.sig) → Buf (Elt Bits) ℓ) : Prop :=
  True

def Pre_UpBwd0Ideal (m : (ℓ : Loc Cert.UpBwd0Ideal.nD Cert.UpBwd0Ideal.τ Cert.UpBwd0Ideal.sig) → Buf (Elt Ideal) ℓ) : Prop :=
  True

def Pre_UpBwd0RefIdeal (m : (ℓ : Loc Cert.UpBwd0RefIdeal.nD Cert.UpBwd0RefIdeal.τ Cert.UpBwd0RefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5)) (m ((c.tc : Thread Cert.NormBwdIdeal.nD Cert.NormBwdIdeal.τ).loc Cert.NormBwdIdeal.main_arg6)) (m ((c.tc : Thread Cert.NormBwdIdeal.nD Cert.NormBwdIdeal.τ).loc Cert.NormBwdIdeal.main_arg7))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm [hPre_finite_norm : Cert.Pre_finite_norm.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5)) (m ((c.tc : Thread Cert.NormBwdRefIdeal.nD Cert.NormBwdRefIdeal.τ).loc Cert.NormBwdRefIdeal.main_arg6)) (m ((c.tc : Thread Cert.NormBwdRefIdeal.nD Cert.NormBwdRefIdeal.τ).loc Cert.NormBwdRefIdeal.main_arg7))) = (fun _ => 1#1)

def Pre_NormBwd0 (m : (ℓ : Loc Cert.NormBwd0.nD Cert.NormBwd0.τ Cert.NormBwd0.sig) → Buf (Elt Bits) ℓ) : Prop :=
  True

def Pre_NormBwd0Ideal (m : (ℓ : Loc Cert.NormBwd0Ideal.nD Cert.NormBwd0Ideal.τ Cert.NormBwd0Ideal.sig) → Buf (Elt Ideal) ℓ) : Prop :=
  True

def Pre_NormBwd0Ideal_finite_first [hPre_finite_first : Cert.Pre_finite_first.Facts] (m : (ℓ : Loc Cert.NormBwd0Ideal.nD Cert.NormBwd0Ideal.τ Cert.NormBwd0Ideal.sig) → Buf (Elt Ideal) ℓ) : Prop :=
  ∀ c : Dev Cert.NormBwd0Ideal.nD,
    (Cert.Pre_finite_first.fn (F := Ideal) (m ((c.tc : Thread Cert.NormBwd0Ideal.nD Cert.NormBwd0Ideal.τ).loc Cert.NormBwd0Ideal.main_arg0)) (m ((c.tc : Thread Cert.NormBwd0Ideal.nD Cert.NormBwd0Ideal.τ).loc Cert.NormBwd0Ideal.main_arg1)) (m ((c.tc : Thread Cert.NormBwd0Ideal.nD Cert.NormBwd0Ideal.τ).loc Cert.NormBwd0Ideal.main_arg2)) (m ((c.tc : Thread Cert.NormBwd0Ideal.nD Cert.NormBwd0Ideal.τ).loc Cert.NormBwd0Ideal.main_arg3)) (m ((c.tc : Thread Cert.NormBwd0Ideal.nD Cert.NormBwd0Ideal.τ).loc Cert.NormBwd0Ideal.main_arg4)) (m ((c.tc : Thread Cert.NormBwd0Ideal.nD Cert.NormBwd0Ideal.τ).loc Cert.NormBwd0Ideal.main_arg5))) = (fun _ => 1#1)

def Pre_NormBwd0RefIdeal (m : (ℓ : Loc Cert.NormBwd0RefIdeal.nD Cert.NormBwd0RefIdeal.τ Cert.NormBwd0RefIdeal.sig) → Buf (Elt Ideal) ℓ) : Prop :=
  True

def Pre_NormBwd0RefIdeal_finite_first [hPre_finite_first : Cert.Pre_finite_first.Facts] (m : (ℓ : Loc Cert.NormBwd0RefIdeal.nD Cert.NormBwd0RefIdeal.τ Cert.NormBwd0RefIdeal.sig) → Buf (Elt Ideal) ℓ) : Prop :=
  ∀ c : Dev Cert.NormBwd0RefIdeal.nD,
    (Cert.Pre_finite_first.fn (F := Ideal) (m ((c.tc : Thread Cert.NormBwd0RefIdeal.nD Cert.NormBwd0RefIdeal.τ).loc Cert.NormBwd0RefIdeal.main_arg0)) (m ((c.tc : Thread Cert.NormBwd0RefIdeal.nD Cert.NormBwd0RefIdeal.τ).loc Cert.NormBwd0RefIdeal.main_arg1)) (m ((c.tc : Thread Cert.NormBwd0RefIdeal.nD Cert.NormBwd0RefIdeal.τ).loc Cert.NormBwd0RefIdeal.main_arg2)) (m ((c.tc : Thread Cert.NormBwd0RefIdeal.nD Cert.NormBwd0RefIdeal.τ).loc Cert.NormBwd0RefIdeal.main_arg3)) (m ((c.tc : Thread Cert.NormBwd0RefIdeal.nD Cert.NormBwd0RefIdeal.τ).loc Cert.NormBwd0RefIdeal.main_arg4)) (m ((c.tc : Thread Cert.NormBwd0RefIdeal.nD Cert.NormBwd0RefIdeal.τ).loc Cert.NormBwd0RefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamRel (m : (ℓ : Loc Cert.AdamRel.nD Cert.AdamRel.τ Cert.AdamRel.sig) → Buf (Elt Bits) ℓ) : Prop :=
  True

def Pre_AdamRelIdeal (m : (ℓ : Loc Cert.AdamRelIdeal.nD Cert.AdamRelIdeal.τ Cert.AdamRelIdeal.sig) → Buf (Elt Ideal) ℓ) : Prop :=
  True

def Pre_AdamRelRefIdeal (m : (ℓ : Loc Cert.AdamRelRefIdeal.nD Cert.AdamRelRefIdeal.τ Cert.AdamRelRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamGnorm (m : (ℓ : Loc Cert.AdamGnorm.nD Cert.AdamGnorm.τ Cert.AdamGnorm.sig) → Buf (Elt Bits) ℓ) : Prop :=
  True

def Pre_AdamGnormIdeal (m : (ℓ : Loc Cert.AdamGnormIdeal.nD Cert.AdamGnormIdeal.τ Cert.AdamGnormIdeal.sig) → Buf (Elt Ideal) ℓ) : Prop :=
  True

def Pre_AdamGnormRefIdeal (m : (ℓ : Loc Cert.AdamGnormRefIdeal.nD Cert.AdamGnormRefIdeal.τ Cert.AdamGnormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_UpBwd0 [hUpBwd0 : Cert.UpBwd0.Facts] : Prop :=
  ∀ (m : (ℓ : Loc Cert.UpBwd0.nD Cert.UpBwd0.τ Cert.UpBwd0.sig) → Buf (Elt Bits) ℓ) (g : Dev Cert.UpBwd0.nD → PrngReg), Pre_UpBwd0 m →
    θ_run (Cert.UpBwd0.defs (F := Bits)) (onTc (τ := Cert.UpBwd0.τ) (Cert.UpBwd0.main (F := Bits))) ⟨m, fun _ => 0, g⟩ (fun r => (∀ c : Dev Cert.UpBwd0.nD,
      r.2.mem ((c.tc : Thread Cert.UpBwd0.nD Cert.UpBwd0.τ).loc Cert.UpBwd0.main_arg0) = m ((c.tc : Thread Cert.UpBwd0.nD Cert.UpBwd0.τ).loc Cert.UpBwd0.main_arg0)
      ∧ r.2.mem ((c.tc : Thread Cert.UpBwd0.nD Cert.UpBwd0.τ).loc Cert.UpBwd0.main_arg1) = m ((c.tc : Thread Cert.UpBwd0.nD Cert.UpBwd0.τ).loc Cert.UpBwd0.main_arg1)
      ∧ r.2.mem ((c.tc : Thread Cert.UpBwd0.nD Cert.UpBwd0.τ).loc Cert.UpBwd0.main_arg2) = m ((c.tc : Thread Cert.UpBwd0.nD Cert.UpBwd0.τ).loc Cert.UpBwd0.main_arg2)
      ∧ r.2.mem ((c.tc : Thread Cert.UpBwd0.nD Cert.UpBwd0.τ).loc Cert.UpBwd0.main_arg3) = m ((c.tc : Thread Cert.UpBwd0.nD Cert.UpBwd0.τ).loc Cert.UpBwd0.main_arg3))
      ∧ r.2.sem = fun _ => 0)

def quiescent_UpBwd0Ideal [hUpBwd0Ideal : Cert.UpBwd0Ideal.Facts] : Prop :=
  ∀ (m : (ℓ : Loc Cert.UpBwd0Ideal.nD Cert.UpBwd0Ideal.τ Cert.UpBwd0Ideal.sig) → Buf (Elt Ideal) ℓ) (g : Dev Cert.UpBwd0Ideal.nD → PrngReg), Pre_UpBwd0Ideal m →
    θ_run (Cert.UpBwd0Ideal.defs (F := Ideal)) (onTc (τ := Cert.UpBwd0Ideal.τ) (Cert.UpBwd0Ideal.main (F := Ideal))) ⟨m, fun _ => 0, g⟩ (fun r => (∀ c : Dev Cert.UpBwd0Ideal.nD,
      r.2.mem ((c.tc : Thread Cert.UpBwd0Ideal.nD Cert.UpBwd0Ideal.τ).loc Cert.UpBwd0Ideal.main_arg0) = m ((c.tc : Thread Cert.UpBwd0Ideal.nD Cert.UpBwd0Ideal.τ).loc Cert.UpBwd0Ideal.main_arg0)
      ∧ r.2.mem ((c.tc : Thread Cert.UpBwd0Ideal.nD Cert.UpBwd0Ideal.τ).loc Cert.UpBwd0Ideal.main_arg1) = m ((c.tc : Thread Cert.UpBwd0Ideal.nD Cert.UpBwd0Ideal.τ).loc Cert.UpBwd0Ideal.main_arg1)
      ∧ r.2.mem ((c.tc : Thread Cert.UpBwd0Ideal.nD Cert.UpBwd0Ideal.τ).loc Cert.UpBwd0Ideal.main_arg2) = m ((c.tc : Thread Cert.UpBwd0Ideal.nD Cert.UpBwd0Ideal.τ).loc Cert.UpBwd0Ideal.main_arg2)
      ∧ r.2.mem ((c.tc : Thread Cert.UpBwd0Ideal.nD Cert.UpBwd0Ideal.τ).loc Cert.UpBwd0Ideal.main_arg3) = m ((c.tc : Thread Cert.UpBwd0Ideal.nD Cert.UpBwd0Ideal.τ).loc Cert.UpBwd0Ideal.main_arg3))
      ∧ r.2.sem = fun _ => 0)

def quiescent_UpBwd0RefIdeal [hUpBwd0RefIdeal : Cert.UpBwd0RefIdeal.Facts] : Prop :=
  ∀ (m : (ℓ : Loc Cert.UpBwd0RefIdeal.nD Cert.UpBwd0RefIdeal.τ Cert.UpBwd0RefIdeal.sig) → Buf (Elt Ideal) ℓ) (g : Dev Cert.UpBwd0RefIdeal.nD → PrngReg), Pre_UpBwd0RefIdeal m →
    θ_run (Cert.UpBwd0RefIdeal.defs (F := Ideal)) (onTc (τ := Cert.UpBwd0RefIdeal.τ) (Cert.UpBwd0RefIdeal.main (F := Ideal))) ⟨m, fun _ => 0, g⟩ (fun r => (∀ c : Dev Cert.UpBwd0RefIdeal.nD,
      r.2.mem ((c.tc : Thread Cert.UpBwd0RefIdeal.nD Cert.UpBwd0RefIdeal.τ).loc Cert.UpBwd0RefIdeal.main_arg0) = m ((c.tc : Thread Cert.UpBwd0RefIdeal.nD Cert.UpBwd0RefIdeal.τ).loc Cert.UpBwd0RefIdeal.main_arg0)
      ∧ r.2.mem ((c.tc : Thread Cert.UpBwd0RefIdeal.nD Cert.UpBwd0RefIdeal.τ).loc Cert.UpBwd0RefIdeal.main_arg1) = m ((c.tc : Thread Cert.UpBwd0RefIdeal.nD Cert.UpBwd0RefIdeal.τ).loc Cert.UpBwd0RefIdeal.main_arg1)
      ∧ r.2.mem ((c.tc : Thread Cert.UpBwd0RefIdeal.nD Cert.UpBwd0RefIdeal.τ).loc Cert.UpBwd0RefIdeal.main_arg2) = m ((c.tc : Thread Cert.UpBwd0RefIdeal.nD Cert.UpBwd0RefIdeal.τ).loc Cert.UpBwd0RefIdeal.main_arg2)
      ∧ r.2.mem ((c.tc : Thread Cert.UpBwd0RefIdeal.nD Cert.UpBwd0RefIdeal.τ).loc Cert.UpBwd0RefIdeal.main_arg3) = m ((c.tc : Thread Cert.UpBwd0RefIdeal.nD Cert.UpBwd0RefIdeal.τ).loc Cert.UpBwd0RefIdeal.main_arg3))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2)
      ∧ r.2.mem ((c.tc : Thread Cert.Down0RefIdeal.nD Cert.Down0RefIdeal.τ).loc Cert.Down0RefIdeal.main_arg3) = m ((c.tc : Thread Cert.Down0RefIdeal.nD Cert.Down0RefIdeal.τ).loc Cert.Down0RefIdeal.main_arg3))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1)
      ∧ r.2.mem ((c.tc : Thread Cert.Up0.nD Cert.Up0.τ).loc Cert.Up0.main_arg2) = m ((c.tc : Thread Cert.Up0.nD Cert.Up0.τ).loc Cert.Up0.main_arg2)
      ∧ r.2.mem ((c.tc : Thread Cert.Up0.nD Cert.Up0.τ).loc Cert.Up0.main_arg3) = m ((c.tc : Thread Cert.Up0.nD Cert.Up0.τ).loc Cert.Up0.main_arg3)
      ∧ r.2.mem ((c.tc : Thread Cert.Up0.nD Cert.Up0.τ).loc Cert.Up0.main_arg4) = m ((c.tc : Thread Cert.Up0.nD Cert.Up0.τ).loc Cert.Up0.main_arg4)
      ∧ r.2.mem ((c.tc : Thread Cert.Up0.nD Cert.Up0.τ).loc Cert.Up0.main_arg5) = m ((c.tc : Thread Cert.Up0.nD Cert.Up0.τ).loc Cert.Up0.main_arg5))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
      ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2)
      ∧ r.2.mem ((c.tc : Thread Cert.Up0Ideal.nD Cert.Up0Ideal.τ).loc Cert.Up0Ideal.main_arg3) = m ((c.tc : Thread Cert.Up0Ideal.nD Cert.Up0Ideal.τ).loc Cert.Up0Ideal.main_arg3)
      ∧ r.2.mem ((c.tc : Thread Cert.Up0Ideal.nD Cert.Up0Ideal.τ).loc Cert.Up0Ideal.main_arg4) = m ((c.tc : Thread Cert.Up0Ideal.nD Cert.Up0Ideal.τ).loc Cert.Up0Ideal.main_arg4)
      ∧ r.2.mem ((c.tc : Thread Cert.Up0Ideal.nD Cert.Up0Ideal.τ).loc Cert.Up0Ideal.main_arg5) = m ((c.tc : Thread Cert.Up0Ideal.nD Cert.Up0Ideal.τ).loc Cert.Up0Ideal.main_arg5))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1)
      ∧ r.2.mem ((c.tc : Thread Cert.Up0RefIdeal.nD Cert.Up0RefIdeal.τ).loc Cert.Up0RefIdeal.main_arg2) = m ((c.tc : Thread Cert.Up0RefIdeal.nD Cert.Up0RefIdeal.τ).loc Cert.Up0RefIdeal.main_arg2)
      ∧ r.2.mem ((c.tc : Thread Cert.Up0RefIdeal.nD Cert.Up0RefIdeal.τ).loc Cert.Up0RefIdeal.main_arg3) = m ((c.tc : Thread Cert.Up0RefIdeal.nD Cert.Up0RefIdeal.τ).loc Cert.Up0RefIdeal.main_arg3)
      ∧ r.2.mem ((c.tc : Thread Cert.Up0RefIdeal.nD Cert.Up0RefIdeal.τ).loc Cert.Up0RefIdeal.main_arg4) = m ((c.tc : Thread Cert.Up0RefIdeal.nD Cert.Up0RefIdeal.τ).loc Cert.Up0RefIdeal.main_arg4)
      ∧ r.2.mem ((c.tc : Thread Cert.Up0RefIdeal.nD Cert.Up0RefIdeal.τ).loc Cert.Up0RefIdeal.main_arg5) = m ((c.tc : Thread Cert.Up0RefIdeal.nD Cert.Up0RefIdeal.τ).loc Cert.Up0RefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6)
      ∧ r.2.mem ((c.tc : Thread Cert.NormBwd.nD Cert.NormBwd.τ).loc Cert.NormBwd.main_arg7) = m ((c.tc : Thread Cert.NormBwd.nD Cert.NormBwd.τ).loc Cert.NormBwd.main_arg7))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
      ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_NormBwdRefIdeal_pre_finite_norm [hNormBwdRefIdeal : Cert.NormBwdRefIdeal.Facts] [hPre_finite_norm : Cert.Pre_finite_norm.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6)
      ∧ r.2.mem ((c.tc : Thread Cert.NormBwdRefIdeal.nD Cert.NormBwdRefIdeal.τ).loc Cert.NormBwdRefIdeal.main_arg7) = m ((c.tc : Thread Cert.NormBwdRefIdeal.nD Cert.NormBwdRefIdeal.τ).loc Cert.NormBwdRefIdeal.main_arg7))
      ∧ r.2.sem = fun _ => 0)

def quiescent_NormBwd0 [hNormBwd0 : Cert.NormBwd0.Facts] : Prop :=
  ∀ (m : (ℓ : Loc Cert.NormBwd0.nD Cert.NormBwd0.τ Cert.NormBwd0.sig) → Buf (Elt Bits) ℓ) (g : Dev Cert.NormBwd0.nD → PrngReg), Pre_NormBwd0 m →
    θ_run (Cert.NormBwd0.defs (F := Bits)) (onTc (τ := Cert.NormBwd0.τ) (Cert.NormBwd0.main (F := Bits))) ⟨m, fun _ => 0, g⟩ (fun r => (∀ c : Dev Cert.NormBwd0.nD,
      r.2.mem ((c.tc : Thread Cert.NormBwd0.nD Cert.NormBwd0.τ).loc Cert.NormBwd0.main_arg0) = m ((c.tc : Thread Cert.NormBwd0.nD Cert.NormBwd0.τ).loc Cert.NormBwd0.main_arg0)
      ∧ r.2.mem ((c.tc : Thread Cert.NormBwd0.nD Cert.NormBwd0.τ).loc Cert.NormBwd0.main_arg1) = m ((c.tc : Thread Cert.NormBwd0.nD Cert.NormBwd0.τ).loc Cert.NormBwd0.main_arg1)
      ∧ r.2.mem ((c.tc : Thread Cert.NormBwd0.nD Cert.NormBwd0.τ).loc Cert.NormBwd0.main_arg2) = m ((c.tc : Thread Cert.NormBwd0.nD Cert.NormBwd0.τ).loc Cert.NormBwd0.main_arg2)
      ∧ r.2.mem ((c.tc : Thread Cert.NormBwd0.nD Cert.NormBwd0.τ).loc Cert.NormBwd0.main_arg3) = m ((c.tc : Thread Cert.NormBwd0.nD Cert.NormBwd0.τ).loc Cert.NormBwd0.main_arg3)
      ∧ r.2.mem ((c.tc : Thread Cert.NormBwd0.nD Cert.NormBwd0.τ).loc Cert.NormBwd0.main_arg4) = m ((c.tc : Thread Cert.NormBwd0.nD Cert.NormBwd0.τ).loc Cert.NormBwd0.main_arg4)
      ∧ r.2.mem ((c.tc : Thread Cert.NormBwd0.nD Cert.NormBwd0.τ).loc Cert.NormBwd0.main_arg5) = m ((c.tc : Thread Cert.NormBwd0.nD Cert.NormBwd0.τ).loc Cert.NormBwd0.main_arg5))
      ∧ r.2.sem = fun _ => 0)

def quiescent_NormBwd0Ideal [hNormBwd0Ideal : Cert.NormBwd0Ideal.Facts] : Prop :=
  ∀ (m : (ℓ : Loc Cert.NormBwd0Ideal.nD Cert.NormBwd0Ideal.τ Cert.NormBwd0Ideal.sig) → Buf (Elt Ideal) ℓ) (g : Dev Cert.NormBwd0Ideal.nD → PrngReg), Pre_NormBwd0Ideal m →
    θ_run (Cert.NormBwd0Ideal.defs (F := Ideal)) (onTc (τ := Cert.NormBwd0Ideal.τ) (Cert.NormBwd0Ideal.main (F := Ideal))) ⟨m, fun _ => 0, g⟩ (fun r => (∀ c : Dev Cert.NormBwd0Ideal.nD,
      r.2.mem ((c.tc : Thread Cert.NormBwd0Ideal.nD Cert.NormBwd0Ideal.τ).loc Cert.NormBwd0Ideal.main_arg0) = m ((c.tc : Thread Cert.NormBwd0Ideal.nD Cert.NormBwd0Ideal.τ).loc Cert.NormBwd0Ideal.main_arg0)
      ∧ r.2.mem ((c.tc : Thread Cert.NormBwd0Ideal.nD Cert.NormBwd0Ideal.τ).loc Cert.NormBwd0Ideal.main_arg1) = m ((c.tc : Thread Cert.NormBwd0Ideal.nD Cert.NormBwd0Ideal.τ).loc Cert.NormBwd0Ideal.main_arg1)
      ∧ r.2.mem ((c.tc : Thread Cert.NormBwd0Ideal.nD Cert.NormBwd0Ideal.τ).loc Cert.NormBwd0Ideal.main_arg2) = m ((c.tc : Thread Cert.NormBwd0Ideal.nD Cert.NormBwd0Ideal.τ).loc Cert.NormBwd0Ideal.main_arg2)
      ∧ r.2.mem ((c.tc : Thread Cert.NormBwd0Ideal.nD Cert.NormBwd0Ideal.τ).loc Cert.NormBwd0Ideal.main_arg3) = m ((c.tc : Thread Cert.NormBwd0Ideal.nD Cert.NormBwd0Ideal.τ).loc Cert.NormBwd0Ideal.main_arg3)
      ∧ r.2.mem ((c.tc : Thread Cert.NormBwd0Ideal.nD Cert.NormBwd0Ideal.τ).loc Cert.NormBwd0Ideal.main_arg4) = m ((c.tc : Thread Cert.NormBwd0Ideal.nD Cert.NormBwd0Ideal.τ).loc Cert.NormBwd0Ideal.main_arg4)
      ∧ r.2.mem ((c.tc : Thread Cert.NormBwd0Ideal.nD Cert.NormBwd0Ideal.τ).loc Cert.NormBwd0Ideal.main_arg5) = m ((c.tc : Thread Cert.NormBwd0Ideal.nD Cert.NormBwd0Ideal.τ).loc Cert.NormBwd0Ideal.main_arg5))
      ∧ r.2.sem = fun _ => 0)

def quiescent_NormBwd0Ideal_pre_finite_first [hNormBwd0Ideal : Cert.NormBwd0Ideal.Facts] [hPre_finite_first : Cert.Pre_finite_first.Facts] : Prop :=
  ∀ (m : (ℓ : Loc Cert.NormBwd0Ideal.nD Cert.NormBwd0Ideal.τ Cert.NormBwd0Ideal.sig) → Buf (Elt Ideal) ℓ) (g : Dev Cert.NormBwd0Ideal.nD → PrngReg), Pre_NormBwd0Ideal_finite_first m →
    θ_run (Cert.NormBwd0Ideal.defs (F := Ideal)) (onTc (τ := Cert.NormBwd0Ideal.τ) (Cert.NormBwd0Ideal.main (F := Ideal))) ⟨m, fun _ => 0, g⟩ (fun r => (∀ c : Dev Cert.NormBwd0Ideal.nD,
      r.2.mem ((c.tc : Thread Cert.NormBwd0Ideal.nD Cert.NormBwd0Ideal.τ).loc Cert.NormBwd0Ideal.main_arg0) = m ((c.tc : Thread Cert.NormBwd0Ideal.nD Cert.NormBwd0Ideal.τ).loc Cert.NormBwd0Ideal.main_arg0)
      ∧ r.2.mem ((c.tc : Thread Cert.NormBwd0Ideal.nD Cert.NormBwd0Ideal.τ).loc Cert.NormBwd0Ideal.main_arg1) = m ((c.tc : Thread Cert.NormBwd0Ideal.nD Cert.NormBwd0Ideal.τ).loc Cert.NormBwd0Ideal.main_arg1)
      ∧ r.2.mem ((c.tc : Thread Cert.NormBwd0Ideal.nD Cert.NormBwd0Ideal.τ).loc Cert.NormBwd0Ideal.main_arg2) = m ((c.tc : Thread Cert.NormBwd0Ideal.nD Cert.NormBwd0Ideal.τ).loc Cert.NormBwd0Ideal.main_arg2)
      ∧ r.2.mem ((c.tc : Thread Cert.NormBwd0Ideal.nD Cert.NormBwd0Ideal.τ).loc Cert.NormBwd0Ideal.main_arg3) = m ((c.tc : Thread Cert.NormBwd0Ideal.nD Cert.NormBwd0Ideal.τ).loc Cert.NormBwd0Ideal.main_arg3)
      ∧ r.2.mem ((c.tc : Thread Cert.NormBwd0Ideal.nD Cert.NormBwd0Ideal.τ).loc Cert.NormBwd0Ideal.main_arg4) = m ((c.tc : Thread Cert.NormBwd0Ideal.nD Cert.NormBwd0Ideal.τ).loc Cert.NormBwd0Ideal.main_arg4)
      ∧ r.2.mem ((c.tc : Thread Cert.NormBwd0Ideal.nD Cert.NormBwd0Ideal.τ).loc Cert.NormBwd0Ideal.main_arg5) = m ((c.tc : Thread Cert.NormBwd0Ideal.nD Cert.NormBwd0Ideal.τ).loc Cert.NormBwd0Ideal.main_arg5))
      ∧ r.2.sem = fun _ => 0)

def quiescent_NormBwd0RefIdeal [hNormBwd0RefIdeal : Cert.NormBwd0RefIdeal.Facts] : Prop :=
  ∀ (m : (ℓ : Loc Cert.NormBwd0RefIdeal.nD Cert.NormBwd0RefIdeal.τ Cert.NormBwd0RefIdeal.sig) → Buf (Elt Ideal) ℓ) (g : Dev Cert.NormBwd0RefIdeal.nD → PrngReg), Pre_NormBwd0RefIdeal m →
    θ_run (Cert.NormBwd0RefIdeal.defs (F := Ideal)) (onTc (τ := Cert.NormBwd0RefIdeal.τ) (Cert.NormBwd0RefIdeal.main (F := Ideal))) ⟨m, fun _ => 0, g⟩ (fun r => (∀ c : Dev Cert.NormBwd0RefIdeal.nD,
      r.2.mem ((c.tc : Thread Cert.NormBwd0RefIdeal.nD Cert.NormBwd0RefIdeal.τ).loc Cert.NormBwd0RefIdeal.main_arg0) = m ((c.tc : Thread Cert.NormBwd0RefIdeal.nD Cert.NormBwd0RefIdeal.τ).loc Cert.NormBwd0RefIdeal.main_arg0)
      ∧ r.2.mem ((c.tc : Thread Cert.NormBwd0RefIdeal.nD Cert.NormBwd0RefIdeal.τ).loc Cert.NormBwd0RefIdeal.main_arg1) = m ((c.tc : Thread Cert.NormBwd0RefIdeal.nD Cert.NormBwd0RefIdeal.τ).loc Cert.NormBwd0RefIdeal.main_arg1)
      ∧ r.2.mem ((c.tc : Thread Cert.NormBwd0RefIdeal.nD Cert.NormBwd0RefIdeal.τ).loc Cert.NormBwd0RefIdeal.main_arg2) = m ((c.tc : Thread Cert.NormBwd0RefIdeal.nD Cert.NormBwd0RefIdeal.τ).loc Cert.NormBwd0RefIdeal.main_arg2)
      ∧ r.2.mem ((c.tc : Thread Cert.NormBwd0RefIdeal.nD Cert.NormBwd0RefIdeal.τ).loc Cert.NormBwd0RefIdeal.main_arg3) = m ((c.tc : Thread Cert.NormBwd0RefIdeal.nD Cert.NormBwd0RefIdeal.τ).loc Cert.NormBwd0RefIdeal.main_arg3)
      ∧ r.2.mem ((c.tc : Thread Cert.NormBwd0RefIdeal.nD Cert.NormBwd0RefIdeal.τ).loc Cert.NormBwd0RefIdeal.main_arg4) = m ((c.tc : Thread Cert.NormBwd0RefIdeal.nD Cert.NormBwd0RefIdeal.τ).loc Cert.NormBwd0RefIdeal.main_arg4)
      ∧ r.2.mem ((c.tc : Thread Cert.NormBwd0RefIdeal.nD Cert.NormBwd0RefIdeal.τ).loc Cert.NormBwd0RefIdeal.main_arg5) = m ((c.tc : Thread Cert.NormBwd0RefIdeal.nD Cert.NormBwd0RefIdeal.τ).loc Cert.NormBwd0RefIdeal.main_arg5))
      ∧ r.2.sem = fun _ => 0)

def quiescent_NormBwd0RefIdeal_pre_finite_first [hNormBwd0RefIdeal : Cert.NormBwd0RefIdeal.Facts] [hPre_finite_first : Cert.Pre_finite_first.Facts] : Prop :=
  ∀ (m : (ℓ : Loc Cert.NormBwd0RefIdeal.nD Cert.NormBwd0RefIdeal.τ Cert.NormBwd0RefIdeal.sig) → Buf (Elt Ideal) ℓ) (g : Dev Cert.NormBwd0RefIdeal.nD → PrngReg), Pre_NormBwd0RefIdeal_finite_first m →
    θ_run (Cert.NormBwd0RefIdeal.defs (F := Ideal)) (onTc (τ := Cert.NormBwd0RefIdeal.τ) (Cert.NormBwd0RefIdeal.main (F := Ideal))) ⟨m, fun _ => 0, g⟩ (fun r => (∀ c : Dev Cert.NormBwd0RefIdeal.nD,
      r.2.mem ((c.tc : Thread Cert.NormBwd0RefIdeal.nD Cert.NormBwd0RefIdeal.τ).loc Cert.NormBwd0RefIdeal.main_arg0) = m ((c.tc : Thread Cert.NormBwd0RefIdeal.nD Cert.NormBwd0RefIdeal.τ).loc Cert.NormBwd0RefIdeal.main_arg0)
      ∧ r.2.mem ((c.tc : Thread Cert.NormBwd0RefIdeal.nD Cert.NormBwd0RefIdeal.τ).loc Cert.NormBwd0RefIdeal.main_arg1) = m ((c.tc : Thread Cert.NormBwd0RefIdeal.nD Cert.NormBwd0RefIdeal.τ).loc Cert.NormBwd0RefIdeal.main_arg1)
      ∧ r.2.mem ((c.tc : Thread Cert.NormBwd0RefIdeal.nD Cert.NormBwd0RefIdeal.τ).loc Cert.NormBwd0RefIdeal.main_arg2) = m ((c.tc : Thread Cert.NormBwd0RefIdeal.nD Cert.NormBwd0RefIdeal.τ).loc Cert.NormBwd0RefIdeal.main_arg2)
      ∧ r.2.mem ((c.tc : Thread Cert.NormBwd0RefIdeal.nD Cert.NormBwd0RefIdeal.τ).loc Cert.NormBwd0RefIdeal.main_arg3) = m ((c.tc : Thread Cert.NormBwd0RefIdeal.nD Cert.NormBwd0RefIdeal.τ).loc Cert.NormBwd0RefIdeal.main_arg3)
      ∧ r.2.mem ((c.tc : Thread Cert.NormBwd0RefIdeal.nD Cert.NormBwd0RefIdeal.τ).loc Cert.NormBwd0RefIdeal.main_arg4) = m ((c.tc : Thread Cert.NormBwd0RefIdeal.nD Cert.NormBwd0RefIdeal.τ).loc Cert.NormBwd0RefIdeal.main_arg4)
      ∧ r.2.mem ((c.tc : Thread Cert.NormBwd0RefIdeal.nD Cert.NormBwd0RefIdeal.τ).loc Cert.NormBwd0RefIdeal.main_arg5) = m ((c.tc : Thread Cert.NormBwd0RefIdeal.nD Cert.NormBwd0RefIdeal.τ).loc Cert.NormBwd0RefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def quiescent_AdamRel [hAdamRel : Cert.AdamRel.Facts] : Prop :=
  ∀ (m : (ℓ : Loc Cert.AdamRel.nD Cert.AdamRel.τ Cert.AdamRel.sig) → Buf (Elt Bits) ℓ) (g : Dev Cert.AdamRel.nD → PrngReg), Pre_AdamRel m →
    θ_run (Cert.AdamRel.defs (F := Bits)) (onTc (τ := Cert.AdamRel.τ) (Cert.AdamRel.main (F := Bits))) ⟨m, fun _ => 0, g⟩ (fun r => (∀ c : Dev Cert.AdamRel.nD,
      r.2.mem ((c.tc : Thread Cert.AdamRel.nD Cert.AdamRel.τ).loc Cert.AdamRel.main_arg0) = m ((c.tc : Thread Cert.AdamRel.nD Cert.AdamRel.τ).loc Cert.AdamRel.main_arg0)
      ∧ r.2.mem ((c.tc : Thread Cert.AdamRel.nD Cert.AdamRel.τ).loc Cert.AdamRel.main_arg1) = m ((c.tc : Thread Cert.AdamRel.nD Cert.AdamRel.τ).loc Cert.AdamRel.main_arg1)
      ∧ r.2.mem ((c.tc : Thread Cert.AdamRel.nD Cert.AdamRel.τ).loc Cert.AdamRel.main_arg2) = m ((c.tc : Thread Cert.AdamRel.nD Cert.AdamRel.τ).loc Cert.AdamRel.main_arg2)
      ∧ r.2.mem ((c.tc : Thread Cert.AdamRel.nD Cert.AdamRel.τ).loc Cert.AdamRel.main_arg3) = m ((c.tc : Thread Cert.AdamRel.nD Cert.AdamRel.τ).loc Cert.AdamRel.main_arg3))
      ∧ r.2.sem = fun _ => 0)

def quiescent_AdamRelIdeal [hAdamRelIdeal : Cert.AdamRelIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg), Pre_AdamRelIdeal m →
    θ_run (Cert.AdamRelIdeal.defs (F := Ideal)) (onTc (τ := Cert.AdamRelIdeal.τ) (Cert.AdamRelIdeal.main (F := Ideal))) ⟨m, fun _ => 0, g⟩ (fun r => (∀ c : Dev Cert.AdamRelIdeal.nD,
      r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
      ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
      ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
      ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ r.2.sem = fun _ => 0)

def quiescent_AdamRelRefIdeal [hAdamRelRefIdeal : Cert.AdamRelRefIdeal.Facts] : Prop :=
  ∀ (m : (ℓ : Loc Cert.AdamRelRefIdeal.nD Cert.AdamRelRefIdeal.τ Cert.AdamRelRefIdeal.sig) → Buf (Elt Ideal) ℓ) (g : Dev Cert.AdamRelRefIdeal.nD → PrngReg), Pre_AdamRelRefIdeal m →
    θ_run (Cert.AdamRelRefIdeal.defs (F := Ideal)) (onTc (τ := Cert.AdamRelRefIdeal.τ) (Cert.AdamRelRefIdeal.main (F := Ideal))) ⟨m, fun _ => 0, g⟩ (fun r => (∀ c : Dev Cert.AdamRelRefIdeal.nD,
      r.2.mem ((c.tc : Thread Cert.AdamRelRefIdeal.nD Cert.AdamRelRefIdeal.τ).loc Cert.AdamRelRefIdeal.main_arg0) = m ((c.tc : Thread Cert.AdamRelRefIdeal.nD Cert.AdamRelRefIdeal.τ).loc Cert.AdamRelRefIdeal.main_arg0)
      ∧ r.2.mem ((c.tc : Thread Cert.AdamRelRefIdeal.nD Cert.AdamRelRefIdeal.τ).loc Cert.AdamRelRefIdeal.main_arg1) = m ((c.tc : Thread Cert.AdamRelRefIdeal.nD Cert.AdamRelRefIdeal.τ).loc Cert.AdamRelRefIdeal.main_arg1)
      ∧ r.2.mem ((c.tc : Thread Cert.AdamRelRefIdeal.nD Cert.AdamRelRefIdeal.τ).loc Cert.AdamRelRefIdeal.main_arg2) = m ((c.tc : Thread Cert.AdamRelRefIdeal.nD Cert.AdamRelRefIdeal.τ).loc Cert.AdamRelRefIdeal.main_arg2)
      ∧ r.2.mem ((c.tc : Thread Cert.AdamRelRefIdeal.nD Cert.AdamRelRefIdeal.τ).loc Cert.AdamRelRefIdeal.main_arg3) = m ((c.tc : Thread Cert.AdamRelRefIdeal.nD Cert.AdamRelRefIdeal.τ).loc Cert.AdamRelRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamGnorm [hAdamGnorm : Cert.AdamGnorm.Facts] : Prop :=
  ∀ (m : (ℓ : Loc Cert.AdamGnorm.nD Cert.AdamGnorm.τ Cert.AdamGnorm.sig) → Buf (Elt Bits) ℓ) (g : Dev Cert.AdamGnorm.nD → PrngReg), Pre_AdamGnorm m →
    θ_run (Cert.AdamGnorm.defs (F := Bits)) (onTc (τ := Cert.AdamGnorm.τ) (Cert.AdamGnorm.main (F := Bits))) ⟨m, fun _ => 0, g⟩ (fun r => (∀ c : Dev Cert.AdamGnorm.nD,
      r.2.mem ((c.tc : Thread Cert.AdamGnorm.nD Cert.AdamGnorm.τ).loc Cert.AdamGnorm.main_arg0) = m ((c.tc : Thread Cert.AdamGnorm.nD Cert.AdamGnorm.τ).loc Cert.AdamGnorm.main_arg0)
      ∧ r.2.mem ((c.tc : Thread Cert.AdamGnorm.nD Cert.AdamGnorm.τ).loc Cert.AdamGnorm.main_arg1) = m ((c.tc : Thread Cert.AdamGnorm.nD Cert.AdamGnorm.τ).loc Cert.AdamGnorm.main_arg1)
      ∧ r.2.mem ((c.tc : Thread Cert.AdamGnorm.nD Cert.AdamGnorm.τ).loc Cert.AdamGnorm.main_arg2) = m ((c.tc : Thread Cert.AdamGnorm.nD Cert.AdamGnorm.τ).loc Cert.AdamGnorm.main_arg2)
      ∧ r.2.mem ((c.tc : Thread Cert.AdamGnorm.nD Cert.AdamGnorm.τ).loc Cert.AdamGnorm.main_arg3) = m ((c.tc : Thread Cert.AdamGnorm.nD Cert.AdamGnorm.τ).loc Cert.AdamGnorm.main_arg3))
      ∧ r.2.sem = fun _ => 0)

def quiescent_AdamGnormIdeal [hAdamGnormIdeal : Cert.AdamGnormIdeal.Facts] : Prop :=
  ∀ (m : (ℓ : Loc Cert.AdamGnormIdeal.nD Cert.AdamGnormIdeal.τ Cert.AdamGnormIdeal.sig) → Buf (Elt Ideal) ℓ) (g : Dev Cert.AdamGnormIdeal.nD → PrngReg), Pre_AdamGnormIdeal m →
    θ_run (Cert.AdamGnormIdeal.defs (F := Ideal)) (onTc (τ := Cert.AdamGnormIdeal.τ) (Cert.AdamGnormIdeal.main (F := Ideal))) ⟨m, fun _ => 0, g⟩ (fun r => (∀ c : Dev Cert.AdamGnormIdeal.nD,
      r.2.mem ((c.tc : Thread Cert.AdamGnormIdeal.nD Cert.AdamGnormIdeal.τ).loc Cert.AdamGnormIdeal.main_arg0) = m ((c.tc : Thread Cert.AdamGnormIdeal.nD Cert.AdamGnormIdeal.τ).loc Cert.AdamGnormIdeal.main_arg0)
      ∧ r.2.mem ((c.tc : Thread Cert.AdamGnormIdeal.nD Cert.AdamGnormIdeal.τ).loc Cert.AdamGnormIdeal.main_arg1) = m ((c.tc : Thread Cert.AdamGnormIdeal.nD Cert.AdamGnormIdeal.τ).loc Cert.AdamGnormIdeal.main_arg1)
      ∧ r.2.mem ((c.tc : Thread Cert.AdamGnormIdeal.nD Cert.AdamGnormIdeal.τ).loc Cert.AdamGnormIdeal.main_arg2) = m ((c.tc : Thread Cert.AdamGnormIdeal.nD Cert.AdamGnormIdeal.τ).loc Cert.AdamGnormIdeal.main_arg2)
      ∧ r.2.mem ((c.tc : Thread Cert.AdamGnormIdeal.nD Cert.AdamGnormIdeal.τ).loc Cert.AdamGnormIdeal.main_arg3) = m ((c.tc : Thread Cert.AdamGnormIdeal.nD Cert.AdamGnormIdeal.τ).loc Cert.AdamGnormIdeal.main_arg3))
      ∧ r.2.sem = fun _ => 0)

def quiescent_AdamGnormRefIdeal [hAdamGnormRefIdeal : Cert.AdamGnormRefIdeal.Facts] : Prop :=
  ∀ (m : (ℓ : Loc Cert.AdamGnormRefIdeal.nD Cert.AdamGnormRefIdeal.τ Cert.AdamGnormRefIdeal.sig) → Buf (Elt Ideal) ℓ) (g : Dev Cert.AdamGnormRefIdeal.nD → PrngReg), Pre_AdamGnormRefIdeal m →
    θ_run (Cert.AdamGnormRefIdeal.defs (F := Ideal)) (onTc (τ := Cert.AdamGnormRefIdeal.τ) (Cert.AdamGnormRefIdeal.main (F := Ideal))) ⟨m, fun _ => 0, g⟩ (fun r => (∀ c : Dev Cert.AdamGnormRefIdeal.nD,
      r.2.mem ((c.tc : Thread Cert.AdamGnormRefIdeal.nD Cert.AdamGnormRefIdeal.τ).loc Cert.AdamGnormRefIdeal.main_arg0) = m ((c.tc : Thread Cert.AdamGnormRefIdeal.nD Cert.AdamGnormRefIdeal.τ).loc Cert.AdamGnormRefIdeal.main_arg0)
      ∧ r.2.mem ((c.tc : Thread Cert.AdamGnormRefIdeal.nD Cert.AdamGnormRefIdeal.τ).loc Cert.AdamGnormRefIdeal.main_arg1) = m ((c.tc : Thread Cert.AdamGnormRefIdeal.nD Cert.AdamGnormRefIdeal.τ).loc Cert.AdamGnormRefIdeal.main_arg1)
      ∧ r.2.mem ((c.tc : Thread Cert.AdamGnormRefIdeal.nD Cert.AdamGnormRefIdeal.τ).loc Cert.AdamGnormRefIdeal.main_arg2) = m ((c.tc : Thread Cert.AdamGnormRefIdeal.nD Cert.AdamGnormRefIdeal.τ).loc Cert.AdamGnormRefIdeal.main_arg2)
      ∧ r.2.mem ((c.tc : Thread Cert.AdamGnormRefIdeal.nD Cert.AdamGnormRefIdeal.τ).loc Cert.AdamGnormRefIdeal.main_arg3) = m ((c.tc : Thread Cert.AdamGnormRefIdeal.nD Cert.AdamGnormRefIdeal.τ).loc Cert.AdamGnormRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)) →
    ∃ (v0 : (c : Dev Cert.UpBwdIdeal.nD) → Buf (Elt Ideal) ((c.tc : Thread Cert.UpBwdIdeal.nD Cert.UpBwdIdeal.τ).loc Cert.UpBwdIdeal.main_v0)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v21) = v0 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0_0)) (v1 : (c : Dev Cert.DwUpIdeal.nD) → Buf (Elt Ideal) ((c.tc : Thread Cert.DwUpIdeal.nD Cert.DwUpIdeal.τ).loc Cert.DwUpIdeal.main_v0_1)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0_0) = v0 c
          ∧ r.2.mem ((c.tc : Thread Cert.DwUpIdeal.nD Cert.DwUpIdeal.τ).loc Cert.DwUpIdeal.main_v0_1) = v1 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v15) = v0 c
          ∧ r.2.mem ((c.tc : Thread Cert.DwUpRefIdeal.nD Cert.DwUpRefIdeal.τ).loc Cert.DwUpRefIdeal.main_v17) = v1 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v8) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v8) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v7) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v0)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v8) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v9) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)) →
    ∃ (v0 : (c : Dev Cert.DwQkvIdeal.nD) → Buf (Elt Ideal) ((c.tc : Thread Cert.DwQkvIdeal.nD Cert.DwQkvIdeal.τ).loc Cert.DwQkvIdeal.main_v0)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v9) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v8) = v0 c
          ∧ r.2.mem ((c.tc : Thread Cert.DownRefIdeal.nD Cert.DownRefIdeal.τ).loc Cert.DownRefIdeal.main_v11) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_v9) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v34) = v0 c
          ∧ r.2.mem ((c.tc : Thread Cert.UpRefIdeal.nD Cert.UpRefIdeal.τ).loc Cert.UpRefIdeal.main_v37) = v1 c
          ∧ r.2.mem ((c.tc : Thread Cert.UpRefIdeal.nD Cert.UpRefIdeal.τ).loc Cert.UpRefIdeal.main_v40) = v2 c
          ∧ r.2.mem ((c.tc : Thread Cert.UpRefIdeal.nD Cert.UpRefIdeal.τ).loc Cert.UpRefIdeal.main_v41) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v23) = v0 c
          ∧ r.2.mem ((c.tc : Thread Cert.QkvRefIdeal.nD Cert.QkvRefIdeal.τ).loc Cert.QkvRefIdeal.main_v24) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v23) = v0 c
          ∧ r.2.mem ((c.tc : Thread Cert.InRefIdeal.nD Cert.InRefIdeal.τ).loc Cert.InRefIdeal.main_v24) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_UpBwd0_UpBwd0Ideal : Prop :=
  True

def algebraic_UpBwd0Ideal_UpBwd0RefIdeal [hUpBwd0Ideal : Cert.UpBwd0Ideal.Facts] [hUpBwd0RefIdeal : Cert.UpBwd0RefIdeal.Facts] : Prop :=
  ∀ (m : (ℓ : Loc Cert.UpBwd0Ideal.nD Cert.UpBwd0Ideal.τ Cert.UpBwd0Ideal.sig) → Buf (Elt Ideal) ℓ) (g : Dev Cert.UpBwd0Ideal.nD → PrngReg)
    (m' : (ℓ : Loc Cert.UpBwd0RefIdeal.nD Cert.UpBwd0RefIdeal.τ Cert.UpBwd0RefIdeal.sig) → Buf (Elt Ideal) ℓ) (g' : Dev Cert.UpBwd0RefIdeal.nD → PrngReg), Pre_UpBwd0Ideal m →
    (∀ c : Dev Cert.UpBwd0Ideal.nD,
      m' ((c.tc : Thread Cert.UpBwd0RefIdeal.nD Cert.UpBwd0RefIdeal.τ).loc Cert.UpBwd0RefIdeal.main_arg0) = m ((c.tc : Thread Cert.UpBwd0Ideal.nD Cert.UpBwd0Ideal.τ).loc Cert.UpBwd0Ideal.main_arg0)
      ∧ m' ((c.tc : Thread Cert.UpBwd0RefIdeal.nD Cert.UpBwd0RefIdeal.τ).loc Cert.UpBwd0RefIdeal.main_arg1) = m ((c.tc : Thread Cert.UpBwd0Ideal.nD Cert.UpBwd0Ideal.τ).loc Cert.UpBwd0Ideal.main_arg1)
      ∧ m' ((c.tc : Thread Cert.UpBwd0RefIdeal.nD Cert.UpBwd0RefIdeal.τ).loc Cert.UpBwd0RefIdeal.main_arg2) = m ((c.tc : Thread Cert.UpBwd0Ideal.nD Cert.UpBwd0Ideal.τ).loc Cert.UpBwd0Ideal.main_arg2)
      ∧ m' ((c.tc : Thread Cert.UpBwd0RefIdeal.nD Cert.UpBwd0RefIdeal.τ).loc Cert.UpBwd0RefIdeal.main_arg3) = m ((c.tc : Thread Cert.UpBwd0Ideal.nD Cert.UpBwd0Ideal.τ).loc Cert.UpBwd0Ideal.main_arg3)) →
    ∃ (v0 : (c : Dev Cert.UpBwd0Ideal.nD) → Buf (Elt Ideal) ((c.tc : Thread Cert.UpBwd0Ideal.nD Cert.UpBwd0Ideal.τ).loc Cert.UpBwd0Ideal.main_v0)),
      θ_run (Cert.UpBwd0Ideal.defs (F := Ideal)) (onTc (τ := Cert.UpBwd0Ideal.τ) (Cert.UpBwd0Ideal.main (F := Ideal))) ⟨m, fun _ => 0, g⟩ (fun r => ∀ c : Dev Cert.UpBwd0Ideal.nD,
          r.2.mem ((c.tc : Thread Cert.UpBwd0Ideal.nD Cert.UpBwd0Ideal.τ).loc Cert.UpBwd0Ideal.main_v0) = v0 c
          ∧ r.2.mem ((c.tc : Thread Cert.UpBwd0Ideal.nD Cert.UpBwd0Ideal.τ).loc Cert.UpBwd0Ideal.main_arg0) = m ((c.tc : Thread Cert.UpBwd0Ideal.nD Cert.UpBwd0Ideal.τ).loc Cert.UpBwd0Ideal.main_arg0)
          ∧ r.2.mem ((c.tc : Thread Cert.UpBwd0Ideal.nD Cert.UpBwd0Ideal.τ).loc Cert.UpBwd0Ideal.main_arg1) = m ((c.tc : Thread Cert.UpBwd0Ideal.nD Cert.UpBwd0Ideal.τ).loc Cert.UpBwd0Ideal.main_arg1)
          ∧ r.2.mem ((c.tc : Thread Cert.UpBwd0Ideal.nD Cert.UpBwd0Ideal.τ).loc Cert.UpBwd0Ideal.main_arg2) = m ((c.tc : Thread Cert.UpBwd0Ideal.nD Cert.UpBwd0Ideal.τ).loc Cert.UpBwd0Ideal.main_arg2)
          ∧ r.2.mem ((c.tc : Thread Cert.UpBwd0Ideal.nD Cert.UpBwd0Ideal.τ).loc Cert.UpBwd0Ideal.main_arg3) = m ((c.tc : Thread Cert.UpBwd0Ideal.nD Cert.UpBwd0Ideal.τ).loc Cert.UpBwd0Ideal.main_arg3))
      ∧ θ_run (Cert.UpBwd0RefIdeal.defs (F := Ideal)) (onTc (τ := Cert.UpBwd0RefIdeal.τ) (Cert.UpBwd0RefIdeal.main (F := Ideal))) ⟨m', fun _ => 0, g'⟩ (fun r => ∀ c : Dev Cert.UpBwd0RefIdeal.nD,
          r.2.mem ((c.tc : Thread Cert.UpBwd0RefIdeal.nD Cert.UpBwd0RefIdeal.τ).loc Cert.UpBwd0RefIdeal.main_v21) = v0 c
          ∧ r.2.mem ((c.tc : Thread Cert.UpBwd0RefIdeal.nD Cert.UpBwd0RefIdeal.τ).loc Cert.UpBwd0RefIdeal.main_arg0) = m' ((c.tc : Thread Cert.UpBwd0RefIdeal.nD Cert.UpBwd0RefIdeal.τ).loc Cert.UpBwd0RefIdeal.main_arg0)
          ∧ r.2.mem ((c.tc : Thread Cert.UpBwd0RefIdeal.nD Cert.UpBwd0RefIdeal.τ).loc Cert.UpBwd0RefIdeal.main_arg1) = m' ((c.tc : Thread Cert.UpBwd0RefIdeal.nD Cert.UpBwd0RefIdeal.τ).loc Cert.UpBwd0RefIdeal.main_arg1)
          ∧ r.2.mem ((c.tc : Thread Cert.UpBwd0RefIdeal.nD Cert.UpBwd0RefIdeal.τ).loc Cert.UpBwd0RefIdeal.main_arg2) = m' ((c.tc : Thread Cert.UpBwd0RefIdeal.nD Cert.UpBwd0RefIdeal.τ).loc Cert.UpBwd0RefIdeal.main_arg2)
          ∧ r.2.mem ((c.tc : Thread Cert.UpBwd0RefIdeal.nD Cert.UpBwd0RefIdeal.τ).loc Cert.UpBwd0RefIdeal.main_arg3) = m' ((c.tc : Thread Cert.UpBwd0RefIdeal.nD Cert.UpBwd0RefIdeal.τ).loc Cert.UpBwd0RefIdeal.main_arg3))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)
      ∧ m' ((c.tc : Thread Cert.Down0RefIdeal.nD Cert.Down0RefIdeal.τ).loc Cert.Down0RefIdeal.main_arg2) = m ((c.tc : Thread Cert.Down0Ideal.nD Cert.Down0Ideal.τ).loc Cert.Down0Ideal.main_arg2)
      ∧ m' ((c.tc : Thread Cert.Down0RefIdeal.nD Cert.Down0RefIdeal.τ).loc Cert.Down0RefIdeal.main_arg3) = m ((c.tc : Thread Cert.Down0Ideal.nD Cert.Down0Ideal.τ).loc Cert.Down0Ideal.main_arg3)) →
    ∃ (v0 : (c : Dev Cert.Down0Ideal.nD) → Buf (Elt Ideal) ((c.tc : Thread Cert.Down0Ideal.nD Cert.Down0Ideal.τ).loc Cert.Down0Ideal.main_v0_0)) (v1 : (c : Dev Cert.Down0Ideal.nD) → Buf (Elt Ideal) ((c.tc : Thread Cert.Down0Ideal.nD Cert.Down0Ideal.τ).loc Cert.Down0Ideal.main_v0_1)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0_0) = v0 c
          ∧ r.2.mem ((c.tc : Thread Cert.Down0Ideal.nD Cert.Down0Ideal.τ).loc Cert.Down0Ideal.main_v0_1) = v1 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v8) = v0 c
          ∧ r.2.mem ((c.tc : Thread Cert.Down0RefIdeal.nD Cert.Down0RefIdeal.τ).loc Cert.Down0RefIdeal.main_v11) = v1 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1)
          ∧ r.2.mem ((c.tc : Thread Cert.Down0RefIdeal.nD Cert.Down0RefIdeal.τ).loc Cert.Down0RefIdeal.main_arg2) = m' ((c.tc : Thread Cert.Down0RefIdeal.nD Cert.Down0RefIdeal.τ).loc Cert.Down0RefIdeal.main_arg2)
          ∧ r.2.mem ((c.tc : Thread Cert.Down0RefIdeal.nD Cert.Down0RefIdeal.τ).loc Cert.Down0RefIdeal.main_arg3) = m' ((c.tc : Thread Cert.Down0RefIdeal.nD Cert.Down0RefIdeal.τ).loc Cert.Down0RefIdeal.main_arg3))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)
      ∧ m' ((c.tc : Thread Cert.Up0RefIdeal.nD Cert.Up0RefIdeal.τ).loc Cert.Up0RefIdeal.main_arg2) = m ((c.tc : Thread Cert.Up0Ideal.nD Cert.Up0Ideal.τ).loc Cert.Up0Ideal.main_arg2)
      ∧ m' ((c.tc : Thread Cert.Up0RefIdeal.nD Cert.Up0RefIdeal.τ).loc Cert.Up0RefIdeal.main_arg3) = m ((c.tc : Thread Cert.Up0Ideal.nD Cert.Up0Ideal.τ).loc Cert.Up0Ideal.main_arg3)
      ∧ m' ((c.tc : Thread Cert.Up0RefIdeal.nD Cert.Up0RefIdeal.τ).loc Cert.Up0RefIdeal.main_arg4) = m ((c.tc : Thread Cert.Up0Ideal.nD Cert.Up0Ideal.τ).loc Cert.Up0Ideal.main_arg4)
      ∧ m' ((c.tc : Thread Cert.Up0RefIdeal.nD Cert.Up0RefIdeal.τ).loc Cert.Up0RefIdeal.main_arg5) = m ((c.tc : Thread Cert.Up0Ideal.nD Cert.Up0Ideal.τ).loc Cert.Up0Ideal.main_arg5)) →
    ∃ (v0 : (c : Dev Cert.Up0Ideal.nD) → Buf (Elt Ideal) ((c.tc : Thread Cert.Up0Ideal.nD Cert.Up0Ideal.τ).loc Cert.Up0Ideal.main_v0_0)) (v1 : (c : Dev Cert.Up0Ideal.nD) → Buf (Elt Ideal) ((c.tc : Thread Cert.Up0Ideal.nD Cert.Up0Ideal.τ).loc Cert.Up0Ideal.main_v0_1)) (v2 : (c : Dev Cert.Up0Ideal.nD) → Buf (Elt Ideal) ((c.tc : Thread Cert.Up0Ideal.nD Cert.Up0Ideal.τ).loc Cert.Up0Ideal.main_v0_2)) (v3 : (c : Dev Cert.Up0Ideal.nD) → Buf (Elt Ideal) ((c.tc : Thread Cert.Up0Ideal.nD Cert.Up0Ideal.τ).loc Cert.Up0Ideal.main_v0_3)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v0_0) = v0 c
          ∧ r.2.mem ((c.tc : Thread Cert.Up0Ideal.nD Cert.Up0Ideal.τ).loc Cert.Up0Ideal.main_v0_1) = v1 c
          ∧ r.2.mem ((c.tc : Thread Cert.Up0Ideal.nD Cert.Up0Ideal.τ).loc Cert.Up0Ideal.main_v0_2) = v2 c
          ∧ r.2.mem ((c.tc : Thread Cert.Up0Ideal.nD Cert.Up0Ideal.τ).loc Cert.Up0Ideal.main_v0_3) = v3 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
          ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2)
          ∧ r.2.mem ((c.tc : Thread Cert.Up0Ideal.nD Cert.Up0Ideal.τ).loc Cert.Up0Ideal.main_arg3) = m ((c.tc : Thread Cert.Up0Ideal.nD Cert.Up0Ideal.τ).loc Cert.Up0Ideal.main_arg3)
          ∧ r.2.mem ((c.tc : Thread Cert.Up0Ideal.nD Cert.Up0Ideal.τ).loc Cert.Up0Ideal.main_arg4) = m ((c.tc : Thread Cert.Up0Ideal.nD Cert.Up0Ideal.τ).loc Cert.Up0Ideal.main_arg4)
          ∧ r.2.mem ((c.tc : Thread Cert.Up0Ideal.nD Cert.Up0Ideal.τ).loc Cert.Up0Ideal.main_arg5) = m ((c.tc : Thread Cert.Up0Ideal.nD Cert.Up0Ideal.τ).loc Cert.Up0Ideal.main_arg5))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v34) = v0 c
          ∧ r.2.mem ((c.tc : Thread Cert.Up0RefIdeal.nD Cert.Up0RefIdeal.τ).loc Cert.Up0RefIdeal.main_v37) = v1 c
          ∧ r.2.mem ((c.tc : Thread Cert.Up0RefIdeal.nD Cert.Up0RefIdeal.τ).loc Cert.Up0RefIdeal.main_v40) = v2 c
          ∧ r.2.mem ((c.tc : Thread Cert.Up0RefIdeal.nD Cert.Up0RefIdeal.τ).loc Cert.Up0RefIdeal.main_v41) = v3 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1)
          ∧ r.2.mem ((c.tc : Thread Cert.Up0RefIdeal.nD Cert.Up0RefIdeal.τ).loc Cert.Up0RefIdeal.main_arg2) = m' ((c.tc : Thread Cert.Up0RefIdeal.nD Cert.Up0RefIdeal.τ).loc Cert.Up0RefIdeal.main_arg2)
          ∧ r.2.mem ((c.tc : Thread Cert.Up0RefIdeal.nD Cert.Up0RefIdeal.τ).loc Cert.Up0RefIdeal.main_arg3) = m' ((c.tc : Thread Cert.Up0RefIdeal.nD Cert.Up0RefIdeal.τ).loc Cert.Up0RefIdeal.main_arg3)
          ∧ r.2.mem ((c.tc : Thread Cert.Up0RefIdeal.nD Cert.Up0RefIdeal.τ).loc Cert.Up0RefIdeal.main_arg4) = m' ((c.tc : Thread Cert.Up0RefIdeal.nD Cert.Up0RefIdeal.τ).loc Cert.Up0RefIdeal.main_arg4)
          ∧ r.2.mem ((c.tc : Thread Cert.Up0RefIdeal.nD Cert.Up0RefIdeal.τ).loc Cert.Up0RefIdeal.main_arg5) = m' ((c.tc : Thread Cert.Up0RefIdeal.nD Cert.Up0RefIdeal.τ).loc Cert.Up0RefIdeal.main_arg5))

def preserves_NormBwd_NormBwdIdeal : Prop :=
  True

def algebraic_NormBwdIdeal_NormBwdRefIdeal_pre_finite_norm [hNormBwdIdeal : Cert.NormBwdIdeal.Facts] [hNormBwdRefIdeal : Cert.NormBwdRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)
      ∧ m' ((c.tc : Thread Cert.NormBwdRefIdeal.nD Cert.NormBwdRefIdeal.τ).loc Cert.NormBwdRefIdeal.main_arg7) = m ((c.tc : Thread Cert.NormBwdIdeal.nD Cert.NormBwdIdeal.τ).loc Cert.NormBwdIdeal.main_arg7)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)) (v4 : (c : Dev Cert.NormBwdIdeal.nD) → Buf (Elt Ideal) ((c.tc : Thread Cert.NormBwdIdeal.nD Cert.NormBwdIdeal.τ).loc Cert.NormBwdIdeal.main_v0_4)) (v5 : (c : Dev Cert.NormBwdIdeal.nD) → Buf (Elt Ideal) ((c.tc : Thread Cert.NormBwdIdeal.nD Cert.NormBwdIdeal.τ).loc Cert.NormBwdIdeal.main_v0_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_v0_4) = v4 c
          ∧ r.2.mem ((c.tc : Thread Cert.NormBwdIdeal.nD Cert.NormBwdIdeal.τ).loc Cert.NormBwdIdeal.main_v0_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6)
          ∧ r.2.mem ((c.tc : Thread Cert.NormBwdIdeal.nD Cert.NormBwdIdeal.τ).loc Cert.NormBwdIdeal.main_arg7) = m ((c.tc : Thread Cert.NormBwdIdeal.nD Cert.NormBwdIdeal.τ).loc Cert.NormBwdIdeal.main_arg7))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v48) = v0 c
          ∧ r.2.mem ((c.tc : Thread Cert.NormBwdRefIdeal.nD Cert.NormBwdRefIdeal.τ).loc Cert.NormBwdRefIdeal.main_v26) = v1 c
          ∧ r.2.mem ((c.tc : Thread Cert.NormBwdRefIdeal.nD Cert.NormBwdRefIdeal.τ).loc Cert.NormBwdRefIdeal.main_v23) = v2 c
          ∧ r.2.mem ((c.tc : Thread Cert.NormBwdRefIdeal.nD Cert.NormBwdRefIdeal.τ).loc Cert.NormBwdRefIdeal.main_v31) = v3 c
          ∧ r.2.mem ((c.tc : Thread Cert.NormBwdRefIdeal.nD Cert.NormBwdRefIdeal.τ).loc Cert.NormBwdRefIdeal.main_v57) = v4 c
          ∧ r.2.mem ((c.tc : Thread Cert.NormBwdRefIdeal.nD Cert.NormBwdRefIdeal.τ).loc Cert.NormBwdRefIdeal.main_v56) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6)
          ∧ r.2.mem ((c.tc : Thread Cert.NormBwdRefIdeal.nD Cert.NormBwdRefIdeal.τ).loc Cert.NormBwdRefIdeal.main_arg7) = m' ((c.tc : Thread Cert.NormBwdRefIdeal.nD Cert.NormBwdRefIdeal.τ).loc Cert.NormBwdRefIdeal.main_arg7))

def preserves_NormBwd0_NormBwd0Ideal : Prop :=
  True

def algebraic_NormBwd0Ideal_NormBwd0RefIdeal_pre_finite_first [hNormBwd0Ideal : Cert.NormBwd0Ideal.Facts] [hNormBwd0RefIdeal : Cert.NormBwd0RefIdeal.Facts] [hPre_finite_first : Cert.Pre_finite_first.Facts] : Prop :=
  ∀ (m : (ℓ : Loc Cert.NormBwd0Ideal.nD Cert.NormBwd0Ideal.τ Cert.NormBwd0Ideal.sig) → Buf (Elt Ideal) ℓ) (g : Dev Cert.NormBwd0Ideal.nD → PrngReg)
    (m' : (ℓ : Loc Cert.NormBwd0RefIdeal.nD Cert.NormBwd0RefIdeal.τ Cert.NormBwd0RefIdeal.sig) → Buf (Elt Ideal) ℓ) (g' : Dev Cert.NormBwd0RefIdeal.nD → PrngReg), Pre_NormBwd0Ideal_finite_first m →
    (∀ c : Dev Cert.NormBwd0Ideal.nD,
      m' ((c.tc : Thread Cert.NormBwd0RefIdeal.nD Cert.NormBwd0RefIdeal.τ).loc Cert.NormBwd0RefIdeal.main_arg0) = m ((c.tc : Thread Cert.NormBwd0Ideal.nD Cert.NormBwd0Ideal.τ).loc Cert.NormBwd0Ideal.main_arg0)
      ∧ m' ((c.tc : Thread Cert.NormBwd0RefIdeal.nD Cert.NormBwd0RefIdeal.τ).loc Cert.NormBwd0RefIdeal.main_arg1) = m ((c.tc : Thread Cert.NormBwd0Ideal.nD Cert.NormBwd0Ideal.τ).loc Cert.NormBwd0Ideal.main_arg1)
      ∧ m' ((c.tc : Thread Cert.NormBwd0RefIdeal.nD Cert.NormBwd0RefIdeal.τ).loc Cert.NormBwd0RefIdeal.main_arg2) = m ((c.tc : Thread Cert.NormBwd0Ideal.nD Cert.NormBwd0Ideal.τ).loc Cert.NormBwd0Ideal.main_arg2)
      ∧ m' ((c.tc : Thread Cert.NormBwd0RefIdeal.nD Cert.NormBwd0RefIdeal.τ).loc Cert.NormBwd0RefIdeal.main_arg3) = m ((c.tc : Thread Cert.NormBwd0Ideal.nD Cert.NormBwd0Ideal.τ).loc Cert.NormBwd0Ideal.main_arg3)
      ∧ m' ((c.tc : Thread Cert.NormBwd0RefIdeal.nD Cert.NormBwd0RefIdeal.τ).loc Cert.NormBwd0RefIdeal.main_arg4) = m ((c.tc : Thread Cert.NormBwd0Ideal.nD Cert.NormBwd0Ideal.τ).loc Cert.NormBwd0Ideal.main_arg4)
      ∧ m' ((c.tc : Thread Cert.NormBwd0RefIdeal.nD Cert.NormBwd0RefIdeal.τ).loc Cert.NormBwd0RefIdeal.main_arg5) = m ((c.tc : Thread Cert.NormBwd0Ideal.nD Cert.NormBwd0Ideal.τ).loc Cert.NormBwd0Ideal.main_arg5)) →
    ∃ (v0 : (c : Dev Cert.NormBwd0Ideal.nD) → Buf (Elt Ideal) ((c.tc : Thread Cert.NormBwd0Ideal.nD Cert.NormBwd0Ideal.τ).loc Cert.NormBwd0Ideal.main_v0_0)) (v1 : (c : Dev Cert.NormBwd0Ideal.nD) → Buf (Elt Ideal) ((c.tc : Thread Cert.NormBwd0Ideal.nD Cert.NormBwd0Ideal.τ).loc Cert.NormBwd0Ideal.main_v0_1)) (v2 : (c : Dev Cert.NormBwd0Ideal.nD) → Buf (Elt Ideal) ((c.tc : Thread Cert.NormBwd0Ideal.nD Cert.NormBwd0Ideal.τ).loc Cert.NormBwd0Ideal.main_v0_2)) (v3 : (c : Dev Cert.NormBwd0Ideal.nD) → Buf (Elt Ideal) ((c.tc : Thread Cert.NormBwd0Ideal.nD Cert.NormBwd0Ideal.τ).loc Cert.NormBwd0Ideal.main_v0_3)),
      θ_run (Cert.NormBwd0Ideal.defs (F := Ideal)) (onTc (τ := Cert.NormBwd0Ideal.τ) (Cert.NormBwd0Ideal.main (F := Ideal))) ⟨m, fun _ => 0, g⟩ (fun r => ∀ c : Dev Cert.NormBwd0Ideal.nD,
          r.2.mem ((c.tc : Thread Cert.NormBwd0Ideal.nD Cert.NormBwd0Ideal.τ).loc Cert.NormBwd0Ideal.main_v0_0) = v0 c
          ∧ r.2.mem ((c.tc : Thread Cert.NormBwd0Ideal.nD Cert.NormBwd0Ideal.τ).loc Cert.NormBwd0Ideal.main_v0_1) = v1 c
          ∧ r.2.mem ((c.tc : Thread Cert.NormBwd0Ideal.nD Cert.NormBwd0Ideal.τ).loc Cert.NormBwd0Ideal.main_v0_2) = v2 c
          ∧ r.2.mem ((c.tc : Thread Cert.NormBwd0Ideal.nD Cert.NormBwd0Ideal.τ).loc Cert.NormBwd0Ideal.main_v0_3) = v3 c
          ∧ r.2.mem ((c.tc : Thread Cert.NormBwd0Ideal.nD Cert.NormBwd0Ideal.τ).loc Cert.NormBwd0Ideal.main_arg0) = m ((c.tc : Thread Cert.NormBwd0Ideal.nD Cert.NormBwd0Ideal.τ).loc Cert.NormBwd0Ideal.main_arg0)
          ∧ r.2.mem ((c.tc : Thread Cert.NormBwd0Ideal.nD Cert.NormBwd0Ideal.τ).loc Cert.NormBwd0Ideal.main_arg1) = m ((c.tc : Thread Cert.NormBwd0Ideal.nD Cert.NormBwd0Ideal.τ).loc Cert.NormBwd0Ideal.main_arg1)
          ∧ r.2.mem ((c.tc : Thread Cert.NormBwd0Ideal.nD Cert.NormBwd0Ideal.τ).loc Cert.NormBwd0Ideal.main_arg2) = m ((c.tc : Thread Cert.NormBwd0Ideal.nD Cert.NormBwd0Ideal.τ).loc Cert.NormBwd0Ideal.main_arg2)
          ∧ r.2.mem ((c.tc : Thread Cert.NormBwd0Ideal.nD Cert.NormBwd0Ideal.τ).loc Cert.NormBwd0Ideal.main_arg3) = m ((c.tc : Thread Cert.NormBwd0Ideal.nD Cert.NormBwd0Ideal.τ).loc Cert.NormBwd0Ideal.main_arg3)
          ∧ r.2.mem ((c.tc : Thread Cert.NormBwd0Ideal.nD Cert.NormBwd0Ideal.τ).loc Cert.NormBwd0Ideal.main_arg4) = m ((c.tc : Thread Cert.NormBwd0Ideal.nD Cert.NormBwd0Ideal.τ).loc Cert.NormBwd0Ideal.main_arg4)
          ∧ r.2.mem ((c.tc : Thread Cert.NormBwd0Ideal.nD Cert.NormBwd0Ideal.τ).loc Cert.NormBwd0Ideal.main_arg5) = m ((c.tc : Thread Cert.NormBwd0Ideal.nD Cert.NormBwd0Ideal.τ).loc Cert.NormBwd0Ideal.main_arg5))
      ∧ θ_run (Cert.NormBwd0RefIdeal.defs (F := Ideal)) (onTc (τ := Cert.NormBwd0RefIdeal.τ) (Cert.NormBwd0RefIdeal.main (F := Ideal))) ⟨m', fun _ => 0, g'⟩ (fun r => ∀ c : Dev Cert.NormBwd0RefIdeal.nD,
          r.2.mem ((c.tc : Thread Cert.NormBwd0RefIdeal.nD Cert.NormBwd0RefIdeal.τ).loc Cert.NormBwd0RefIdeal.main_v48) = v0 c
          ∧ r.2.mem ((c.tc : Thread Cert.NormBwd0RefIdeal.nD Cert.NormBwd0RefIdeal.τ).loc Cert.NormBwd0RefIdeal.main_v26) = v1 c
          ∧ r.2.mem ((c.tc : Thread Cert.NormBwd0RefIdeal.nD Cert.NormBwd0RefIdeal.τ).loc Cert.NormBwd0RefIdeal.main_v23) = v2 c
          ∧ r.2.mem ((c.tc : Thread Cert.NormBwd0RefIdeal.nD Cert.NormBwd0RefIdeal.τ).loc Cert.NormBwd0RefIdeal.main_v31) = v3 c
          ∧ r.2.mem ((c.tc : Thread Cert.NormBwd0RefIdeal.nD Cert.NormBwd0RefIdeal.τ).loc Cert.NormBwd0RefIdeal.main_arg0) = m' ((c.tc : Thread Cert.NormBwd0RefIdeal.nD Cert.NormBwd0RefIdeal.τ).loc Cert.NormBwd0RefIdeal.main_arg0)
          ∧ r.2.mem ((c.tc : Thread Cert.NormBwd0RefIdeal.nD Cert.NormBwd0RefIdeal.τ).loc Cert.NormBwd0RefIdeal.main_arg1) = m' ((c.tc : Thread Cert.NormBwd0RefIdeal.nD Cert.NormBwd0RefIdeal.τ).loc Cert.NormBwd0RefIdeal.main_arg1)
          ∧ r.2.mem ((c.tc : Thread Cert.NormBwd0RefIdeal.nD Cert.NormBwd0RefIdeal.τ).loc Cert.NormBwd0RefIdeal.main_arg2) = m' ((c.tc : Thread Cert.NormBwd0RefIdeal.nD Cert.NormBwd0RefIdeal.τ).loc Cert.NormBwd0RefIdeal.main_arg2)
          ∧ r.2.mem ((c.tc : Thread Cert.NormBwd0RefIdeal.nD Cert.NormBwd0RefIdeal.τ).loc Cert.NormBwd0RefIdeal.main_arg3) = m' ((c.tc : Thread Cert.NormBwd0RefIdeal.nD Cert.NormBwd0RefIdeal.τ).loc Cert.NormBwd0RefIdeal.main_arg3)
          ∧ r.2.mem ((c.tc : Thread Cert.NormBwd0RefIdeal.nD Cert.NormBwd0RefIdeal.τ).loc Cert.NormBwd0RefIdeal.main_arg4) = m' ((c.tc : Thread Cert.NormBwd0RefIdeal.nD Cert.NormBwd0RefIdeal.τ).loc Cert.NormBwd0RefIdeal.main_arg4)
          ∧ r.2.mem ((c.tc : Thread Cert.NormBwd0RefIdeal.nD Cert.NormBwd0RefIdeal.τ).loc Cert.NormBwd0RefIdeal.main_arg5) = m' ((c.tc : Thread Cert.NormBwd0RefIdeal.nD Cert.NormBwd0RefIdeal.τ).loc Cert.NormBwd0RefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v23) = v1 c
          ∧ r.2.mem ((c.tc : Thread Cert.LossRefIdeal.nD Cert.LossRefIdeal.τ).loc Cert.LossRefIdeal.main_v24) = v2 c
          ∧ r.2.mem ((c.tc : Thread Cert.LossRefIdeal.nD Cert.LossRefIdeal.τ).loc Cert.LossRefIdeal.main_v22) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v33) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v18) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)) (v3 : (c : Dev Cert.AdamQkvIdeal.nD) → Buf (Elt Ideal) ((c.tc : Thread Cert.AdamQkvIdeal.nD Cert.AdamQkvIdeal.τ).loc Cert.AdamQkvIdeal.main_v0_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_v0_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v25) = v0 c
          ∧ r.2.mem ((c.tc : Thread Cert.AdamQkvRefIdeal.nD Cert.AdamQkvRefIdeal.τ).loc Cert.AdamQkvRefIdeal.main_v24) = v1 c
          ∧ r.2.mem ((c.tc : Thread Cert.AdamQkvRefIdeal.nD Cert.AdamQkvRefIdeal.τ).loc Cert.AdamQkvRefIdeal.main_v5) = v2 c
          ∧ r.2.mem ((c.tc : Thread Cert.AdamQkvRefIdeal.nD Cert.AdamQkvRefIdeal.τ).loc Cert.AdamQkvRefIdeal.main_v11) = v3 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v25) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v25) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v25) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v2) = v0 c
          ∧ r.2.mem ((c.tc : Thread Cert.AdamFfnRefIdeal.nD Cert.AdamFfnRefIdeal.τ).loc Cert.AdamFfnRefIdeal.main_v26) = v1 c
          ∧ r.2.mem ((c.tc : Thread Cert.AdamFfnRefIdeal.nD Cert.AdamFfnRefIdeal.τ).loc Cert.AdamFfnRefIdeal.main_v7) = v2 c
          ∧ r.2.mem ((c.tc : Thread Cert.AdamFfnRefIdeal.nD Cert.AdamFfnRefIdeal.τ).loc Cert.AdamFfnRefIdeal.main_v13) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def preserves_AdamRel_AdamRelIdeal : Prop :=
  True

def algebraic_AdamRelIdeal_AdamRelRefIdeal [hAdamRelIdeal : Cert.AdamRelIdeal.Facts] [hAdamRelRefIdeal : Cert.AdamRelRefIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg)
    (m' : (ℓ : Loc Cert.AdamRelRefIdeal.nD Cert.AdamRelRefIdeal.τ Cert.AdamRelRefIdeal.sig) → Buf (Elt Ideal) ℓ) (g' : Dev Cert.AdamRelRefIdeal.nD → PrngReg), Pre_AdamRelIdeal m →
    (∀ c : Dev Cert.AdamRelIdeal.nD,
      m' ((c.tc : Thread Cert.AdamRelRefIdeal.nD Cert.AdamRelRefIdeal.τ).loc Cert.AdamRelRefIdeal.main_arg0) = m ((c.tc : Thread Cert.AdamRelIdeal.nD Cert.AdamRelIdeal.τ).loc Cert.AdamRelIdeal.main_arg0)
      ∧ m' ((c.tc : Thread Cert.AdamRelRefIdeal.nD Cert.AdamRelRefIdeal.τ).loc Cert.AdamRelRefIdeal.main_arg1) = m ((c.tc : Thread Cert.AdamRelIdeal.nD Cert.AdamRelIdeal.τ).loc Cert.AdamRelIdeal.main_arg1)
      ∧ m' ((c.tc : Thread Cert.AdamRelRefIdeal.nD Cert.AdamRelRefIdeal.τ).loc Cert.AdamRelRefIdeal.main_arg2) = m ((c.tc : Thread Cert.AdamRelIdeal.nD Cert.AdamRelIdeal.τ).loc Cert.AdamRelIdeal.main_arg2)
      ∧ m' ((c.tc : Thread Cert.AdamRelRefIdeal.nD Cert.AdamRelRefIdeal.τ).loc Cert.AdamRelRefIdeal.main_arg3) = m ((c.tc : Thread Cert.AdamRelIdeal.nD Cert.AdamRelIdeal.τ).loc Cert.AdamRelIdeal.main_arg3)) →
    ∃ (v0 : (c : Dev Cert.AdamRelIdeal.nD) → Buf (Elt Ideal) ((c.tc : Thread Cert.AdamRelIdeal.nD Cert.AdamRelIdeal.τ).loc Cert.AdamRelIdeal.main_v0_0)) (v1 : (c : Dev Cert.AdamRelIdeal.nD) → Buf (Elt Ideal) ((c.tc : Thread Cert.AdamRelIdeal.nD Cert.AdamRelIdeal.τ).loc Cert.AdamRelIdeal.main_v0_1)) (v2 : (c : Dev Cert.AdamRelIdeal.nD) → Buf (Elt Ideal) ((c.tc : Thread Cert.AdamRelIdeal.nD Cert.AdamRelIdeal.τ).loc Cert.AdamRelIdeal.main_v0_2)) (v3 : (c : Dev Cert.AdamRelIdeal.nD) → Buf (Elt Ideal) ((c.tc : Thread Cert.AdamRelIdeal.nD Cert.AdamRelIdeal.τ).loc Cert.AdamRelIdeal.main_v0_3)),
      θ_run (Cert.AdamRelIdeal.defs (F := Ideal)) (onTc (τ := Cert.AdamRelIdeal.τ) (Cert.AdamRelIdeal.main (F := Ideal))) ⟨m, fun _ => 0, g⟩ (fun r => ∀ c : Dev Cert.AdamRelIdeal.nD,
          r.2.mem ((c.tc : Thread Cert.AdamRelIdeal.nD Cert.AdamRelIdeal.τ).loc Cert.AdamRelIdeal.main_v0_0) = v0 c
          ∧ r.2.mem ((c.tc : Thread Cert.AdamRelIdeal.nD Cert.AdamRelIdeal.τ).loc Cert.AdamRelIdeal.main_v0_1) = v1 c
          ∧ r.2.mem ((c.tc : Thread Cert.AdamRelIdeal.nD Cert.AdamRelIdeal.τ).loc Cert.AdamRelIdeal.main_v0_2) = v2 c
          ∧ r.2.mem ((c.tc : Thread Cert.AdamRelIdeal.nD Cert.AdamRelIdeal.τ).loc Cert.AdamRelIdeal.main_v0_3) = v3 c
          ∧ r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
          ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
          ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
          ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ θ_run (Cert.AdamRelRefIdeal.defs (F := Ideal)) (onTc (τ := Cert.AdamRelRefIdeal.τ) (Cert.AdamRelRefIdeal.main (F := Ideal))) ⟨m', fun _ => 0, g'⟩ (fun r => ∀ c : Dev Cert.AdamRelRefIdeal.nD,
          r.2.mem ((c.tc : Thread Cert.AdamRelRefIdeal.nD Cert.AdamRelRefIdeal.τ).loc Cert.AdamRelRefIdeal.main_v25) = v0 c
          ∧ r.2.mem ((c.tc : Thread Cert.AdamRelRefIdeal.nD Cert.AdamRelRefIdeal.τ).loc Cert.AdamRelRefIdeal.main_v24) = v1 c
          ∧ r.2.mem ((c.tc : Thread Cert.AdamRelRefIdeal.nD Cert.AdamRelRefIdeal.τ).loc Cert.AdamRelRefIdeal.main_v5) = v2 c
          ∧ r.2.mem ((c.tc : Thread Cert.AdamRelRefIdeal.nD Cert.AdamRelRefIdeal.τ).loc Cert.AdamRelRefIdeal.main_v11) = v3 c
          ∧ r.2.mem ((c.tc : Thread Cert.AdamRelRefIdeal.nD Cert.AdamRelRefIdeal.τ).loc Cert.AdamRelRefIdeal.main_arg0) = m' ((c.tc : Thread Cert.AdamRelRefIdeal.nD Cert.AdamRelRefIdeal.τ).loc Cert.AdamRelRefIdeal.main_arg0)
          ∧ r.2.mem ((c.tc : Thread Cert.AdamRelRefIdeal.nD Cert.AdamRelRefIdeal.τ).loc Cert.AdamRelRefIdeal.main_arg1) = m' ((c.tc : Thread Cert.AdamRelRefIdeal.nD Cert.AdamRelRefIdeal.τ).loc Cert.AdamRelRefIdeal.main_arg1)
          ∧ r.2.mem ((c.tc : Thread Cert.AdamRelRefIdeal.nD Cert.AdamRelRefIdeal.τ).loc Cert.AdamRelRefIdeal.main_arg2) = m' ((c.tc : Thread Cert.AdamRelRefIdeal.nD Cert.AdamRelRefIdeal.τ).loc Cert.AdamRelRefIdeal.main_arg2)
          ∧ r.2.mem ((c.tc : Thread Cert.AdamRelRefIdeal.nD Cert.AdamRelRefIdeal.τ).loc Cert.AdamRelRefIdeal.main_arg3) = m' ((c.tc : Thread Cert.AdamRelRefIdeal.nD Cert.AdamRelRefIdeal.τ).loc Cert.AdamRelRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)) (v3 : (c : Dev Cert.AdamBiasIdeal.nD) → Buf (Elt Ideal) ((c.tc : Thread Cert.AdamBiasIdeal.nD Cert.AdamBiasIdeal.τ).loc Cert.AdamBiasIdeal.main_v0_3)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_v0_3) = v3 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v25) = v0 c
          ∧ r.2.mem ((c.tc : Thread Cert.AdamBiasRefIdeal.nD Cert.AdamBiasRefIdeal.τ).loc Cert.AdamBiasRefIdeal.main_v24) = v1 c
          ∧ r.2.mem ((c.tc : Thread Cert.AdamBiasRefIdeal.nD Cert.AdamBiasRefIdeal.τ).loc Cert.AdamBiasRefIdeal.main_v5) = v2 c
          ∧ r.2.mem ((c.tc : Thread Cert.AdamBiasRefIdeal.nD Cert.AdamBiasRefIdeal.τ).loc Cert.AdamBiasRefIdeal.main_v11) = v3 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v25) = v0 c
          ∧ r.2.mem ((c.tc : Thread Cert.AdamNormRefIdeal.nD Cert.AdamNormRefIdeal.τ).loc Cert.AdamNormRefIdeal.main_v24) = v1 c
          ∧ r.2.mem ((c.tc : Thread Cert.AdamNormRefIdeal.nD Cert.AdamNormRefIdeal.τ).loc Cert.AdamNormRefIdeal.main_v5) = v2 c
          ∧ r.2.mem ((c.tc : Thread Cert.AdamNormRefIdeal.nD Cert.AdamNormRefIdeal.τ).loc Cert.AdamNormRefIdeal.main_v11) = v3 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v25) = v0 c
          ∧ r.2.mem ((c.tc : Thread Cert.AdamGainRefIdeal.nD Cert.AdamGainRefIdeal.τ).loc Cert.AdamGainRefIdeal.main_v24) = v1 c
          ∧ r.2.mem ((c.tc : Thread Cert.AdamGainRefIdeal.nD Cert.AdamGainRefIdeal.τ).loc Cert.AdamGainRefIdeal.main_v5) = v2 c
          ∧ r.2.mem ((c.tc : Thread Cert.AdamGainRefIdeal.nD Cert.AdamGainRefIdeal.τ).loc Cert.AdamGainRefIdeal.main_v11) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamGnorm_AdamGnormIdeal : Prop :=
  True

def algebraic_AdamGnormIdeal_AdamGnormRefIdeal [hAdamGnormIdeal : Cert.AdamGnormIdeal.Facts] [hAdamGnormRefIdeal : Cert.AdamGnormRefIdeal.Facts] : Prop :=
  ∀ (m : (ℓ : Loc Cert.AdamGnormIdeal.nD Cert.AdamGnormIdeal.τ Cert.AdamGnormIdeal.sig) → Buf (Elt Ideal) ℓ) (g : Dev Cert.AdamGnormIdeal.nD → PrngReg)
    (m' : (ℓ : Loc Cert.AdamGnormRefIdeal.nD Cert.AdamGnormRefIdeal.τ Cert.AdamGnormRefIdeal.sig) → Buf (Elt Ideal) ℓ) (g' : Dev Cert.AdamGnormRefIdeal.nD → PrngReg), Pre_AdamGnormIdeal m →
    (∀ c : Dev Cert.AdamGnormIdeal.nD,
      m' ((c.tc : Thread Cert.AdamGnormRefIdeal.nD Cert.AdamGnormRefIdeal.τ).loc Cert.AdamGnormRefIdeal.main_arg0) = m ((c.tc : Thread Cert.AdamGnormIdeal.nD Cert.AdamGnormIdeal.τ).loc Cert.AdamGnormIdeal.main_arg0)
      ∧ m' ((c.tc : Thread Cert.AdamGnormRefIdeal.nD Cert.AdamGnormRefIdeal.τ).loc Cert.AdamGnormRefIdeal.main_arg1) = m ((c.tc : Thread Cert.AdamGnormIdeal.nD Cert.AdamGnormIdeal.τ).loc Cert.AdamGnormIdeal.main_arg1)
      ∧ m' ((c.tc : Thread Cert.AdamGnormRefIdeal.nD Cert.AdamGnormRefIdeal.τ).loc Cert.AdamGnormRefIdeal.main_arg2) = m ((c.tc : Thread Cert.AdamGnormIdeal.nD Cert.AdamGnormIdeal.τ).loc Cert.AdamGnormIdeal.main_arg2)
      ∧ m' ((c.tc : Thread Cert.AdamGnormRefIdeal.nD Cert.AdamGnormRefIdeal.τ).loc Cert.AdamGnormRefIdeal.main_arg3) = m ((c.tc : Thread Cert.AdamGnormIdeal.nD Cert.AdamGnormIdeal.τ).loc Cert.AdamGnormIdeal.main_arg3)) →
    ∃ (v0 : (c : Dev Cert.AdamGnormIdeal.nD) → Buf (Elt Ideal) ((c.tc : Thread Cert.AdamGnormIdeal.nD Cert.AdamGnormIdeal.τ).loc Cert.AdamGnormIdeal.main_v0_0)) (v1 : (c : Dev Cert.AdamGnormIdeal.nD) → Buf (Elt Ideal) ((c.tc : Thread Cert.AdamGnormIdeal.nD Cert.AdamGnormIdeal.τ).loc Cert.AdamGnormIdeal.main_v0_1)) (v2 : (c : Dev Cert.AdamGnormIdeal.nD) → Buf (Elt Ideal) ((c.tc : Thread Cert.AdamGnormIdeal.nD Cert.AdamGnormIdeal.τ).loc Cert.AdamGnormIdeal.main_v0_2)) (v3 : (c : Dev Cert.AdamGnormIdeal.nD) → Buf (Elt Ideal) ((c.tc : Thread Cert.AdamGnormIdeal.nD Cert.AdamGnormIdeal.τ).loc Cert.AdamGnormIdeal.main_v0_3)),
      θ_run (Cert.AdamGnormIdeal.defs (F := Ideal)) (onTc (τ := Cert.AdamGnormIdeal.τ) (Cert.AdamGnormIdeal.main (F := Ideal))) ⟨m, fun _ => 0, g⟩ (fun r => ∀ c : Dev Cert.AdamGnormIdeal.nD,
          r.2.mem ((c.tc : Thread Cert.AdamGnormIdeal.nD Cert.AdamGnormIdeal.τ).loc Cert.AdamGnormIdeal.main_v0_0) = v0 c
          ∧ r.2.mem ((c.tc : Thread Cert.AdamGnormIdeal.nD Cert.AdamGnormIdeal.τ).loc Cert.AdamGnormIdeal.main_v0_1) = v1 c
          ∧ r.2.mem ((c.tc : Thread Cert.AdamGnormIdeal.nD Cert.AdamGnormIdeal.τ).loc Cert.AdamGnormIdeal.main_v0_2) = v2 c
          ∧ r.2.mem ((c.tc : Thread Cert.AdamGnormIdeal.nD Cert.AdamGnormIdeal.τ).loc Cert.AdamGnormIdeal.main_v0_3) = v3 c
          ∧ r.2.mem ((c.tc : Thread Cert.AdamGnormIdeal.nD Cert.AdamGnormIdeal.τ).loc Cert.AdamGnormIdeal.main_arg0) = m ((c.tc : Thread Cert.AdamGnormIdeal.nD Cert.AdamGnormIdeal.τ).loc Cert.AdamGnormIdeal.main_arg0)
          ∧ r.2.mem ((c.tc : Thread Cert.AdamGnormIdeal.nD Cert.AdamGnormIdeal.τ).loc Cert.AdamGnormIdeal.main_arg1) = m ((c.tc : Thread Cert.AdamGnormIdeal.nD Cert.AdamGnormIdeal.τ).loc Cert.AdamGnormIdeal.main_arg1)
          ∧ r.2.mem ((c.tc : Thread Cert.AdamGnormIdeal.nD Cert.AdamGnormIdeal.τ).loc Cert.AdamGnormIdeal.main_arg2) = m ((c.tc : Thread Cert.AdamGnormIdeal.nD Cert.AdamGnormIdeal.τ).loc Cert.AdamGnormIdeal.main_arg2)
          ∧ r.2.mem ((c.tc : Thread Cert.AdamGnormIdeal.nD Cert.AdamGnormIdeal.τ).loc Cert.AdamGnormIdeal.main_arg3) = m ((c.tc : Thread Cert.AdamGnormIdeal.nD Cert.AdamGnormIdeal.τ).loc Cert.AdamGnormIdeal.main_arg3))
      ∧ θ_run (Cert.AdamGnormRefIdeal.defs (F := Ideal)) (onTc (τ := Cert.AdamGnormRefIdeal.τ) (Cert.AdamGnormRefIdeal.main (F := Ideal))) ⟨m', fun _ => 0, g'⟩ (fun r => ∀ c : Dev Cert.AdamGnormRefIdeal.nD,
          r.2.mem ((c.tc : Thread Cert.AdamGnormRefIdeal.nD Cert.AdamGnormRefIdeal.τ).loc Cert.AdamGnormRefIdeal.main_v25) = v0 c
          ∧ r.2.mem ((c.tc : Thread Cert.AdamGnormRefIdeal.nD Cert.AdamGnormRefIdeal.τ).loc Cert.AdamGnormRefIdeal.main_v24) = v1 c
          ∧ r.2.mem ((c.tc : Thread Cert.AdamGnormRefIdeal.nD Cert.AdamGnormRefIdeal.τ).loc Cert.AdamGnormRefIdeal.main_v5) = v2 c
          ∧ r.2.mem ((c.tc : Thread Cert.AdamGnormRefIdeal.nD Cert.AdamGnormRefIdeal.τ).loc Cert.AdamGnormRefIdeal.main_v11) = v3 c
          ∧ r.2.mem ((c.tc : Thread Cert.AdamGnormRefIdeal.nD Cert.AdamGnormRefIdeal.τ).loc Cert.AdamGnormRefIdeal.main_arg0) = m' ((c.tc : Thread Cert.AdamGnormRefIdeal.nD Cert.AdamGnormRefIdeal.τ).loc Cert.AdamGnormRefIdeal.main_arg0)
          ∧ r.2.mem ((c.tc : Thread Cert.AdamGnormRefIdeal.nD Cert.AdamGnormRefIdeal.τ).loc Cert.AdamGnormRefIdeal.main_arg1) = m' ((c.tc : Thread Cert.AdamGnormRefIdeal.nD Cert.AdamGnormRefIdeal.τ).loc Cert.AdamGnormRefIdeal.main_arg1)
          ∧ r.2.mem ((c.tc : Thread Cert.AdamGnormRefIdeal.nD Cert.AdamGnormRefIdeal.τ).loc Cert.AdamGnormRefIdeal.main_arg2) = m' ((c.tc : Thread Cert.AdamGnormRefIdeal.nD Cert.AdamGnormRefIdeal.τ).loc Cert.AdamGnormRefIdeal.main_arg2)
          ∧ r.2.mem ((c.tc : Thread Cert.AdamGnormRefIdeal.nD Cert.AdamGnormRefIdeal.τ).loc Cert.AdamGnormRefIdeal.main_arg3) = m' ((c.tc : Thread Cert.AdamGnormRefIdeal.nD Cert.AdamGnormRefIdeal.τ).loc Cert.AdamGnormRefIdeal.main_arg3))

def Claim : Prop :=
  ∃ (hKernel : Cert.Kernel.Facts) (hKernelIdeal : Cert.KernelIdeal.Facts) (hReferenceIdeal : Cert.ReferenceIdeal.Facts) (hUpBwd : Cert.UpBwd.Facts) (hUpBwdIdeal : Cert.UpBwdIdeal.Facts) (hUpBwdRefIdeal : Cert.UpBwdRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hOutBwd : Cert.OutBwd.Facts) (hOutBwdIdeal : Cert.OutBwdIdeal.Facts) (hOutBwdRefIdeal : Cert.OutBwdRefIdeal.Facts) (hInBwd : Cert.InBwd.Facts) (hInBwdIdeal : Cert.InBwdIdeal.Facts) (hInBwdRefIdeal : Cert.InBwdRefIdeal.Facts) (hDwIn : Cert.DwIn.Facts) (hDwInIdeal : Cert.DwInIdeal.Facts) (hDwInRefIdeal : Cert.DwInRefIdeal.Facts) (hDwQkv : Cert.DwQkv.Facts) (hDwQkvIdeal : Cert.DwQkvIdeal.Facts) (hDwQkvRefIdeal : Cert.DwQkvRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hUp : Cert.Up.Facts) (hUpIdeal : Cert.UpIdeal.Facts) (hUpRefIdeal : Cert.UpRefIdeal.Facts) (hQkv : Cert.Qkv.Facts) (hQkvIdeal : Cert.QkvIdeal.Facts) (hQkvRefIdeal : Cert.QkvRefIdeal.Facts) (hIn : Cert.In.Facts) (hInIdeal : Cert.InIdeal.Facts) (hInRefIdeal : Cert.InRefIdeal.Facts) (hUpBwd0 : Cert.UpBwd0.Facts) (hUpBwd0Ideal : Cert.UpBwd0Ideal.Facts) (hUpBwd0RefIdeal : Cert.UpBwd0RefIdeal.Facts) (hDown0 : Cert.Down0.Facts) (hDown0Ideal : Cert.Down0Ideal.Facts) (hDown0RefIdeal : Cert.Down0RefIdeal.Facts) (hUp0 : Cert.Up0.Facts) (hUp0Ideal : Cert.Up0Ideal.Facts) (hUp0RefIdeal : Cert.Up0RefIdeal.Facts) (hNormBwd : Cert.NormBwd.Facts) (hNormBwdIdeal : Cert.NormBwdIdeal.Facts) (hNormBwdRefIdeal : Cert.NormBwdRefIdeal.Facts) (hNormBwd0 : Cert.NormBwd0.Facts) (hNormBwd0Ideal : Cert.NormBwd0Ideal.Facts) (hNormBwd0RefIdeal : Cert.NormBwd0RefIdeal.Facts) (hLoss : Cert.Loss.Facts) (hLossIdeal : Cert.LossIdeal.Facts) (hLossRefIdeal : Cert.LossRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hAdamQkv : Cert.AdamQkv.Facts) (hAdamQkvIdeal : Cert.AdamQkvIdeal.Facts) (hAdamQkvRefIdeal : Cert.AdamQkvRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamAda : Cert.AdamAda.Facts) (hAdamAdaIdeal : Cert.AdamAdaIdeal.Facts) (hAdamAdaRefIdeal : Cert.AdamAdaRefIdeal.Facts) (hAdamFfn : Cert.AdamFfn.Facts) (hAdamFfnIdeal : Cert.AdamFfnIdeal.Facts) (hAdamFfnRefIdeal : Cert.AdamFfnRefIdeal.Facts) (hAdamRel : Cert.AdamRel.Facts) (hAdamRelIdeal : Cert.AdamRelIdeal.Facts) (hAdamRelRefIdeal : Cert.AdamRelRefIdeal.Facts) (hAdamBias : Cert.AdamBias.Facts) (hAdamBiasIdeal : Cert.AdamBiasIdeal.Facts) (hAdamBiasRefIdeal : Cert.AdamBiasRefIdeal.Facts) (hAdamNorm : Cert.AdamNorm.Facts) (hAdamNormIdeal : Cert.AdamNormIdeal.Facts) (hAdamNormRefIdeal : Cert.AdamNormRefIdeal.Facts) (hAdamGain : Cert.AdamGain.Facts) (hAdamGainIdeal : Cert.AdamGainIdeal.Facts) (hAdamGainRefIdeal : Cert.AdamGainRefIdeal.Facts) (hAdamGnorm : Cert.AdamGnorm.Facts) (hAdamGnormIdeal : Cert.AdamGnormIdeal.Facts) (hAdamGnormRefIdeal : Cert.AdamGnormRefIdeal.Facts) (hPre_finite : Cert.Pre_finite.Facts) (hPre_finite_norm : Cert.Pre_finite_norm.Facts) (hPre_finite_first : Cert.Pre_finite_first.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Up (hUp := hUp)
    ∧ quiescent_UpIdeal (hUpIdeal := hUpIdeal)
    ∧ quiescent_UpRefIdeal (hUpRefIdeal := hUpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_In (hIn := hIn)
    ∧ quiescent_InIdeal (hInIdeal := hInIdeal)
    ∧ quiescent_InRefIdeal (hInRefIdeal := hInRefIdeal)
    ∧ quiescent_UpBwd0 (hUpBwd0 := hUpBwd0)
    ∧ quiescent_UpBwd0Ideal (hUpBwd0Ideal := hUpBwd0Ideal)
    ∧ quiescent_UpBwd0RefIdeal (hUpBwd0RefIdeal := hUpBwd0RefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Up0 (hUp0 := hUp0)
    ∧ quiescent_Up0Ideal (hUp0Ideal := hUp0Ideal)
    ∧ quiescent_Up0RefIdeal (hUp0RefIdeal := hUp0RefIdeal)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormBwdRefIdeal (hNormBwdRefIdeal := hNormBwdRefIdeal)
    ∧ quiescent_NormBwdRefIdeal_pre_finite_norm (hNormBwdRefIdeal := hNormBwdRefIdeal) (hPre_finite_norm := hPre_finite_norm)
    ∧ quiescent_NormBwd0 (hNormBwd0 := hNormBwd0)
    ∧ quiescent_NormBwd0Ideal (hNormBwd0Ideal := hNormBwd0Ideal)
    ∧ quiescent_NormBwd0Ideal_pre_finite_first (hNormBwd0Ideal := hNormBwd0Ideal) (hPre_finite_first := hPre_finite_first)
    ∧ quiescent_NormBwd0RefIdeal (hNormBwd0RefIdeal := hNormBwd0RefIdeal)
    ∧ quiescent_NormBwd0RefIdeal_pre_finite_first (hNormBwd0RefIdeal := hNormBwd0RefIdeal) (hPre_finite_first := hPre_finite_first)
    ∧ quiescent_Loss (hLoss := hLoss)
    ∧ quiescent_LossIdeal (hLossIdeal := hLossIdeal)
    ∧ quiescent_LossRefIdeal (hLossRefIdeal := hLossRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamRel (hAdamRel := hAdamRel)
    ∧ quiescent_AdamRelIdeal (hAdamRelIdeal := hAdamRelIdeal)
    ∧ quiescent_AdamRelRefIdeal (hAdamRelRefIdeal := hAdamRelRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamGnorm (hAdamGnorm := hAdamGnorm)
    ∧ quiescent_AdamGnormIdeal (hAdamGnormIdeal := hAdamGnormIdeal)
    ∧ quiescent_AdamGnormRefIdeal (hAdamGnormRefIdeal := hAdamGnormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpBwd_UpBwdIdeal
    ∧ algebraic_UpBwdIdeal_UpBwdRefIdeal (hUpBwdIdeal := hUpBwdIdeal) (hUpBwdRefIdeal := hUpBwdRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InBwd_InBwdIdeal
    ∧ algebraic_InBwdIdeal_InBwdRefIdeal (hInBwdIdeal := hInBwdIdeal) (hInBwdRefIdeal := hInBwdRefIdeal)
    ∧ preserves_DwIn_DwInIdeal
    ∧ algebraic_DwInIdeal_DwInRefIdeal (hDwInIdeal := hDwInIdeal) (hDwInRefIdeal := hDwInRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Up_UpIdeal
    ∧ algebraic_UpIdeal_UpRefIdeal (hUpIdeal := hUpIdeal) (hUpRefIdeal := hUpRefIdeal)
    ∧ preserves_Qkv_QkvIdeal
    ∧ algebraic_QkvIdeal_QkvRefIdeal (hQkvIdeal := hQkvIdeal) (hQkvRefIdeal := hQkvRefIdeal)
    ∧ preserves_In_InIdeal
    ∧ algebraic_InIdeal_InRefIdeal (hInIdeal := hInIdeal) (hInRefIdeal := hInRefIdeal)
    ∧ preserves_UpBwd0_UpBwd0Ideal
    ∧ algebraic_UpBwd0Ideal_UpBwd0RefIdeal (hUpBwd0Ideal := hUpBwd0Ideal) (hUpBwd0RefIdeal := hUpBwd0RefIdeal)
    ∧ preserves_Down0_Down0Ideal
    ∧ algebraic_Down0Ideal_Down0RefIdeal (hDown0Ideal := hDown0Ideal) (hDown0RefIdeal := hDown0RefIdeal)
    ∧ preserves_Up0_Up0Ideal
    ∧ algebraic_Up0Ideal_Up0RefIdeal (hUp0Ideal := hUp0Ideal) (hUp0RefIdeal := hUp0RefIdeal)
    ∧ preserves_NormBwd_NormBwdIdeal
    ∧ algebraic_NormBwdIdeal_NormBwdRefIdeal_pre_finite_norm (hNormBwdIdeal := hNormBwdIdeal) (hNormBwdRefIdeal := hNormBwdRefIdeal) (hPre_finite_norm := hPre_finite_norm)
    ∧ preserves_NormBwd0_NormBwd0Ideal
    ∧ algebraic_NormBwd0Ideal_NormBwd0RefIdeal_pre_finite_first (hNormBwd0Ideal := hNormBwd0Ideal) (hNormBwd0RefIdeal := hNormBwd0RefIdeal) (hPre_finite_first := hPre_finite_first)
    ∧ preserves_Loss_LossIdeal
    ∧ algebraic_LossIdeal_LossRefIdeal (hLossIdeal := hLossIdeal) (hLossRefIdeal := hLossRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamRel_AdamRelIdeal
    ∧ algebraic_AdamRelIdeal_AdamRelRefIdeal (hAdamRelIdeal := hAdamRelIdeal) (hAdamRelRefIdeal := hAdamRelRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamGnorm_AdamGnormIdeal
    ∧ algebraic_AdamGnormIdeal_AdamGnormRefIdeal (hAdamGnormIdeal := hAdamGnormIdeal) (hAdamGnormRefIdeal := hAdamGnormRefIdeal)
-- ==== Pre_finite.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x2x704x1024 : S_.BroadcastsInDim S4x2x704x1024 (![] : Fin 0 → Fin S4x2x704x1024.rank)
  reducesTo_S4x2x704x1024_S_d0_1_2_3 : S4x2x704x1024.ReducesTo [0, 1, 2, 3] S_
  bcast_S_S4x4096x704 : S_.BroadcastsInDim S4x4096x704 (![] : Fin 0 → Fin S4x4096x704.rank)
  reducesTo_S4x4096x704_S_d0_1_2 : S4x4096x704.ReducesTo [0, 1, 2] S_

variable [Facts]

def fn {F : FTy → Type} [FloatOps F] (main_arg0 : FVec F S4096x1024 .bf16) (main_arg1 : FVec F S4x2x704x1024 .bf16) (main_arg2 : FVec F S4x4096x704 .bf16) (main_arg3 : FVec F S4x4096x704 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x2x704x1024 .f32 := (extf .f32 · bitsLt_bf16_f32) main_arg1
  let main_v6 : FVec F S4x2x704x1024 .f32 := Host.absf main_v5
  let main_cst_0 : FVec F S_ .f32 := constant S_ .f32 0x7F800000#32
  let main_v7 : FVec F S4x2x704x1024 .f32 := broadcastInDim S4x2x704x1024 ![] bcast_S_S4x2x704x1024 main_cst_0
  let main_v8 : IVec S4x2x704x1024 1 := cmpf .olt main_v6 main_v7
  let main_c_1 : IVec S_ 1 := constantI S_ 1 1#1
  let main_v9 : IVec S_ 1 := (fun x v => Host.reduce IntOp.andi x v reducesTo_S4x2x704x1024_S_d0_1_2_3 h_S_) main_v8 main_c_1
  let main_v10 : IVec S_ 1 := andi main_v4 main_v9
  let main_v11 : FVec F S4x4096x704 .f32 := (extf .f32 · bitsLt_bf16_f32) main_arg3
  let main_v12 : FVec F S4x4096x704 .f32 := Host.absf main_v11
  let main_cst_2 : FVec F S_ .f32 := constant S_ .f32 0x7F800000#32
  let main_v13 : FVec F S4x4096x704 .f32 := broadcastInDim S4x4096x704 ![] bcast_S_S4x4096x704 main_cst_2
  let main_v14 : IVec S4x4096x704 1 := cmpf .olt main_v12 main_v13
  let main_c_3 : IVec S_ 1 := constantI S_ 1 1#1
  let main_v15 : IVec S_ 1 := (fun x v => Host.reduce IntOp.andi x v reducesTo_S4x4096x704_S_d0_1_2 h_S_) main_v14 main_c_3
  let main_v16 : IVec S_ 1 := andi main_v10 main_v15
  main_v16
-- ==== Pre_finite_first.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1x1024 .f32) (main_arg3 : FVec F S1x1024 .f32) (main_arg4 : FVec F S4096x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite_norm.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1x1024 .f32) (main_arg3 : FVec F S1x1024 .f32) (main_arg4 : FVec F S4096x1024 .f32) (main_arg5 : FVec F S4096x1024 .f32) (main_arg6 : FVec F S4096x1024 .bf16) (main_arg7 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S4096x4x704 : Shape := ⟨3, ![4096, 4, 704]⟩
abbrev S4096x2816 : Shape := ⟨2, ![4096, 2816]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x4096x704, .bf16⟩
  | .hbm, ⟨3, _⟩ => ⟨S4x4096x704, .bf16⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S2816x1024, .f32⟩
  | .hbm, ⟨8, _⟩ => ⟨S4x4096x704, .f32⟩
  | .hbm, ⟨9, _⟩ => ⟨S4096x4x704, .f32⟩
  | .hbm, ⟨10, _⟩ => ⟨S4096x2816, .f32⟩
  | .hbm, ⟨11, _⟩ => ⟨S4x4096x704, .f32⟩
  | .hbm, ⟨12, _⟩ => ⟨S4096x4x704, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v10_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v10_1 : Ref sig .tc := ⟨.hbm, 25, rfl⟩
abbrev main_v10_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== UpBwd.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x2x704x1024, .bf16⟩
  | .hbm, ⟨3, _⟩ => ⟨S4x2x704x1024, .bf16⟩
  | .hbm, ⟨4, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpBwdRefIdeal.lean ====
abbrev S4x4096x704 : Shape := ⟨3, ![4, 4096, 704]⟩
abbrev S4x2x704x1024 : Shape := ⟨4, ![4, 2, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S4096x1024 : Shape := ⟨2, ![4096, 1024]⟩
abbrev S4096x2816 : Shape := ⟨2, ![4096, 2816]⟩
abbrev S4096x4x704 : Shape := ⟨3, ![4096, 4, 704]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x2x704x1024, .bf16⟩
  | .hbm, ⟨3, _⟩ => ⟨S4x2x704x1024, .bf16⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S2816x1024, .f32⟩
  | .hbm, ⟨8, _⟩ => ⟨S1024x2816, .f32⟩
  | .hbm, ⟨9, _⟩ => ⟨S4x1x704x1024, .bf16⟩
  | .hbm, ⟨10, _⟩ => ⟨S4x704x1024, .bf16⟩
  | .hbm, ⟨11, _⟩ => ⟨S4x704x1024, .f32⟩
  | .hbm, ⟨12, _⟩ => ⟨S2816x1024, .f32⟩
  | .hbm, ⟨13, _⟩ => ⟨S1024x2816, .f32⟩
  | .hbm, ⟨14, _⟩ => ⟨S_, .f32⟩
  | .hbm, ⟨15, _⟩ => ⟨S4096x1024, .f32⟩
  | .hbm, ⟨16, _⟩ => ⟨S4096x2816, .f32⟩
  | .hbm, ⟨17, _⟩ => ⟨S4096x2816, .f32⟩
  | .hbm, ⟨18, _⟩ => ⟨S4x4096x704, .f32⟩
  | .hbm, ⟨19, _⟩ => ⟨S4096x4x704, .f32⟩
  | .hbm, ⟨20, _⟩ => ⟨S4096x2816, .f32⟩
  | .hbm, ⟨21, _⟩ => ⟨S4x4096x704, .f32⟩
  | .hbm, ⟨22, _⟩ => ⟨S4096x4x704, .f32⟩
  | .hbm, ⟨23, _⟩ => ⟨S4096x2816, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== DwUp.lean ====
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4096x1024, .bf16⟩
  | .hbm, ⟨3, _⟩ => ⟨S4x704x1024, .f32⟩
  | .hbm, ⟨4, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S2048x1024, .bf16⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwUpRefIdeal.lean ====
abbrev S4x4096x704 : Shape := ⟨3, ![4, 4096, 704]⟩
abbrev S4096x1024 : Shape := ⟨2, ![4096, 1024]⟩
abbrev S_ : Shape := ⟨0, ![]⟩
abbrev S1024x2816 : Shape := ⟨2, ![1024, 2816]⟩
abbrev S4096x2816 : Shape := ⟨2, ![4096, 2816]⟩
abbrev S4096x4x704 : Shape := ⟨3, ![4096, 4, 704]⟩
abbrev S2816x1024 : Shape := ⟨2, ![2816, 1024]⟩
abbrev S4x704x1024 : Shape := ⟨3, ![4, 704, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4096x1024, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4x4096x704, .f32⟩
  | .hbm, ⟨9, _⟩ => ⟨S4096x4x704, .f32⟩
  | .hbm, ⟨10, _⟩ => ⟨S4096x2816, .f32⟩
  | .hbm, ⟨11, _⟩ => ⟨S4x4096x704, .f32⟩
  | .hbm, ⟨12, _⟩ => ⟨S4096x4x704, .f32⟩
  | .hbm, ⟨13, _⟩ => ⟨S4096x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S4x704x1024, .f32⟩
  | .hbm, ⟨20, _⟩ => ⟨S2816x1024, .f32⟩
  | .hbm, ⟨21, _⟩ => ⟨S4x704x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== DwDown.lean ====
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwOut.lean ====
abbrev S4x4096x256 : Shape := ⟨3, ![4, 4096, 256]⟩
abbrev S4096x1024 : Shape := ⟨2, ![4096, 1024]⟩
abbrev S4x256x1024 : Shape := ⟨3, ![4, 256, 1024]⟩
abbrev S1x2048x256 : Shape := ⟨3, ![1, 2048, 256]⟩
abbrev S2048x1024 : Shape := ⟨2, ![2048, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x256, .bf16⟩
  | .hbm, ⟨1, _⟩ => ⟨S4096x1024, .bf16⟩
  | .hbm, ⟨2, _⟩ => ⟨S4x256x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutRefIdeal.lean ====
abbrev S4x4096x256 : Shape := ⟨3, ![4, 4096, 256]⟩
abbrev S4096x1024 : Shape := ⟨2, ![4096, 1024]⟩
abbrev S4096x4x256 : Shape := ⟨3, ![4096, 4, 256]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4096x1024, .bf16⟩
  | .hbm, ⟨2, _⟩ => ⟨S4x4096x256, .f32⟩
  | .hbm, ⟨3, _⟩ => ⟨S4096x4x256, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S4x256x1024, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S4096x1024 : Shape := ⟨2, ![4096, 1024]⟩
abbrev S4x1x256x1024 : Shape := ⟨4, ![4, 1, 256, 1024]⟩
abbrev S4x4096x256 : Shape := ⟨3, ![4, 4096, 256]⟩
abbrev S1024x1024 : Shape := ⟨2, ![1024, 1024]⟩
abbrev S1x1x256x1024 : Shape := ⟨4, ![1, 1, 256, 1024]⟩
abbrev S1x1024x256 : Shape := ⟨3, ![1, 1024, 256]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1x256x1024, .bf16⟩
  | .hbm, ⟨2, _⟩ => ⟨S4x4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1024x256, .f32⟩
  | .local _ .vmem, ⟨5, _⟩ => ⟨S1x1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S4096x1024 : Shape := ⟨2, ![4096, 1024]⟩
abbrev S4x1x256x1024 : Shape := ⟨4, ![4, 1, 256, 1024]⟩
abbrev S1024x1024 : Shape := ⟨2, ![1024, 1024]⟩
abbrev S_ : Shape := ⟨0, ![]⟩
abbrev S4096x4x256 : Shape := ⟨3, ![4096, 4, 256]⟩
abbrev S4x4096x256 : Shape := ⟨3, ![4, 4096, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1x256x1024, .bf16⟩
  | .hbm, ⟨2, _⟩ => ⟨S4x1x256x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x4x256, .f32⟩
  | .hbm, ⟨10, _⟩ => ⟨S4x4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InBwd.lean ====
abbrev S4x4096x1024 : Shape := ⟨3, ![4, 4096, 1024]⟩
abbrev S4x1x1024x1024 : Shape := ⟨4, ![4, 1, 1024, 1024]⟩
abbrev S4096x1024 : Shape := ⟨2, ![4096, 1024]⟩
abbrev S4x512x1024 : Shape := ⟨3, ![4, 512, 1024]⟩
abbrev S512x1024 : Shape := ⟨2, ![512, 1024]⟩
abbrev S1x512x1024 : Shape := ⟨3, ![1, 512, 1024]⟩
abbrev S1x1x1024x1024 : Shape := ⟨4, ![1, 1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x1024, .bf16⟩
  | .hbm, ⟨1, _⟩ => ⟨S4x1x1024x1024, .bf16⟩
  | .hbm, ⟨2, _⟩ => ⟨S4096x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InBwdRefIdeal.lean ====
abbrev S4x4096x1024 : Shape := ⟨3, ![4, 4096, 1024]⟩
abbrev S4x1x1024x1024 : Shape := ⟨4, ![4, 1, 1024, 1024]⟩
abbrev S1024x1x4x1024 : Shape := ⟨4, ![1024, 1, 4, 1024]⟩
abbrev S1024x4096 : Shape := ⟨2, ![1024, 4096]⟩
abbrev S_ : Shape := ⟨0, ![]⟩
abbrev S4096x1024 : Shape := ⟨2, ![4096, 1024]⟩
abbrev S4096x4096 : Shape := ⟨2, ![4096, 4096]⟩
abbrev S4096x4x1024 : Shape := ⟨3, ![4096, 4, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x1x1024x1024, .bf16⟩
  | .hbm, ⟨2, _⟩ => ⟨S4x1x1024x1024, .f32⟩
  | .hbm, ⟨3, _⟩ => ⟨S1024x1x4x1024, .f32⟩
  | .hbm, ⟨4, _⟩ => ⟨S1024x4096, .f32⟩
  | .hbm, ⟨5, _⟩ => ⟨S_, .f32⟩
  | .hbm, ⟨6, _⟩ => ⟨S4096x1024, .f32⟩
  | .hbm, ⟨7, _⟩ => ⟨S4096x4096, .f32⟩
  | .hbm, ⟨8, _⟩ => ⟨S4x4096x1024, .f32⟩
  | .hbm, ⟨9, _⟩ => ⟨S4096x4x1024, .f32⟩
  | .hbm, ⟨10, _⟩ => ⟨S4096x4096, .f32⟩
  | .hbm, ⟨11, _⟩ => ⟨S4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwIn.lean ====
abbrev S4096x1024 : Shape := ⟨2, ![4096, 1024]⟩
abbrev S4x4096x1024 : Shape := ⟨3, ![4, 4096, 1024]⟩
abbrev S4x1024x1024 : Shape := ⟨3, ![4, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x4096x1024, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S4096x1024 : Shape := ⟨2, ![4096, 1024]⟩
abbrev S4x4096x1024 : Shape := ⟨3, ![4, 4096, 1024]⟩
abbrev S_ : Shape := ⟨0, ![]⟩
abbrev S1024x4096 : Shape := ⟨2, ![1024, 4096]⟩
abbrev S4096x4096 : Shape := ⟨2, ![4096, 4096]⟩
abbrev S4096x4x1024 : Shape := ⟨3, ![4096, 4, 1024]⟩
abbrev S1024x4x1024 : Shape := ⟨3, ![1024, 4, 1024]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x1024, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4x4096x1024, .f32⟩
  | .hbm, ⟨7, _⟩ => ⟨S4096x4x1024, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwQkv.lean ====
abbrev S4096x1024 : Shape := ⟨2, ![4096, 1024]⟩
abbrev S9x4096x1024 : Shape := ⟨3, ![9, 4096, 1024]⟩
abbrev S9x1024x1024 : Shape := ⟨3, ![9, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S9x4096x1024, .bf16⟩
  | .hbm, ⟨2, _⟩ => ⟨S9x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwQkvRefIdeal.lean ====
abbrev S4096x1024 : Shape := ⟨2, ![4096, 1024]⟩
abbrev S9x4096x1024 : Shape := ⟨3, ![9, 4096, 1024]⟩
abbrev S_ : Shape := ⟨0, ![]⟩
abbrev S1024x9216 : Shape := ⟨2, ![1024, 9216]⟩
abbrev S4096x9216 : Shape := ⟨2, ![4096, 9216]⟩
abbrev S4096x9x1024 : Shape := ⟨3, ![4096, 9, 1024]⟩
abbrev S9216x1024 : Shape := ⟨2, ![9216, 1024]⟩
abbrev S1024x9x1024 : Shape := ⟨3, ![1024, 9, 1024]⟩
abbrev S9x1024x1024 : Shape := ⟨3, ![9, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S9x4096x1024, .bf16⟩
  | .hbm, ⟨2, _⟩ => ⟨S4096x1024, .f32⟩
  | .hbm, ⟨3, _⟩ => ⟨S_, .f32⟩
  | .hbm, ⟨4, _⟩ => ⟨S1024x9216, .f32⟩
  | .hbm, ⟨5, _⟩ => ⟨S4096x9216, .f32⟩
  | .hbm, ⟨6, _⟩ => ⟨S9x4096x1024, .f32⟩
  | .hbm, ⟨7, _⟩ => ⟨S4096x9x1024, .f32⟩
  | .hbm, ⟨8, _⟩ => ⟨S4096x9216, .f32⟩
  | .hbm, ⟨9, _⟩ => ⟨S9216x1024, .f32⟩
  | .hbm, ⟨10, _⟩ => ⟨S1024x9216, .f32⟩
  | .hbm, ⟨11, _⟩ => ⟨S1024x9x1024, .f32⟩
  | .hbm, ⟨12, _⟩ => ⟨S9x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Down.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S4x1x704x1024 : Shape := ⟨4, ![4, 1, 704, 1024]⟩
abbrev S4x704x1024 : Shape := ⟨3, ![4, 704, 1024]⟩
abbrev S2816x1024 : Shape := ⟨2, ![2816, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4x1x704x1024, .bf16⟩
  | .hbm, ⟨8, _⟩ => ⟨S4x704x1024, .bf16⟩
  | .hbm, ⟨9, _⟩ => ⟨S4x704x1024, .f32⟩
  | .hbm, ⟨10, _⟩ => ⟨S2816x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Out.lean ====
abbrev S4x4096x256 : Shape := ⟨3, ![4, 4096, 256]⟩
abbrev S4x1x256x1024 : Shape := ⟨4, ![4, 1, 256, 1024]⟩
abbrev S4096x1024 : Shape := ⟨2, ![4096, 1024]⟩
abbrev S1x1024 : Shape := ⟨2, ![1, 1024]⟩
abbrev S4x512x256 : Shape := ⟨3, ![4, 512, 256]⟩
abbrev S512x1024 : Shape := ⟨2, ![512, 1024]⟩
abbrev S1x512x256 : Shape := ⟨3, ![1, 512, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x256, .bf16⟩
  | .hbm, ⟨1, _⟩ => ⟨S4x1x256x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S4x512x256, .bf16⟩
  | .local _ .vmem, ⟨1, _⟩ => ⟨S4x512x256, .bf16⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4x4096x256 : Shape := ⟨3, ![4, 4096, 256]⟩
abbrev S4x1x256x1024 : Shape := ⟨4, ![4, 1, 256, 1024]⟩
abbrev S4096x1024 : Shape := ⟨2, ![4096, 1024]⟩
abbrev S1x1024 : Shape := ⟨2, ![1, 1024]⟩
abbrev S4096x4x256 : Shape := ⟨3, ![4096, 4, 256]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S4x1x256x1024, .bf16⟩
  | .hbm, ⟨2, _⟩ => ⟨S4096x1024, .f32⟩
  | .hbm, ⟨3, _⟩ => ⟨S1x1024, .f32⟩
  | .hbm, ⟨4, _⟩ => ⟨S4x4096x256, .f32⟩
  | .hbm, ⟨5, _⟩ => ⟨S4096x4x256, .f32⟩
  | .hbm, ⟨6, _⟩ => ⟨S4096x1024, .f32⟩
  | .hbm, ⟨7, _⟩ => ⟨S4x1x256x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S4x2x704x1024 : Shape := ⟨4, ![4, 2, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x2x704x1024, .bf16⟩
  | .hbm, ⟨5, _⟩ => ⟨S4x2x704x1024, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== UpRefIdeal.lean ====
abbrev S4096x1024 : Shape := ⟨2, ![4096, 1024]⟩
abbrev S1x1024 : Shape := ⟨2, ![1, 1024]⟩
abbrev S4x2x704x1024 : Shape := ⟨4, ![4, 2, 704, 1024]⟩
abbrev S_ : Shape := ⟨0, ![]⟩
abbrev S4096 : Shape := ⟨1, ![4096]⟩
abbrev S4096x1 : Shape := ⟨2, ![4096, 1]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x2x704x1024, .bf16⟩
  | .hbm, ⟨5, _⟩ => ⟨S4x2x704x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4x1x704x1024, .bf16⟩
  | .hbm, ⟨29, _⟩ => ⟨S4x704x1024, .bf16⟩
  | .hbm, ⟨30, _⟩ => ⟨S4x704x1024, .f32⟩
  | .hbm, ⟨31, _⟩ => ⟨S2816x1024, .f32⟩
  | .hbm, ⟨32, _⟩ => ⟨S1024x2816, .f32⟩
  | .hbm, ⟨33, _⟩ => ⟨S4x1x704x1024, .bf16⟩
  | .hbm, ⟨34, _⟩ => ⟨S4x704x1024, .bf16⟩
  | .hbm, ⟨35, _⟩ => ⟨S4x704x1024, .f32⟩
  | .hbm, ⟨36, _⟩ => ⟨S2816x1024, .f32⟩
  | .hbm, ⟨37, _⟩ => ⟨S1024x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x4x704, .f32⟩
  | .hbm, ⟨51, _⟩ => ⟨S4x4096x704, .f32⟩
  | .hbm, ⟨52, _⟩ => ⟨S4x4096x704, .bf16⟩
  | .hbm, ⟨53, _⟩ => ⟨S4096x4x704, .f32⟩
  | .hbm, ⟨54, _⟩ => ⟨S4x4096x704, .f32⟩
  | .hbm, ⟨55, _⟩ => ⟨S4x4096x704, .bf16⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Qkv.lean ====
abbrev S4096x1024 : Shape := ⟨2, ![4096, 1024]⟩
abbrev S1x1024 : Shape := ⟨2, ![1, 1024]⟩
abbrev S9x1x1024x1024 : Shape := ⟨4, ![9, 1, 1024, 1024]⟩
abbrev S9x4096x1024 : Shape := ⟨3, ![9, 4096, 1024]⟩
abbrev S1024x1024 : Shape := ⟨2, ![1024, 1024]⟩
abbrev S1x1x1024x1024 : Shape := ⟨4, ![1, 1, 1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9x1x1024x1024, .bf16⟩
  | .hbm, ⟨5, _⟩ => ⟨S9x4096x1024, .f32⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== QkvRefIdeal.lean ====
abbrev S4096x1024 : Shape := ⟨2, ![4096, 1024]⟩
abbrev S1x1024 : Shape := ⟨2, ![1, 1024]⟩
abbrev S9x1x1024x1024 : Shape := ⟨4, ![9, 1, 1024, 1024]⟩
abbrev S_ : Shape := ⟨0, ![]⟩
abbrev S4096 : Shape := ⟨1, ![4096]⟩
abbrev S4096x1 : Shape := ⟨2, ![4096, 1]⟩
abbrev S1024x1x9x1024 : Shape := ⟨4, ![1024, 1, 9, 1024]⟩
abbrev S1024x9216 : Shape := ⟨2, ![1024, 9216]⟩
abbrev S4096x9216 : Shape := ⟨2, ![4096, 9216]⟩
abbrev S4096x9x1024 : Shape := ⟨3, ![4096, 9, 1024]⟩
abbrev S9x4096x1024 : Shape := ⟨3, ![9, 4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S9x1x1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S9x1x1024x1024, .f32⟩
  | .hbm, ⟨28, _⟩ => ⟨S1024x1x9x1024, .f32⟩
  | .hbm, ⟨29, _⟩ => ⟨S1024x9216, .f32⟩
  | .hbm, ⟨30, _⟩ => ⟨S4096x9216, .f32⟩
  | .hbm, ⟨31, _⟩ => ⟨S4096x9x1024, .f32⟩
  | .hbm, ⟨32, _⟩ => ⟨S9x4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== In.lean ====
abbrev S4096x1024 : Shape := ⟨2, ![4096, 1024]⟩
abbrev S1x1024 : Shape := ⟨2, ![1, 1024]⟩
abbrev S4x1x1024x1024 : Shape := ⟨4, ![4, 1, 1024, 1024]⟩
abbrev S4x4096x1024 : Shape := ⟨3, ![4, 4096, 1024]⟩
abbrev S1024x1024 : Shape := ⟨2, ![1024, 1024]⟩
abbrev S1x1x1024x1024 : Shape := ⟨4, ![1, 1, 1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1x1024x1024, .bf16⟩
  | .hbm, ⟨5, _⟩ => ⟨S4x4096x1024, .f32⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InRefIdeal.lean ====
abbrev S4096x1024 : Shape := ⟨2, ![4096, 1024]⟩
abbrev S1x1024 : Shape := ⟨2, ![1, 1024]⟩
abbrev S4x1x1024x1024 : Shape := ⟨4, ![4, 1, 1024, 1024]⟩
abbrev S_ : Shape := ⟨0, ![]⟩
abbrev S4096 : Shape := ⟨1, ![4096]⟩
abbrev S4096x1 : Shape := ⟨2, ![4096, 1]⟩
abbrev S1024x1x4x1024 : Shape := ⟨4, ![1024, 1, 4, 1024]⟩
abbrev S1024x4096 : Shape := ⟨2, ![1024, 4096]⟩
abbrev S4096x4096 : Shape := ⟨2, ![4096, 4096]⟩
abbrev S4096x4x1024 : Shape := ⟨3, ![4096, 4, 1024]⟩
abbrev S4x4096x1024 : Shape := ⟨3, ![4, 4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x1x1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4x1x1024x1024, .f32⟩
  | .hbm, ⟨28, _⟩ => ⟨S1024x1x4x1024, .f32⟩
  | .hbm, ⟨29, _⟩ => ⟨S1024x4096, .f32⟩
  | .hbm, ⟨30, _⟩ => ⟨S4096x4096, .f32⟩
  | .hbm, ⟨31, _⟩ => ⟨S4096x4x1024, .f32⟩
  | .hbm, ⟨32, _⟩ => ⟨S4x4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== UpBwd0.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x2x704x1024, .bf16⟩
  | .hbm, ⟨3, _⟩ => ⟨S4x2x704x1024, .bf16⟩
  | .hbm, ⟨4, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpBwd0RefIdeal.lean ====
abbrev S4x4096x704 : Shape := ⟨3, ![4, 4096, 704]⟩
abbrev S4x2x704x1024 : Shape := ⟨4, ![4, 2, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S4096x1024 : Shape := ⟨2, ![4096, 1024]⟩
abbrev S4096x2816 : Shape := ⟨2, ![4096, 2816]⟩
abbrev S4096x4x704 : Shape := ⟨3, ![4096, 4, 704]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x2x704x1024, .bf16⟩
  | .hbm, ⟨3, _⟩ => ⟨S4x2x704x1024, .bf16⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S2816x1024, .f32⟩
  | .hbm, ⟨8, _⟩ => ⟨S1024x2816, .f32⟩
  | .hbm, ⟨9, _⟩ => ⟨S4x1x704x1024, .bf16⟩
  | .hbm, ⟨10, _⟩ => ⟨S4x704x1024, .bf16⟩
  | .hbm, ⟨11, _⟩ => ⟨S4x704x1024, .f32⟩
  | .hbm, ⟨12, _⟩ => ⟨S2816x1024, .f32⟩
  | .hbm, ⟨13, _⟩ => ⟨S1024x2816, .f32⟩
  | .hbm, ⟨14, _⟩ => ⟨S_, .f32⟩
  | .hbm, ⟨15, _⟩ => ⟨S4096x1024, .f32⟩
  | .hbm, ⟨16, _⟩ => ⟨S4096x2816, .f32⟩
  | .hbm, ⟨17, _⟩ => ⟨S4096x2816, .f32⟩
  | .hbm, ⟨18, _⟩ => ⟨S4x4096x704, .f32⟩
  | .hbm, ⟨19, _⟩ => ⟨S4096x4x704, .f32⟩
  | .hbm, ⟨20, _⟩ => ⟨S4096x2816, .f32⟩
  | .hbm, ⟨21, _⟩ => ⟨S4x4096x704, .f32⟩
  | .hbm, ⟨22, _⟩ => ⟨S4096x4x704, .f32⟩
  | .hbm, ⟨23, _⟩ => ⟨S4096x2816, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Down0.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Down0RefIdeal.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S4x1x704x1024 : Shape := ⟨4, ![4, 1, 704, 1024]⟩
abbrev S4x704x1024 : Shape := ⟨3, ![4, 704, 1024]⟩
abbrev S2816x1024 : Shape := ⟨2, ![2816, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4x1x704x1024, .bf16⟩
  | .hbm, ⟨8, _⟩ => ⟨S4x704x1024, .bf16⟩
  | .hbm, ⟨9, _⟩ => ⟨S4x704x1024, .f32⟩
  | .hbm, ⟨10, _⟩ => ⟨S2816x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Up0.lean ====
abbrev S4096x1024 : Shape := ⟨2, ![4096, 1024]⟩
abbrev S1x1024 : Shape := ⟨2, ![1, 1024]⟩
abbrev S4x2x704x1024 : Shape := ⟨4, ![4, 2, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x2x704x1024, .bf16⟩
  | .hbm, ⟨5, _⟩ => ⟨S4x2x704x1024, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .hbm, ⟨9, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Up0RefIdeal.lean ====
abbrev S4096x1024 : Shape := ⟨2, ![4096, 1024]⟩
abbrev S1x1024 : Shape := ⟨2, ![1, 1024]⟩
abbrev S4x2x704x1024 : Shape := ⟨4, ![4, 2, 704, 1024]⟩
abbrev S_ : Shape := ⟨0, ![]⟩
abbrev S4096 : Shape := ⟨1, ![4096]⟩
abbrev S4096x1 : Shape := ⟨2, ![4096, 1]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x2x704x1024, .bf16⟩
  | .hbm, ⟨5, _⟩ => ⟨S4x2x704x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4x1x704x1024, .bf16⟩
  | .hbm, ⟨29, _⟩ => ⟨S4x704x1024, .bf16⟩
  | .hbm, ⟨30, _⟩ => ⟨S4x704x1024, .f32⟩
  | .hbm, ⟨31, _⟩ => ⟨S2816x1024, .f32⟩
  | .hbm, ⟨32, _⟩ => ⟨S1024x2816, .f32⟩
  | .hbm, ⟨33, _⟩ => ⟨S4x1x704x1024, .bf16⟩
  | .hbm, ⟨34, _⟩ => ⟨S4x704x1024, .bf16⟩
  | .hbm, ⟨35, _⟩ => ⟨S4x704x1024, .f32⟩
  | .hbm, ⟨36, _⟩ => ⟨S2816x1024, .f32⟩
  | .hbm, ⟨37, _⟩ => ⟨S1024x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x4x704, .f32⟩
  | .hbm, ⟨51, _⟩ => ⟨S4x4096x704, .f32⟩
  | .hbm, ⟨52, _⟩ => ⟨S4x4096x704, .bf16⟩
  | .hbm, ⟨53, _⟩ => ⟨S4096x4x704, .f32⟩
  | .hbm, ⟨54, _⟩ => ⟨S4x4096x704, .f32⟩
  | .hbm, ⟨55, _⟩ => ⟨S4x4096x704, .bf16⟩
  | .hbm, ⟨56, _⟩ => ⟨S4096x4x704, .f32⟩
  | .hbm, ⟨57, _⟩ => ⟨S4x4096x704, .f32⟩
  | .hbm, ⟨58, _⟩ => ⟨S4x4096x704, .bf16⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== NormBwd0.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwd0RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S1x1, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S1024 : Shape := ⟨1, ![1024]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S1x1, .f32⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdaBwd.lean ====
abbrev S8x1024 : Shape := ⟨2, ![8, 1024]⟩
abbrev S2x8x1536 : Shape := ⟨3, ![2, 8, 1536]⟩
abbrev S2x1024x1536 : Shape := ⟨3, ![2, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaBwdRefIdeal.lean ====
abbrev S8x1024 : Shape := ⟨2, ![8, 1024]⟩
abbrev S2x8x1536 : Shape := ⟨3, ![2, 8, 1536]⟩
abbrev S_ : Shape := ⟨0, ![]⟩
abbrev S2x1024x1536 : Shape := ⟨3, ![2, 1024, 1536]⟩
abbrev S2x1x1536 : Shape := ⟨3, ![2, 1, 1536]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S1536x1024 : Shape := ⟨2, ![1536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S_, .f32⟩
  | .hbm, ⟨3, _⟩ => ⟨S2x1024x1536, .f32⟩
  | .hbm, ⟨4, _⟩ => ⟨S_, .f32⟩
  | .hbm, ⟨5, _⟩ => ⟨S2x1x1536, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1x1024x1536, .f32⟩
  | .hbm, ⟨16, _⟩ => ⟨S1024x1536, .f32⟩
  | .hbm, ⟨17, _⟩ => ⟨S8x1536, .f32⟩
  | .hbm, ⟨18, _⟩ => ⟨S1x1x1536, .f32⟩
  | .hbm, ⟨19, _⟩ => ⟨S1x1536, .f32⟩
  | .hbm, ⟨20, _⟩ => ⟨S8x1536, .f32⟩
  | .hbm, ⟨21, _⟩ => ⟨S8x1536, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S1x1024x1536, .f32⟩
  | .hbm, ⟨32, _⟩ => ⟨S1024x1536, .f32⟩
  | .hbm, ⟨33, _⟩ => ⟨S8x1536, .f32⟩
  | .hbm, ⟨34, _⟩ => ⟨S1x1x1536, .f32⟩
  | .hbm, ⟨35, _⟩ => ⟨S1x1536, .f32⟩
  | .hbm, ⟨36, _⟩ => ⟨S8x1536, .f32⟩
  | .hbm, ⟨37, _⟩ => ⟨S8x1536, .f32⟩
  | .hbm, ⟨38, _⟩ => ⟨S1x8x1536, .f32⟩
  | .hbm, ⟨39, _⟩ => ⟨S1x8x1536, .f32⟩
  | .hbm, ⟨40, _⟩ => ⟨S2x8x1536, .f32⟩
  | .hbm, ⟨41, _⟩ => ⟨S1x8x1536, .f32⟩
  | .hbm, ⟨42, _⟩ => ⟨S8x1536, .f32⟩
  | .hbm, ⟨43, _⟩ => ⟨S1x8x1536, .f32⟩
  | .hbm, ⟨44, _⟩ => ⟨S8x1536, .f32⟩
  | .hbm, ⟨45, _⟩ => ⟨S1536x1024, .f32⟩
  | .hbm, ⟨46, _⟩ => ⟨S1024x1536, .f32⟩
  | .hbm, ⟨47, _⟩ => ⟨S1x1024x1536, .f32⟩
  | .hbm, ⟨48, _⟩ => ⟨S_, .f32⟩
  | .hbm, ⟨49, _⟩ => ⟨S2x1024x1536, .f32⟩
  | .hbm, ⟨50, _⟩ => ⟨S1536x1024, .f32⟩
  | .hbm, ⟨51, _⟩ => ⟨S1024x1536, .f32⟩
  | .hbm, ⟨52, _⟩ => ⟨S1x1024x1536, .f32⟩
  | .hbm, ⟨53, _⟩ => ⟨S_, .f32⟩
  | .hbm, ⟨54, _⟩ => ⟨S2x1024x1536, .f32⟩
  | .hbm, ⟨55, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== AdaFwd.lean ====
abbrev S8x1024 : Shape := ⟨2, ![8, 1024]⟩
abbrev S2x1024x1536 : Shape := ⟨3, ![2, 1024, 1536]⟩
abbrev S2x1x1536 : Shape := ⟨3, ![2, 1, 1536]⟩
abbrev S2x8x1536 : Shape := ⟨3, ![2, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S2x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaFwdRefIdeal.lean ====
abbrev S8x1024 : Shape := ⟨2, ![8, 1024]⟩
abbrev S2x1024x1536 : Shape := ⟨3, ![2, 1024, 1536]⟩
abbrev S2x1x1536 : Shape := ⟨3, ![2, 1, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S2x8x1536 : Shape := ⟨3, ![2, 8, 1536]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1x1536, .f32⟩
  | .hbm, ⟨16, _⟩ => ⟨S1x1536, .f32⟩
  | .hbm, ⟨17, _⟩ => ⟨S8x1536, .f32⟩
  | .hbm, ⟨18, _⟩ => ⟨S8x1536, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S1x1024x1536, .f32⟩
  | .hbm, ⟨29, _⟩ => ⟨S1024x1536, .f32⟩
  | .hbm, ⟨30, _⟩ => ⟨S8x1536, .f32⟩
  | .hbm, ⟨31, _⟩ => ⟨S1x1x1536, .f32⟩
  | .hbm, ⟨32, _⟩ => ⟨S1x1536, .f32⟩
  | .hbm, ⟨33, _⟩ => ⟨S8x1536, .f32⟩
  | .hbm, ⟨34, _⟩ => ⟨S8x1536, .f32⟩
  | .hbm, ⟨35, _⟩ => ⟨S1x8x1536, .f32⟩
  | .hbm, ⟨36, _⟩ => ⟨S1x8x1536, .f32⟩
  | .hbm, ⟨37, _⟩ => ⟨S2x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== AdamQkv.lean ====
abbrev S1024x2304 : Shape := ⟨2, ![1024, 2304]⟩
abbrev S1x1024x2304 : Shape := ⟨3, ![1, 1024, 2304]⟩
abbrev S128x2304 : Shape := ⟨2, ![128, 2304]⟩
abbrev S1x128x2304 : Shape := ⟨3, ![1, 128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1x1024x2304, .f32⟩
  | .hbm, ⟨5, _⟩ => ⟨S1x1024x2304, .f32⟩
  | .hbm, ⟨6, _⟩ => ⟨S1x1024x2304, .f32⟩
  | .hbm, ⟨7, _⟩ => ⟨S1x1024x2304, .f32⟩
  | .local _ .vmem, ⟨0, _⟩ => ⟨S128x2304, .f32⟩
  | .local _ .vmem, ⟨1, _⟩ => ⟨S128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S1x128x2304, .f32⟩
  | .local _ .vmem, ⟨7, _⟩ => ⟨S1x128x2304, .f32⟩
  | .local _ .vmem, ⟨8, _⟩ => ⟨S1x128x2304, .f32⟩
  | .local _ .vmem, ⟨9, _⟩ => ⟨S1x128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | .local _ .vmem, ⟨14, _⟩ => ⟨S1x128x2304, .f32⟩
  | .local _ .vmem, ⟨15, _⟩ => ⟨S1x128x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamQkvIdeal.lean ====
abbrev S1024x2304 : Shape := ⟨2, ![1024, 2304]⟩
abbrev S1x1024x2304 : Shape := ⟨3, ![1, 1024, 2304]⟩
abbrev S128x2304 : Shape := ⟨2, ![128, 2304]⟩
abbrev S1x128x2304 : Shape := ⟨3, ![1, 128, 2304]⟩

abbrev nBuf : Space → Nat
  | .hbm => 8
  | .vmem => 16
  | .smem => 0
  | _ => 0

abbrev bufTy : (tb : Table) → Fin (tcTables nBuf tb) → BufTy
  | .hbm, ⟨0, _⟩ => ⟨S1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1x1024x2304, .f32⟩
  | .hbm, ⟨5, _⟩ => ⟨S1x1024x2304, .f32⟩
  | .hbm, ⟨6, _⟩ => ⟨S1x1024x2304, .f32⟩
  | .hbm, ⟨7, _⟩ => ⟨S1x1024x2304, .f32⟩
  | .local _ .vmem, ⟨0, _⟩ => ⟨S128x2304, .f32⟩
  | .local _ .vmem, ⟨1, _⟩ => ⟨S128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S1x128x2304, .f32⟩
  | .local _ .vmem, ⟨7, _⟩ => ⟨S1x128x2304, .f32⟩
  | .local _ .vmem, ⟨8, _⟩ => ⟨S1x128x2304, .f32⟩
  | .local _ .vmem, ⟨9, _⟩ => ⟨S1x128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | .local _ .vmem, ⟨14, _⟩ => ⟨S1x128x2304, .f32⟩
  | .local _ .vmem, ⟨15, _⟩ => ⟨S1x128x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamQkvRefIdeal.lean ====
abbrev S1024x2304 : Shape := ⟨2, ![1024, 2304]⟩
abbrev S1x1024x2304 : Shape := ⟨3, ![1, 1024, 2304]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1x1024x2304, .f32⟩
  | .hbm, ⟨5, _⟩ => ⟨S_, .f32⟩
  | .hbm, ⟨6, _⟩ => ⟨S1x1024x2304, .f32⟩
  | .hbm, ⟨7, _⟩ => ⟨S1x1024x2304, .f32⟩
  | .hbm, ⟨8, _⟩ => ⟨S_, .f32⟩
  | .hbm, ⟨9, _⟩ => ⟨S1x1024x2304, .f32⟩
  | .hbm, ⟨10, _⟩ => ⟨S1x1024x2304, .f32⟩
  | .hbm, ⟨11, _⟩ => ⟨S1x1024x2304, .f32⟩
  | .hbm, ⟨12, _⟩ => ⟨S_, .f32⟩
  | .hbm, ⟨13, _⟩ => ⟨S1x1024x2304, .f32⟩
  | .hbm, ⟨14, _⟩ => ⟨S1x1024x2304, .f32⟩
  | .hbm, ⟨15, _⟩ => ⟨S1x1024x2304, .f32⟩
  | .hbm, ⟨16, _⟩ => ⟨S_, .f32⟩
  | .hbm, ⟨17, _⟩ => ⟨S1x1024x2304, .f32⟩
  | .hbm, ⟨18, _⟩ => ⟨S1x1024x2304, .f32⟩
  | .hbm, ⟨19, _⟩ => ⟨S1x1024x2304, .f32⟩
  | .hbm, ⟨20, _⟩ => ⟨S_, .f32⟩
  | .hbm, ⟨21, _⟩ => ⟨S1x1024x2304, .f32⟩
  | .hbm, ⟨22, _⟩ => ⟨S1x1024x2304, .f32⟩
  | .hbm, ⟨23, _⟩ => ⟨S_, .f32⟩
  | .hbm, ⟨24, _⟩ => ⟨S1x1024x2304, .f32⟩
  | .hbm, ⟨25, _⟩ => ⟨S1x1024x2304, .f32⟩
  | .hbm, ⟨26, _⟩ => ⟨S1x1024x2304, .f32⟩
  | .hbm, ⟨27, _⟩ => ⟨S_, .f32⟩
  | .hbm, ⟨28, _⟩ => ⟨S1x1024x2304, .f32⟩
  | .hbm, ⟨29, _⟩ => ⟨S1x1024x2304, .f32⟩
  | .hbm, ⟨30, _⟩ => ⟨S1x1024x2304, .f32⟩
  | .hbm, ⟨31, _⟩ => ⟨S_, .f32⟩
  | .hbm, ⟨32, _⟩ => ⟨S1x1024x2304, .f32⟩
  | .hbm, ⟨33, _⟩ => ⟨S1x1024x2304, .f32⟩
  | .hbm, ⟨34, _⟩ => ⟨S1x1024x2304, .f32⟩
  | .hbm, ⟨35, _⟩ => ⟨S_, .f32⟩
  | .hbm, ⟨36, _⟩ => ⟨S1x1024x2304, .f32⟩
  | .hbm, ⟨37, _⟩ => ⟨S1x1024x2304, .f32⟩
  | .hbm, ⟨38, _⟩ => ⟨S1x1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamIn.lean ====
abbrev S1024x1024 : Shape := ⟨2, ![1024, 1024]⟩
abbrev S1x1024x1024 : Shape := ⟨3, ![1, 1024, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInIdeal.lean ====
abbrev S1024x1024 : Shape := ⟨2, ![1024, 1024]⟩
abbrev S1x1024x1024 : Shape := ⟨3, ![1, 1024, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S_, .f32⟩
  | .hbm, ⟨6, _⟩ => ⟨S1x1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S_, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S_, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S_, .f32⟩
  | .hbm, ⟨32, _⟩ => ⟨S1x1024x1024, .f32⟩
  | .hbm, ⟨33, _⟩ => ⟨S1x1024x1024, .f32⟩
  | .hbm, ⟨34, _⟩ => ⟨S1x1024x1024, .f32⟩
  | .hbm, ⟨35, _⟩ => ⟨S_, .f32⟩
  | .hbm, ⟨36, _⟩ => ⟨S1x1024x1024, .f32⟩
  | .hbm, ⟨37, _⟩ => ⟨S1x1024x1024, .f32⟩
  | .hbm, ⟨38, _⟩ => ⟨S1x1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩
abbrev S1x256x1024 : Shape := ⟨3, ![1, 256, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutIdeal.lean ====
abbrev S256x1024 : Shape := ⟨2, ![256, 1024]⟩
abbrev S1x256x1024 : Shape := ⟨3, ![1, 256, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S256x1024 : Shape := ⟨2, ![256, 1024]⟩
abbrev S1x256x1024 : Shape := ⟨3, ![1, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S1x256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamAda.lean ====
abbrev S2048x1536 : Shape := ⟨2, ![2048, 1536]⟩
abbrev S1x2048x1536 : Shape := ⟨3, ![1, 2048, 1536]⟩
abbrev S128x1536 : Shape := ⟨2, ![128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S1x2048x1536, .f32⟩
  | .hbm, ⟨7, _⟩ => ⟨S1x2048x1536, .f32⟩
  | .local _ .vmem, ⟨0, _⟩ => ⟨S128x1536, .f32⟩
  | .local _ .vmem, ⟨1, _⟩ => ⟨S128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaIdeal.lean ====
abbrev S2048x1536 : Shape := ⟨2, ![2048, 1536]⟩
abbrev S1x2048x1536 : Shape := ⟨3, ![1, 2048, 1536]⟩
abbrev S128x1536 : Shape := ⟨2, ![128, 1536]⟩
abbrev S1x128x1536 : Shape := ⟨3, ![1, 128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S1x2048x1536, .f32⟩
  | .hbm, ⟨7, _⟩ => ⟨S1x2048x1536, .f32⟩
  | .local _ .vmem, ⟨0, _⟩ => ⟨S128x1536, .f32⟩
  | .local _ .vmem, ⟨1, _⟩ => ⟨S128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAdaRefIdeal.lean ====
abbrev S2048x1536 : Shape := ⟨2, ![2048, 1536]⟩
abbrev S1x2048x1536 : Shape := ⟨3, ![1, 2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1x2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S_, .f32⟩
  | .hbm, ⟨6, _⟩ => ⟨S1x2048x1536, .f32⟩
  | .hbm, ⟨7, _⟩ => ⟨S1x2048x1536, .f32⟩
  | .hbm, ⟨8, _⟩ => ⟨S_, .f32⟩
  | .hbm, ⟨9, _⟩ => ⟨S1x2048x1536, .f32⟩
  | .hbm, ⟨10, _⟩ => ⟨S1x2048x1536, .f32⟩
  | .hbm, ⟨11, _⟩ => ⟨S1x2048x1536, .f32⟩
  | .hbm, ⟨12, _⟩ => ⟨S_, .f32⟩
  | .hbm, ⟨13, _⟩ => ⟨S1x2048x1536, .f32⟩
  | .hbm, ⟨14, _⟩ => ⟨S1x2048x1536, .f32⟩
  | .hbm, ⟨15, _⟩ => ⟨S1x2048x1536, .f32⟩
  | .hbm, ⟨16, _⟩ => ⟨S_, .f32⟩
  | .hbm, ⟨17, _⟩ => ⟨S1x2048x1536, .f32⟩
  | .hbm, ⟨18, _⟩ => ⟨S1x2048x1536, .f32⟩
  | .hbm, ⟨19, _⟩ => ⟨S1x2048x1536, .f32⟩
  | .hbm, ⟨20, _⟩ => ⟨S_, .f32⟩
  | .hbm, ⟨21, _⟩ => ⟨S1x2048x1536, .f32⟩
  | .hbm, ⟨22, _⟩ => ⟨S1x2048x1536, .f32⟩
  | .hbm, ⟨23, _⟩ => ⟨S_, .f32⟩
  | .hbm, ⟨24, _⟩ => ⟨S1x2048x1536, .f32⟩
  | .hbm, ⟨25, _⟩ => ⟨S1x2048x1536, .f32⟩
  | .hbm, ⟨26, _⟩ => ⟨S1x2048x1536, .f32⟩
  | .hbm, ⟨27, _⟩ => ⟨S_, .f32⟩
  | .hbm, ⟨28, _⟩ => ⟨S1x2048x1536, .f32⟩
  | .hbm, ⟨29, _⟩ => ⟨S1x2048x1536, .f32⟩
  | .hbm, ⟨30, _⟩ => ⟨S1x2048x1536, .f32⟩
  | .hbm, ⟨31, _⟩ => ⟨S_, .f32⟩
  | .hbm, ⟨32, _⟩ => ⟨S1x2048x1536, .f32⟩
  | .hbm, ⟨33, _⟩ => ⟨S1x2048x1536, .f32⟩
  | .hbm, ⟨34, _⟩ => ⟨S1x2048x1536, .f32⟩
  | .hbm, ⟨35, _⟩ => ⟨S_, .f32⟩
  | .hbm, ⟨36, _⟩ => ⟨S1x2048x1536, .f32⟩
  | .hbm, ⟨37, _⟩ => ⟨S1x2048x1536, .f32⟩
  | .hbm, ⟨38, _⟩ => ⟨S1x2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamFfn.lean ====
abbrev S704x1024 : Shape := ⟨2, ![704, 1024]⟩
abbrev S2x704x1024 : Shape := ⟨3, ![2, 704, 1024]⟩
abbrev S1x704x1024 : Shape := ⟨3, ![1, 704, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .f32⟩
  | .local _ .vmem, ⟨3, _⟩ => ⟨S704x1024, .f32⟩
  | .local _ .vmem, ⟨4, _⟩ => ⟨S1x704x1024, .f32⟩
  | .local _ .vmem, ⟨5, _⟩ => ⟨S1x704x1024, .f32⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnRefIdeal.lean ====
abbrev S704x1024 : Shape := ⟨2, ![704, 1024]⟩
abbrev S2x704x1024 : Shape := ⟨3, ![2, 704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamRel.lean ====
abbrev S32x24 : Shape := ⟨2, ![32, 24]⟩
abbrev S1x32x24 : Shape := ⟨3, ![1, 32, 24]⟩

abbrev nBuf : Space → Nat
  | .hbm => 8
  | .vmem => 8
  | .smem => 0
  | _ => 0

abbrev bufTy : (tb : Table) → Fin (tcTables nBuf tb) → BufTy
  | .hbm, ⟨0, _⟩ => ⟨S32x24, .f32⟩
  | .hbm, ⟨1, _⟩ => ⟨S1x32x24, .f32⟩
  | .hbm, ⟨2, _⟩ => ⟨S1x32x24, .f32⟩
  | .hbm, ⟨3, _⟩ => ⟨S1x32x24, .f32⟩
  | .hbm, ⟨4, _⟩ => ⟨S1x32x24, .f32⟩
  | .hbm, ⟨5, _⟩ => ⟨S1x32x24, .f32⟩
  | .hbm, ⟨6, _⟩ => ⟨S1x32x24, .f32⟩
  | .hbm, ⟨7, _⟩ => ⟨S1x32x24, .f32⟩
  | .local _ .vmem, ⟨0, _⟩ => ⟨S32x24, .f32⟩
  | .local _ .vmem, ⟨1, _⟩ => ⟨S1x32x24, .f32⟩
  | .local _ .vmem, ⟨2, _⟩ => ⟨S1x32x24, .f32⟩
  | .local _ .vmem, ⟨3, _⟩ => ⟨S1x32x24, .f32⟩
  | .local _ .vmem, ⟨4, _⟩ => ⟨S1x32x24, .f32⟩
  | .local _ .vmem, ⟨5, _⟩ => ⟨S1x32x24, .f32⟩
  | .local _ .vmem, ⟨6, _⟩ => ⟨S1x32x24, .f32⟩
  | .local _ .vmem, ⟨7, _⟩ => ⟨S1x32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamRelIdeal.lean ====
abbrev S32x24 : Shape := ⟨2, ![32, 24]⟩
abbrev S1x32x24 : Shape := ⟨3, ![1, 32, 24]⟩

abbrev nBuf : Space → Nat
  | .hbm => 8
  | .vmem => 8
  | .smem => 0
  | _ => 0

abbrev bufTy : (tb : Table) → Fin (tcTables nBuf tb) → BufTy
  | .hbm, ⟨0, _⟩ => ⟨S32x24, .f32⟩
  | .hbm, ⟨1, _⟩ => ⟨S1x32x24, .f32⟩
  | .hbm, ⟨2, _⟩ => ⟨S1x32x24, .f32⟩
  | .hbm, ⟨3, _⟩ => ⟨S1x32x24, .f32⟩
  | .hbm, ⟨4, _⟩ => ⟨S1x32x24, .f32⟩
  | .hbm, ⟨5, _⟩ => ⟨S1x32x24, .f32⟩
  | .hbm, ⟨6, _⟩ => ⟨S1x32x24, .f32⟩
  | .hbm, ⟨7, _⟩ => ⟨S1x32x24, .f32⟩
  | .local _ .vmem, ⟨0, _⟩ => ⟨S32x24, .f32⟩
  | .local _ .vmem, ⟨1, _⟩ => ⟨S1x32x24, .f32⟩
  | .local _ .vmem, ⟨2, _⟩ => ⟨S1x32x24, .f32⟩
  | .local _ .vmem, ⟨3, _⟩ => ⟨S1x32x24, .f32⟩
  | .local _ .vmem, ⟨4, _⟩ => ⟨S1x32x24, .f32⟩
  | .local _ .vmem, ⟨5, _⟩ => ⟨S1x32x24, .f32⟩
  | .local _ .vmem, ⟨6, _⟩ => ⟨S1x32x24, .f32⟩
  | .local _ .vmem, ⟨7, _⟩ => ⟨S1x32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamRelRefIdeal.lean ====
abbrev S32x24 : Shape := ⟨2, ![32, 24]⟩
abbrev S1x32x24 : Shape := ⟨3, ![1, 32, 24]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S1x32x24, .f32⟩
  | .hbm, ⟨2, _⟩ => ⟨S1x32x24, .f32⟩
  | .hbm, ⟨3, _⟩ => ⟨S1x32x24, .f32⟩
  | .hbm, ⟨4, _⟩ => ⟨S1x32x24, .f32⟩
  | .hbm, ⟨5, _⟩ => ⟨S_, .f32⟩
  | .hbm, ⟨6, _⟩ => ⟨S1x32x24, .f32⟩
  | .hbm, ⟨7, _⟩ => ⟨S1x32x24, .f32⟩
  | .hbm, ⟨8, _⟩ => ⟨S_, .f32⟩
  | .hbm, ⟨9, _⟩ => ⟨S1x32x24, .f32⟩
  | .hbm, ⟨10, _⟩ => ⟨S1x32x24, .f32⟩
  | .hbm, ⟨11, _⟩ => ⟨S1x32x24, .f32⟩
  | .hbm, ⟨12, _⟩ => ⟨S_, .f32⟩
  | .hbm, ⟨13, _⟩ => ⟨S1x32x24, .f32⟩
  | .hbm, ⟨14, _⟩ => ⟨S1x32x24, .f32⟩
  | .hbm, ⟨15, _⟩ => ⟨S1x32x24, .f32⟩
  | .hbm, ⟨16, _⟩ => ⟨S_, .f32⟩
  | .hbm, ⟨17, _⟩ => ⟨S1x32x24, .f32⟩
  | .hbm, ⟨18, _⟩ => ⟨S1x32x24, .f32⟩
  | .hbm, ⟨19, _⟩ => ⟨S1x32x24, .f32⟩
  | .hbm, ⟨20, _⟩ => ⟨S_, .f32⟩
  | .hbm, ⟨21, _⟩ => ⟨S1x32x24, .f32⟩
  | .hbm, ⟨22, _⟩ => ⟨S1x32x24, .f32⟩
  | .hbm, ⟨23, _⟩ => ⟨S_, .f32⟩
  | .hbm, ⟨24, _⟩ => ⟨S1x32x24, .f32⟩
  | .hbm, ⟨25, _⟩ => ⟨S1x32x24, .f32⟩
  | .hbm, ⟨26, _⟩ => ⟨S1x32x24, .f32⟩
  | .hbm, ⟨27, _⟩ => ⟨S_, .f32⟩
  | .hbm, ⟨28, _⟩ => ⟨S1x32x24, .f32⟩
  | .hbm, ⟨29, _⟩ => ⟨S1x32x24, .f32⟩
  | .hbm, ⟨30, _⟩ => ⟨S1x32x24, .f32⟩
  | .hbm, ⟨31, _⟩ => ⟨S_, .f32⟩
  | .hbm, ⟨32, _⟩ => ⟨S1x32x24, .f32⟩
  | .hbm, ⟨33, _⟩ => ⟨S1x32x24, .f32⟩
  | .hbm, ⟨34, _⟩ => ⟨S1x32x24, .f32⟩
  | .hbm, ⟨35, _⟩ => ⟨S_, .f32⟩
  | .hbm, ⟨36, _⟩ => ⟨S1x32x24, .f32⟩
  | .hbm, ⟨37, _⟩ => ⟨S1x32x24, .f32⟩
  | .hbm, ⟨38, _⟩ => ⟨S1x32x24, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamBias.lean ====
abbrev S2x6144 : Shape := ⟨2, ![2, 6144]⟩
abbrev S1x2x6144 : Shape := ⟨3, ![1, 2, 6144]⟩

abbrev nBuf : Space → Nat
  | .hbm => 8
  | .vmem => 8
  | .smem => 0
  | _ => 0

abbrev bufTy : (tb : Table) → Fin (tcTables nBuf tb) → BufTy
  | .hbm, ⟨0, _⟩ => ⟨S2x6144, .f32⟩
  | .hbm, ⟨1, _⟩ => ⟨S1x2x6144, .f32⟩
  | .hbm, ⟨2, _⟩ => ⟨S1x2x6144, .f32⟩
  | .hbm, ⟨3, _⟩ => ⟨S1x2x6144, .f32⟩
  | .hbm, ⟨4, _⟩ => ⟨S1x2x6144, .f32⟩
  | .hbm, ⟨5, _⟩ => ⟨S1x2x6144, .f32⟩
  | .hbm, ⟨6, _⟩ => ⟨S1x2x6144, .f32⟩
  | .hbm, ⟨7, _⟩ => ⟨S1x2x6144, .f32⟩
  | .local _ .vmem, ⟨0, _⟩ => ⟨S2x6144, .f32⟩
  | .local _ .vmem, ⟨1, _⟩ => ⟨S1x2x6144, .f32⟩
  | .local _ .vmem, ⟨2, _⟩ => ⟨S1x2x6144, .f32⟩
  | .local _ .vmem, ⟨3, _⟩ => ⟨S1x2x6144, .f32⟩
  | .local _ .vmem, ⟨4, _⟩ => ⟨S1x2x6144, .f32⟩
  | .local _ .vmem, ⟨5, _⟩ => ⟨S1x2x6144, .f32⟩
  | .local _ .vmem, ⟨6, _⟩ => ⟨S1x2x6144, .f32⟩
  | .local _ .vmem, ⟨7, _⟩ => ⟨S1x2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBiasIdeal.lean ====
abbrev S2x6144 : Shape := ⟨2, ![2, 6144]⟩
abbrev S1x2x6144 : Shape := ⟨3, ![1, 2, 6144]⟩

abbrev nBuf : Space → Nat
  | .hbm => 8
  | .vmem => 8
  | .smem => 0
  | _ => 0

abbrev bufTy : (tb : Table) → Fin (tcTables nBuf tb) → BufTy
  | .hbm, ⟨0, _⟩ => ⟨S2x6144, .f32⟩
  | .hbm, ⟨1, _⟩ => ⟨S1x2x6144, .f32⟩
  | .hbm, ⟨2, _⟩ => ⟨S1x2x6144, .f32⟩
  | .hbm, ⟨3, _⟩ => ⟨S1x2x6144, .f32⟩
  | .hbm, ⟨4, _⟩ => ⟨S1x2x6144, .f32⟩
  | .hbm, ⟨5, _⟩ => ⟨S1x2x6144, .f32⟩
  | .hbm, ⟨6, _⟩ => ⟨S1x2x6144, .f32⟩
  | .hbm, ⟨7, _⟩ => ⟨S1x2x6144, .f32⟩
  | .local _ .vmem, ⟨0, _⟩ => ⟨S2x6144, .f32⟩
  | .local _ .vmem, ⟨1, _⟩ => ⟨S1x2x6144, .f32⟩
  | .local _ .vmem, ⟨2, _⟩ => ⟨S1x2x6144, .f32⟩
  | .local _ .vmem, ⟨3, _⟩ => ⟨S1x2x6144, .f32⟩
  | .local _ .vmem, ⟨4, _⟩ => ⟨S1x2x6144, .f32⟩
  | .local _ .vmem, ⟨5, _⟩ => ⟨S1x2x6144, .f32⟩
  | .local _ .vmem, ⟨6, _⟩ => ⟨S1x2x6144, .f32⟩
  | .local _ .vmem, ⟨7, _⟩ => ⟨S1x2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBiasRefIdeal.lean ====
abbrev S2x6144 : Shape := ⟨2, ![2, 6144]⟩
abbrev S1x2x6144 : Shape := ⟨3, ![1, 2, 6144]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S1x2x6144, .f32⟩
  | .hbm, ⟨2, _⟩ => ⟨S1x2x6144, .f32⟩
  | .hbm, ⟨3, _⟩ => ⟨S1x2x6144, .f32⟩
  | .hbm, ⟨4, _⟩ => ⟨S1x2x6144, .f32⟩
  | .hbm, ⟨5, _⟩ => ⟨S_, .f32⟩
  | .hbm, ⟨6, _⟩ => ⟨S1x2x6144, .f32⟩
  | .hbm, ⟨7, _⟩ => ⟨S1x2x6144, .f32⟩
  | .hbm, ⟨8, _⟩ => ⟨S_, .f32⟩
  | .hbm, ⟨9, _⟩ => ⟨S1x2x6144, .f32⟩
  | .hbm, ⟨10, _⟩ => ⟨S1x2x6144, .f32⟩
  | .hbm, ⟨11, _⟩ => ⟨S1x2x6144, .f32⟩
  | .hbm, ⟨12, _⟩ => ⟨S_, .f32⟩
  | .hbm, ⟨13, _⟩ => ⟨S1x2x6144, .f32⟩
  | .hbm, ⟨14, _⟩ => ⟨S1x2x6144, .f32⟩
  | .hbm, ⟨15, _⟩ => ⟨S1x2x6144, .f32⟩
  | .hbm, ⟨16, _⟩ => ⟨S_, .f32⟩
  | .hbm, ⟨17, _⟩ => ⟨S1x2x6144, .f32⟩
  | .hbm, ⟨18, _⟩ => ⟨S1x2x6144, .f32⟩
  | .hbm, ⟨19, _⟩ => ⟨S1x2x6144, .f32⟩
  | .hbm, ⟨20, _⟩ => ⟨S_, .f32⟩
  | .hbm, ⟨21, _⟩ => ⟨S1x2x6144, .f32⟩
  | .hbm, ⟨22, _⟩ => ⟨S1x2x6144, .f32⟩
  | .hbm, ⟨23, _⟩ => ⟨S_, .f32⟩
  | .hbm, ⟨24, _⟩ => ⟨S1x2x6144, .f32⟩
  | .hbm, ⟨25, _⟩ => ⟨S1x2x6144, .f32⟩
  | .hbm, ⟨26, _⟩ => ⟨S1x2x6144, .f32⟩
  | .hbm, ⟨27, _⟩ => ⟨S_, .f32⟩
  | .hbm, ⟨28, _⟩ => ⟨S1x2x6144, .f32⟩
  | .hbm, ⟨29, _⟩ => ⟨S1x2x6144, .f32⟩
  | .hbm, ⟨30, _⟩ => ⟨S1x2x6144, .f32⟩
  | .hbm, ⟨31, _⟩ => ⟨S_, .f32⟩
  | .hbm, ⟨32, _⟩ => ⟨S1x2x6144, .f32⟩
  | .hbm, ⟨33, _⟩ => ⟨S1x2x6144, .f32⟩
  | .hbm, ⟨34, _⟩ => ⟨S1x2x6144, .f32⟩
  | .hbm, ⟨35, _⟩ => ⟨S_, .f32⟩
  | .hbm, ⟨36, _⟩ => ⟨S1x2x6144, .f32⟩
  | .hbm, ⟨37, _⟩ => ⟨S1x2x6144, .f32⟩
  | .hbm, ⟨38, _⟩ => ⟨S1x2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamNorm.lean ====
abbrev S2x1024 : Shape := ⟨2, ![2, 1024]⟩
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamNormIdeal.lean ====
abbrev S2x1024 : Shape := ⟨2, ![2, 1024]⟩
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamNormRefIdeal.lean ====
abbrev S2x1024 : Shape := ⟨2, ![2, 1024]⟩
abbrev S1x2x1024 : Shape := ⟨3, ![1, 2, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S_, .f32⟩
  | .hbm, ⟨6, _⟩ => ⟨S1x2x1024, .f32⟩
  | .hbm, ⟨7, _⟩ => ⟨S1x2x1024, .f32⟩
  | .hbm, ⟨8, _⟩ => ⟨S_, .f32⟩
  | .hbm, ⟨9, _⟩ => ⟨S1x2x1024, .f32⟩
  | .hbm, ⟨10, _⟩ => ⟨S1x2x1024, .f32⟩
  | .hbm, ⟨11, _⟩ => ⟨S1x2x1024, .f32⟩
  | .hbm, ⟨12, _⟩ => ⟨S_, .f32⟩
  | .hbm, ⟨13, _⟩ => ⟨S1x2x1024, .f32⟩
  | .hbm, ⟨14, _⟩ => ⟨S1x2x1024, .f32⟩
  | .hbm, ⟨15, _⟩ => ⟨S1x2x1024, .f32⟩
  | .hbm, ⟨16, _⟩ => ⟨S_, .f32⟩
  | .hbm, ⟨17, _⟩ => ⟨S1x2x1024, .f32⟩
  | .hbm, ⟨18, _⟩ => ⟨S1x2x1024, .f32⟩
  | .hbm, ⟨19, _⟩ => ⟨S1x2x1024, .f32⟩
  | .hbm, ⟨20, _⟩ => ⟨S_, .f32⟩
  | .hbm, ⟨21, _⟩ => ⟨S1x2x1024, .f32⟩
  | .hbm, ⟨22, _⟩ => ⟨S1x2x1024, .f32⟩
  | .hbm, ⟨23, _⟩ => ⟨S_, .f32⟩
  | .hbm, ⟨24, _⟩ => ⟨S1x2x1024, .f32⟩
  | .hbm, ⟨25, _⟩ => ⟨S1x2x1024, .f32⟩
  | .hbm, ⟨26, _⟩ => ⟨S1x2x1024, .f32⟩
  | .hbm, ⟨27, _⟩ => ⟨S_, .f32⟩
  | .hbm, ⟨28, _⟩ => ⟨S1x2x1024, .f32⟩
  | .hbm, ⟨29, _⟩ => ⟨S1x2x1024, .f32⟩
  | .hbm, ⟨30, _⟩ => ⟨S1x2x1024, .f32⟩
  | .hbm, ⟨31, _⟩ => ⟨S_, .f32⟩
  | .hbm, ⟨32, _⟩ => ⟨S1x2x1024, .f32⟩
  | .hbm, ⟨33, _⟩ => ⟨S1x2x1024, .f32⟩
  | .hbm, ⟨34, _⟩ => ⟨S1x2x1024, .f32⟩
  | .hbm, ⟨35, _⟩ => ⟨S_, .f32⟩
  | .hbm, ⟨36, _⟩ => ⟨S1x2x1024, .f32⟩
  | .hbm, ⟨37, _⟩ => ⟨S1x2x1024, .f32⟩
  | .hbm, ⟨38, _⟩ => ⟨S1x2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamGain.lean ====
abbrev S3x128 : Shape := ⟨2, ![3, 128]⟩
abbrev S1x3x128 : Shape := ⟨3, ![1, 3, 128]⟩

abbrev nBuf : Space → Nat
  | .hbm => 8
  | .vmem => 8
  | .smem => 0
  | _ => 0

abbrev bufTy : (tb : Table) → Fin (tcTables nBuf tb) → BufTy
  | .hbm, ⟨0, _⟩ => ⟨S3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x3x128, .f32⟩
  | .hbm, ⟨5, _⟩ => ⟨S1x3x128, .f32⟩
  | .hbm, ⟨6, _⟩ => ⟨S1x3x128, .f32⟩
  | .hbm, ⟨7, _⟩ => ⟨S1x3x128, .f32⟩
  | .local _ .vmem, ⟨0, _⟩ => ⟨S3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGainIdeal.lean ====
abbrev S3x128 : Shape := ⟨2, ![3, 128]⟩
abbrev S1x3x128 : Shape := ⟨3, ![1, 3, 128]⟩

abbrev nBuf : Space → Nat
  | .hbm => 8
  | .vmem => 8
  | .smem => 0
  | _ => 0

abbrev bufTy : (tb : Table) → Fin (tcTables nBuf tb) → BufTy
  | .hbm, ⟨0, _⟩ => ⟨S3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x3x128, .f32⟩
  | .hbm, ⟨5, _⟩ => ⟨S1x3x128, .f32⟩
  | .hbm, ⟨6, _⟩ => ⟨S1x3x128, .f32⟩
  | .hbm, ⟨7, _⟩ => ⟨S1x3x128, .f32⟩
  | .local _ .vmem, ⟨0, _⟩ => ⟨S3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x3x128, .f32⟩
  | .local _ .vmem, ⟨6, _⟩ => ⟨S1x3x128, .f32⟩
  | .local _ .vmem, ⟨7, _⟩ => ⟨S1x3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGainRefIdeal.lean ====
abbrev S3x128 : Shape := ⟨2, ![3, 128]⟩
abbrev S1x3x128 : Shape := ⟨3, ![1, 3, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x3x128, .f32⟩
  | .hbm, ⟨5, _⟩ => ⟨S_, .f32⟩
  | .hbm, ⟨6, _⟩ => ⟨S1x3x128, .f32⟩
  | .hbm, ⟨7, _⟩ => ⟨S1x3x128, .f32⟩
  | .hbm, ⟨8, _⟩ => ⟨S_, .f32⟩
  | .hbm, ⟨9, _⟩ => ⟨S1x3x128, .f32⟩
  | .hbm, ⟨10, _⟩ => ⟨S1x3x128, .f32⟩
  | .hbm, ⟨11, _⟩ => ⟨S1x3x128, .f32⟩
  | .hbm, ⟨12, _⟩ => ⟨S_, .f32⟩
  | .hbm, ⟨13, _⟩ => ⟨S1x3x128, .f32⟩
  | .hbm, ⟨14, _⟩ => ⟨S1x3x128, .f32⟩
  | .hbm, ⟨15, _⟩ => ⟨S1x3x128, .f32⟩
  | .hbm, ⟨16, _⟩ => ⟨S_, .f32⟩
  | .hbm, ⟨17, _⟩ => ⟨S1x3x128, .f32⟩
  | .hbm, ⟨18, _⟩ => ⟨S1x3x128, .f32⟩
  | .hbm, ⟨19, _⟩ => ⟨S1x3x128, .f32⟩
  | .hbm, ⟨20, _⟩ => ⟨S_, .f32⟩
  | .hbm, ⟨21, _⟩ => ⟨S1x3x128, .f32⟩
  | .hbm, ⟨22, _⟩ => ⟨S1x3x128, .f32⟩
  | .hbm, ⟨23, _⟩ => ⟨S_, .f32⟩
  | .hbm, ⟨24, _⟩ => ⟨S1x3x128, .f32⟩
  | .hbm, ⟨25, _⟩ => ⟨S1x3x128, .f32⟩
  | .hbm, ⟨26, _⟩ => ⟨S1x3x128, .f32⟩
  | .hbm, ⟨27, _⟩ => ⟨S_, .f32⟩
  | .hbm, ⟨28, _⟩ => ⟨S1x3x128, .f32⟩
  | .hbm, ⟨29, _⟩ => ⟨S1x3x128, .f32⟩
  | .hbm, ⟨30, _⟩ => ⟨S1x3x128, .f32⟩
  | .hbm, ⟨31, _⟩ => ⟨S_, .f32⟩
  | .hbm, ⟨32, _⟩ => ⟨S1x3x128, .f32⟩
  | .hbm, ⟨33, _⟩ => ⟨S1x3x128, .f32⟩
  | .hbm, ⟨34, _⟩ => ⟨S1x3x128, .f32⟩
  | .hbm, ⟨35, _⟩ => ⟨S_, .f32⟩
  | .hbm, ⟨36, _⟩ => ⟨S1x3x128, .f32⟩
  | .hbm, ⟨37, _⟩ => ⟨S1x3x128, .f32⟩
  | .hbm, ⟨38, _⟩ => ⟨S1x3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamGnorm.lean ====
abbrev S1x128 : Shape := ⟨2, ![1, 128]⟩
abbrev S1x1x128 : Shape := ⟨3, ![1, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x1x128, .f32⟩
  | .hbm, ⟨2, _⟩ => ⟨S1x1x128, .f32⟩
  | .hbm, ⟨3, _⟩ => ⟨S1x1x128, .f32⟩
  | .hbm, ⟨4, _⟩ => ⟨S1x1x128, .f32⟩
  | .hbm, ⟨5, _⟩ => ⟨S1x1x128, .f32⟩
  | .hbm, ⟨6, _⟩ => ⟨S1x1x128, .f32⟩
  | .hbm, ⟨7, _⟩ => ⟨S1x1x128, .f32⟩
  | .local _ .vmem, ⟨0, _⟩ => ⟨S1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGnormRefIdeal.lean ====
abbrev S1x128 : Shape := ⟨2, ![1, 128]⟩
abbrev S1x1x128 : Shape := ⟨3, ![1, 1, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1x128, .f32⟩
  | .hbm, ⟨2, _⟩ => ⟨S1x1x128, .f32⟩
  | .hbm, ⟨3, _⟩ => ⟨S1x1x128, .f32⟩
  | .hbm, ⟨4, _⟩ => ⟨S1x1x128, .f32⟩
  | .hbm, ⟨5, _⟩ => ⟨S_, .f32⟩
  | .hbm, ⟨6, _⟩ => ⟨S1x1x128, .f32⟩
  | .hbm, ⟨7, _⟩ => ⟨S1x1x128, .f32⟩
  | .hbm, ⟨8, _⟩ => ⟨S_, .f32⟩
  | .hbm, ⟨9, _⟩ => ⟨S1x1x128, .f32⟩
  | .hbm, ⟨10, _⟩ => ⟨S1x1x128, .f32⟩
  | .hbm, ⟨11, _⟩ => ⟨S1x1x128, .f32⟩
  | .hbm, ⟨12, _⟩ => ⟨S_, .f32⟩
  | .hbm, ⟨13, _⟩ => ⟨S1x1x128, .f32⟩
  | .hbm, ⟨14, _⟩ => ⟨S1x1x128, .f32⟩
  | .hbm, ⟨15, _⟩ => ⟨S1x1x128, .f32⟩
  | .hbm, ⟨16, _⟩ => ⟨S_, .f32⟩
  | .hbm, ⟨17, _⟩ => ⟨S1x1x128, .f32⟩
  | .hbm, ⟨18, _⟩ => ⟨S1x1x128, .f32⟩
  | .hbm, ⟨19, _⟩ => ⟨S1x1x128, .f32⟩
  | .hbm, ⟨20, _⟩ => ⟨S_, .f32⟩
  | .hbm, ⟨21, _⟩ => ⟨S1x1x128, .f32⟩
  | .hbm, ⟨22, _⟩ => ⟨S1x1x128, .f32⟩
  | .hbm, ⟨23, _⟩ => ⟨S_, .f32⟩
  | .hbm, ⟨24, _⟩ => ⟨S1x1x128, .f32⟩
  | .hbm, ⟨25, _⟩ => ⟨S1x1x128, .f32⟩
  | .hbm, ⟨26, _⟩ => ⟨S1x1x128, .f32⟩
  | .hbm, ⟨27, _⟩ => ⟨S_, .f32⟩
  | .hbm, ⟨28, _⟩ => ⟨S1x1x128, .f32⟩
  | .hbm, ⟨29, _⟩ => ⟨S1x1x128, .f32⟩
  | .hbm, ⟨30, _⟩ => ⟨S1x1x128, .f32⟩
  | .hbm, ⟨31, _⟩ => ⟨S_, .f32⟩
  | .hbm, ⟨32, _⟩ => ⟨S1x1x128, .f32⟩
  | .hbm, ⟨33, _⟩ => ⟨S1x1x128, .f32⟩
  | .hbm, ⟨34, _⟩ => ⟨S1x1x128, .f32⟩
  | .hbm, ⟨35, _⟩ => ⟨S_, .f32⟩
  | .hbm, ⟨36, _⟩ => ⟨S1x1x128, .f32⟩
  | .hbm, ⟨37, _⟩ => ⟨S1x1x128, .f32⟩
  | .hbm, ⟨38, _⟩ => ⟨S1x1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.GateKernel.lean ====
/- What the SwiGLU gate's gradient kernel leaves in its two result arrays, as one function of the argument arrays each.
   A grid point holds one tile of rows and one shard of columns: it multiplies its tile of `dz` by the shard's rows of the
   down projection (the product over the whole of the model width is taken at once, so no sum runs over grid points) and
   scales the product by the gate's derivatives, element by element. -/
module

public import proofs.«01_k».proof.Defs
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.GateKernel

open Cert.KernelIdeal Cert.KernelIdeal.Gen Idealize.ShloMosaic Idealize.ShloMosaic.TcCoe Idealize.SL.Sem

/-- The logistic function as the kernel spells it. -/
def sigm (x : EReal) : EReal := Ideal.div 1 (1 + Ideal.exp (0 - x))

/-- The gradient of the gated product at row `r` and column `k` of shard `s`: the row of `dz` times the row of the weight. -/
def du (dz : Vec Ideal S4096x1024 .bf16) (w : Vec Ideal S4x2x704x1024 .bf16) (s : Fin 4) (r : Fin 4096) (k : Fin 704) : EReal :=
  ∑ j : Fin 1024, dz (ix2 r j) * w (ix4 s 1 k j)

/-- The first result: the gradient of the gate's argument. -/
def G4 (dz : Vec Ideal S4096x1024 .bf16) (w : Vec Ideal S4x2x704x1024 .bf16) (a1 a3 : Vec Ideal S4x4096x704 .bf16) :
    Vec Ideal S4x4096x704 .bf16 :=
  fun i => du dz w (i 0) (i 1) (i 2) * a3 i * (sigm (a1 i) * (1 + a1 i * (1 - sigm (a1 i))))

/-- The second result: the gradient of the factor that the gate multiplies. -/
def G5 (dz : Vec Ideal S4096x1024 .bf16) (w : Vec Ideal S4x2x704x1024 .bf16) (a1 : Vec Ideal S4x4096x704 .bf16) :
    Vec Ideal S4x4096x704 .bf16 :=
  fun i => du dz w (i 0) (i 1) (i 2) * (a1 i * sigm (a1 i))

variable (m : (ℓ : Loc nD τ sig) → Buf (Elt Ideal) ℓ) (ρ : Dev nD → PrngReg)

/-- Where each window's block of grid point `t` lies. -/
theorem index : ∀ t : Fin cfg0.N,
    (win0_0.index t = ![(grid0.coords t 0).val, 0] ∧ win0_1.index t = ![(grid0.coords t 1).val, 1, 0, 0])
    ∧ (win0_2.index t = ![(grid0.coords t 1).val, (grid0.coords t 0).val, 0]
      ∧ win0_3.index t = ![(grid0.coords t 1).val, (grid0.coords t 0).val, 0])
    ∧ win0_4.index t = ![(grid0.coords t 1).val, (grid0.coords t 0).val, 0]
    ∧ win0_5.index t = ![(grid0.coords t 1).val, (grid0.coords t 0).val, 0] :=
  (by decide +kernel : ∀ t : Fin grid0.N, _)

theorem final4 (c : Dev nD) : (dats m 0 c).arrAt 4 cfg0.N
    = G4 (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]; frame_out
  pointwise [k0_pay4, k0_pay2, k0_pay3, G4, du, sigm]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  pointwise [k0_pay1, k0_pay2, k0_pay3, k0_pay5, G5, du, sigm]
  blk_point [iblk, V, index t]

end Cert.Proof.GateKernel

end
-- ==== Proof.Pre.lean ====
/- What the precondition says of the elements: none of the gated quantities is infinite. -/
module

public import proofs.«01_k».proof.Defs
public import proofs.«01_k».proof.Proof.Gen.Pre_finite
public import Idealize.ShloMosaic.Lib.Pointwise

@[expose] public section

set_option maxRecDepth 16384

noncomputable section

namespace Cert.Proof.Pre

open Idealize.ShloMosaic

/-- The conjunction of bits over a whole array is set only where every bit is. -/
theorem all_of_reduce {s t u : Shape} {axes : List (Fin s.rank)} (x : s.Idx → BitVec 1) (init : u.Idx → BitVec 1)
    (h : s.ReducesTo axes t) (hu : 0 < u.numel) (j : t.Idx) (hj : ∀ i, h.drop i = j)
    (e : Host.reduce IntOp.andi x init h hu j = 1#1) (i : s.Idx) : x i = 1#1 := by
  rw [Host.reduce_eq_fold] at e
  have key : ∀ S : Finset s.Idx, S.fold IntOp.andi (init (Shape.Idx.first hu)) x = 1#1 → ∀ i ∈ S, x i = 1#1 := by
    classical
    intro S
    induction S using Finset.induction_on with
    | empty => intro _ i hi; simp at hi
    | insert a S ha ih =>
      rw [Finset.fold_insert ha]
      intro e i hi
      have e' : x a &&& S.fold IntOp.andi (init (Shape.Idx.first hu)) x = 1#1 := e
      have two : ∀ p q : BitVec 1, p &&& q = 1#1 → p = 1#1 ∧ q = 1#1 := by decide
      obtain ⟨e1, e2⟩ := two _ _ e'
      rcases Finset.mem_insert.mp hi with rfl | hi
      · exact e1
      · exact ih e2 i hi
  exact key _ e i (Finset.mem_filter.mpr ⟨Finset.mem_univ i, hj i⟩)

/-- An extended real whose absolute value is below the word of infinity is finite. -/
theorem finite_of_lt (x : EReal) (h : Ideal.cmp .olt (max x (-x)) (Ideal.ofBits .f32 0x7F800000#32) = 1#1) : x ≠ ⊤ ∧ x ≠ ⊥ := by
  have lt : max x (-x) < Ideal.ofBits .f32 0x7F800000#32 := by
    by_contra hn
    simp [Ideal.cmp, hn] at h
  constructor
  · rintro rfl
    exact absurd (lt_of_le_of_lt (le_max_left _ _) lt) not_top_lt
  · rintro rfl
    exact absurd (lt_of_le_of_lt (le_max_right _ _) lt) (by rw [EReal.neg_bot]; exact not_top_lt)

/-- Under the precondition the elements of `dz`, of the weight and of `a3` are finite. -/
theorem finite (dz : FVec Ideal Cert.Pre_finite.S4096x1024 .bf16) (w : FVec Ideal Cert.Pre_finite.S4x2x704x1024 .bf16)
    (a1 a3 : FVec Ideal Cert.Pre_finite.S4x4096x704 .bf16)
    (h : Cert.Pre_finite.fn dz w a1 a3 = fun _ => 1#1) :
    (∀ i, dz i ≠ ⊤ ∧ dz i ≠ ⊥) ∧ (∀ i, w i ≠ ⊤ ∧ w i ≠ ⊥) ∧ ∀ i, a3 i ≠ ⊤ ∧ a3 i ≠ ⊥ := by
  have h := congrFun h default
  simp only [Cert.Pre_finite.fn] at h
  have two : ∀ p q : BitVec 1, p &&& q = 1#1 → p = 1#1 ∧ q = 1#1 := by decide
  obtain ⟨h12, h3⟩ := two _ _ h
  obtain ⟨h1, h2⟩ := two _ _ h12
  exact ⟨fun i => finite_of_lt _ (all_of_reduce _ _ _ _ _ (fun _ => funext fun a => a.elim0) h1 i),
    fun i => finite_of_lt _ (all_of_reduce _ _ _ _ _ (fun _ => funext fun a => a.elim0) h2 i),
    fun i => finite_of_lt _ (all_of_reduce _ _ _ _ _ (fun _ => funext fun a => a.elim0) h3 i)⟩

end Cert.Proof.Pre

end
-- ==== Proof.Gate.lean ====
/- The gate's gradient by the kernel and by the reference: one function of the arguments wherever the gated product is
   finite, and the claim about the two programs that this proves. -/
module

public import proofs.«01_k».proof.Proof.GateKernel
public import proofs.«01_k».proof.Proof.Pre
public import proofs.«01_k».proof.Proof.Gen.ReferenceIdeal.Run
public import Idealize.ShloMosaic.Lib.Claim

@[expose] public section

set_option maxRecDepth 16384

noncomputable section

namespace Cert.Proof.Gate

open Idealize.ShloMosaic Idealize.ShloMosaic.TcCoe Idealize.SL.Sem Cert.Proof.GateKernel

/-- The kernel's derivative of the gate against the product rule's two terms. `a` may be infinite; `g` is finite. -/
theorem gate (g : ℝ) (a : EReal) :
    g * sigm a + a * g * (sigm a * (1 - sigm a)) = g * (sigm a * (1 + a * (1 - sigm a))) := by
  induction a with
  | bot =>
    have e : sigm ⊥ = 0 := by
      rw [sigm, zero_sub]; exact Ideal.logistic_bot
    simp [e]
  | top =>
    have e : sigm ⊤ = 1 := by
      rw [sigm, zero_sub]; exact Ideal.logistic_top
    have h1 : (1 : EReal) - 1 = 0 := EReal.sub_self (by decide) (by decide)
    simp [e, h1]
  | coe a =>
    have e : sigm (a : EReal) = (((1 + Real.exp (-a))⁻¹ : ℝ) : EReal) := by
      rw [sigm, zero_sub]; exact Ideal.logistic_coe a
    rw [e]
    generalize (1 + Real.exp (-a))⁻¹ = s
    norm_cast
    ring

/-- A product of finite factors is finite. -/
theorem real_mul (x y : EReal) (hx : x ≠ ⊤ ∧ x ≠ ⊥) (hy : y ≠ ⊤ ∧ y ≠ ⊥) : ∃ r : ℝ, x * y = r :=
  ⟨x.toReal * y.toReal, by rw [EReal.coe_mul, EReal.coe_toReal hx.1 hx.2, EReal.coe_toReal hy.1 hy.2]⟩

/-- A sum of products of finite factors is finite. -/
theorem real_sum {ι : Type} [Fintype ι] (f g : ι → EReal) (hf : ∀ i, f i ≠ ⊤ ∧ f i ≠ ⊥) (hg : ∀ i, g i ≠ ⊤ ∧ g i ≠ ⊥) :
    ∃ r : ℝ, ∑ i, f i * g i = r :=
  Finset.sum_induction (fun i => f i * g i) (fun x : EReal => ∃ r : ℝ, x = r)
    (fun _ _ ⟨r, hr⟩ ⟨s, hs⟩ => ⟨r + s, by rw [hr, hs, EReal.coe_add]⟩) ⟨0, rfl⟩ fun i _ => real_mul _ _ (hf i) (hg i)

/-- The kernel and the reference over the extended reals: one value of each result wherever `dz`, the weight and `a3` are
    finite. The first result is the product rule (`gate`), the second a reordering of factors. -/
theorem algebraic : Cert.algebraic_KernelIdeal_ReferenceIdeal_pre_finite := by
  pair_intro
  · run_from Cert.KernelIdeal.Gen.run_main m g
  · run_from Cert.ReferenceIdeal.Value.run m' g'
    · refine Eq.trans ?_ (final4 m c).symm
      obtain ⟨hd, hw, h3⟩ := Pre.finite _ _ _ _ (hpre c)
      generalize m (c.tc.loc KernelIdeal.main_arg0) = dz at *
      generalize m (c.tc.loc KernelIdeal.main_arg1) = w at *
      generalize m (c.tc.loc KernelIdeal.main_arg2) = a1 at *
      generalize m (c.tc.loc KernelIdeal.main_arg3) = a3 at *
      clear hagree hpre
      refine funext fun i => ?_
      idx_vars i
      pointwise [G4]
      have hx : ∃ r : ℝ, du dz w i0 i1 i2 = r :=
        real_sum _ _ (fun j => hd (ix2 i1 j)) (fun j => hw (ix4 i0 1 i2 j))
      obtain ⟨x, hx⟩ := hx
      obtain ⟨y, hy⟩ : ∃ r : ℝ, (show EReal from a3 (ix3 i0 i1 i2)) = (r : EReal) :=
        ⟨_, (EReal.coe_toReal (h3 (ix3 i0 i1 i2)).1 (h3 (ix3 i0 i1 i2)).2).symm⟩
      have key := gate (x * y) (a1 (ix3 i0 i1 i2))
      rw [EReal.coe_mul, ← hx, ← hy] at key
      have neg : ∀ t : EReal, Ideal.div 1 (1 + Ideal.exp (-t)) = sigm t := fun t => by rw [sigm, zero_sub]
      simp only [neg]
      exact key
    · refine Eq.trans ?_ (final5 m c).symm
      generalize m (c.tc.loc KernelIdeal.main_arg0) = dz at *
      generalize m (c.tc.loc KernelIdeal.main_arg1) = w at *
      generalize m (c.tc.loc KernelIdeal.main_arg2) = a1 at *
      clear hagree hpre
      refine funext fun i => ?_
      idx_vars i
      pointwise [G5]
      have neg : ∀ t : EReal, Ideal.div 1 (1 + Ideal.exp (-t)) = sigm t := fun t => by rw [sigm, zero_sub]
      simp only [neg]
      exact mul_comm _ _

end Cert.Proof.Gate

end
-- ==== Proof.UpBwd.lean ====
/- The gradient of the feed-forward block's input: what the kernel leaves in its result, as one function of the arguments,
   and the claim about the two programs. A grid point holds one tile of rows and adds the products of the four shards. -/
module

public import proofs.«01_k».proof.Defs
public import proofs.«01_k».proof.Proof.Gen.UpBwdIdeal.Frame
public import proofs.«01_k».proof.Proof.Gen.UpBwdRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.UpBwd

open Cert.UpBwdIdeal Cert.UpBwdIdeal.Gen Idealize.ShloMosaic Idealize.ShloMosaic.TcCoe Idealize.SL.Sem

/-- The gradient at row `r` and input `j`: both products, over every shard and every column of it. -/
def G (d1 d3 : Vec Ideal S4x4096x704 .bf16) (w1 w3 : Vec Ideal S4x2x704x1024 .bf16) : Vec Ideal S4096x1024 .f32 :=
  fun i => ∑ s : Fin 4, (∑ k : Fin 704, d1 (ix3 s (i 0) k) * w1 (ix4 s 1 k (i 1)) + ∑ k : Fin 704, d3 (ix3 s (i 0) k) * w3 (ix4 s 1 k (i 1)))

variable (m : (ℓ : Loc nD τ sig) → Buf (Elt Ideal) ℓ) (ρ : Dev nD → PrngReg)

/-- Where each window's block of grid point `t` lies. -/
theorem index : ∀ t : Fin cfg0.N,
    (win0_0.index t = ![0, t.val, 0] ∧ win0_1.index t = ![0, t.val, 0])
    ∧ (win0_2.index t = ![0, 1, 0, 0] ∧ win0_3.index t = ![0, 1, 0, 0]) ∧ win0_4.index t = ![t.val, 0] :=
  (by decide +kernel : ∀ t : Fin grid0.N, _)

theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]; frame_out
  pointwise [k0_pay1, k0_pay2, G]
  simp only [Fin.sum_univ_four]
  blk_point [iblk, V, index t]

/-- The kernel and the reference over the extended reals. -/
theorem algebraic : Cert.algebraic_UpBwdIdeal_UpBwdRefIdeal := by
  pair_intro
  · run_from Cert.UpBwdIdeal.Gen.run_main m g
  · run_from Cert.UpBwdRefIdeal.Value.run m' g'
    refine Eq.trans ?_ (final m c).symm
    generalize m (c.tc.loc UpBwdIdeal.main_arg0) = d1 at *
    generalize m (c.tc.loc UpBwdIdeal.main_arg1) = d3 at *
    generalize m (c.tc.loc UpBwdIdeal.main_arg2) = w1 at *
    generalize m (c.tc.loc UpBwdIdeal.main_arg3) = w3 at *
    clear hagree
    refine funext fun i => ?_
    idx_vars i
    pointwise [G]
    rw [Finset.sum_add_distrib, add_comm]
    exact congrArg₂ (· + ·) (Fin.sum_divmod_congr fun x ha hs => rfl) (Fin.sum_divmod_congr fun x ha hs => rfl)

end Cert.Proof.UpBwd

end
-- ==== Proof.DwUp.lean ====
/- The gradients of the two up projections: what the kernel leaves in its results, as one function of the arguments, and
   the claim about the two programs. A grid point holds one shard of columns and half of the rows; the two points of a
   shard add their halves of the sum over the rows, in both results. -/
module

public import proofs.«01_k».proof.Defs
public import proofs.«01_k».proof.Proof.Gen.DwUpIdeal.Frame
public import proofs.«01_k».proof.Proof.Gen.DwUpRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.DwUp

open Cert.DwUpIdeal Cert.DwUpIdeal.Gen Idealize.ShloMosaic Idealize.ShloMosaic.TcCoe Idealize.SL.Sem

/-- The gradient at column `k` of shard `s` and input `j`: the sum over the rows. -/
def G (a : Vec Ideal S4x4096x704 .bf16) (h : Vec Ideal S4096x1024 .bf16) : Vec Ideal S4x704x1024 .f32 :=
  fun i => ∑ r : Fin 4096, a (ix3 (i 0) r (i 1)) * h (ix2 r (i 2))

variable (m : (ℓ : Loc nD τ sig) → Buf (Elt Ideal) ℓ) (ρ : Dev nD → PrngReg)

/-- Where each window's block of grid point `t` lies. -/
theorem index : ∀ t : Fin cfg0.N,
    (win0_0.index t = ![t.val / 2, t.val % 2, 0] ∧ win0_1.index t = ![t.val / 2, t.val % 2, 0])
    ∧ win0_2.index t = ![t.val % 2, 0] ∧ win0_3.index t = ![t.val / 2, 0, 0] ∧ win0_4.index t = ![t.val / 2, 0, 0] :=
  (by decide +kernel : ∀ t : Fin grid0.N, _)

/-- One point's step of the first result: the block as it was, plus the point's rows. -/
theorem step (acc : Vec Ideal S1x704x1024 .f32) (x : Vec Ideal S1x2048x704 .bf16) (z : Vec Ideal S2048x1024 .bf16)
    (j : S1x704x1024.Idx) :
    k0_pay2 acc x z j = acc j + ∑ r : Fin 2048, x (ix3 0 r (j 1)) * z (ix2 r (j 2)) := by
  idx_vars j
  obtain rfl : j0 = 0 := Subsingleton.elim _ _
  pointwise [k0_pay2]

/-- The second result's step is the first's. -/
theorem step' (acc : Vec Ideal S1x704x1024 .f32) (x : Vec Ideal S1x2048x704 .bf16) (z : Vec Ideal S2048x1024 .bf16)
    (j : S1x704x1024.Idx) :
    k0_pay4 acc x z j = acc j + ∑ r : Fin 2048, x (ix3 0 r (j 1)) * z (ix2 r (j 2)) :=
  step acc x z j

/-- A shard's block of the first result starts at zero. -/
theorem start (j : S1x704x1024.Idx) : k0_pay1 (F := Ideal) j = 0 := by
  idx_vars j
  pointwise [k0_pay1]

/-- So does its block of the second. -/
theorem start' (j : S1x704x1024.Idx) : k0_pay3 (F := Ideal) j = 0 := start j

theorem final3 (c : Dev nD) : (dats m 0 c).arrAt 3 cfg0.N
    = G (m ((c : Thread nD τ).loc main_arg0)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h).1) 2 (fun _ => 0) _
    (fun t h j => by rw [outsAt0_A m c t h h]; frame_out; rw [step, start])
    (fun t h j => by rw [outsAt0_B m c t h h]; frame_out; rw [step]) t ((flush0_3 t).mp hf), zero_add]
  pointwise [G]
  refine Fin.sum_mul_add_congr fun s k hl => ?_
  blk_point [iblk, V, index ⟨2 * (t.val / 2) + s.val, _⟩, index t]

theorem final4 (c : Dev nD) : (dats m 0 c).arrAt 4 cfg0.N
    = G (m ((c : Thread nD τ).loc main_arg1)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 2 (fun _ => 0) _
    (fun t h j => by rw [outsAt0_A m c t h h]; frame_out; rw [step', start'])
    (fun t h j => by rw [outsAt0_B m c t h h]; frame_out; rw [step']) t ((flush0_4 t).mp hf), zero_add]
  pointwise [G]
  refine Fin.sum_mul_add_congr fun s k hl => ?_
  blk_point [iblk, V, index ⟨2 * (t.val / 2) + s.val, _⟩, index t]

/-- The kernel and the reference over the extended reals. -/
theorem algebraic : Cert.algebraic_DwUpIdeal_DwUpRefIdeal := by
  pair_intro
  · run_from Cert.DwUpIdeal.Gen.run_main m g
  · run_from Cert.DwUpRefIdeal.Value.run m' g'
    · refine Eq.trans ?_ (final3 m c).symm
      generalize m (c.tc.loc DwUpIdeal.main_arg0) = a at *
      generalize m (c.tc.loc DwUpIdeal.main_arg2) = h at *
      clear hagree
      refine funext fun i => ?_
      idx_vars i
      pointwise [G]
    · refine Eq.trans ?_ (final4 m c).symm
      generalize m (c.tc.loc DwUpIdeal.main_arg1) = a at *
      generalize m (c.tc.loc DwUpIdeal.main_arg2) = h at *
      clear hagree
      refine funext fun i => ?_
      idx_vars i
      pointwise [G]

end Cert.Proof.DwUp

end
-- ==== Proof.DwDown.lean ====
/- The gradient of the down projection: what the kernel leaves in its result, as one function of the two arguments, and the
   claim about the two programs. A grid point holds one shard of columns and half of the rows; the two points of a shard
   add their halves of the sum over the rows. -/
module

public import proofs.«01_k».proof.Defs
public import proofs.«01_k».proof.Proof.Gen.DwDownIdeal.Frame
public import proofs.«01_k».proof.Proof.Gen.DwDownRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.DwDown

open Cert.DwDownIdeal Cert.DwDownIdeal.Gen Idealize.ShloMosaic Idealize.ShloMosaic.TcCoe Idealize.SL.Sem

/-- The gradient at column `k` of shard `s` and output `j`: the sum over the rows. -/
def G (a : Vec Ideal S4x4096x704 .bf16) (dz : Vec Ideal S4096x1024 .bf16) : Vec Ideal S4x704x1024 .f32 :=
  fun i => ∑ r : Fin 4096, a (ix3 (i 0) r (i 1)) * dz (ix2 r (i 2))

variable (m : (ℓ : Loc nD τ sig) → Buf (Elt Ideal) ℓ) (ρ : Dev nD → PrngReg)

/-- One point's step: the block as it was, plus the point's rows. -/
theorem step (acc : Vec Ideal S1x704x1024 .f32) (x : Vec Ideal S1x2048x704 .bf16) (z : Vec Ideal S2048x1024 .bf16)
    (j : S1x704x1024.Idx) :
    k0_pay2 acc x z j = acc j + ∑ r : Fin 2048, x (ix3 0 r (j 1)) * z (ix2 r (j 2)) := by
  idx_vars j
  obtain rfl : j0 = 0 := Subsingleton.elim _ _
  pointwise [k0_pay2]

/-- A shard's block starts at zero. -/
theorem start (j : S1x704x1024.Idx) : k0_pay1 (F := Ideal) j = 0 := by
  idx_vars j
  pointwise [k0_pay1]

/-- Where each window's block of grid point `t` lies. -/
theorem index : ∀ t : Fin cfg0.N,
    win0_0.index t = ![t.val / 2, t.val % 2, 0] ∧ win0_1.index t = ![t.val % 2, 0] ∧ win0_2.index t = ![t.val / 2, 0, 0] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [step, start])
    (fun t h j => by rw [outsAt0_B m c t h]; frame_out; rw [step]) t ((flush0_2 t).mp hf), zero_add]
  pointwise [G]
  refine Fin.sum_mul_add_congr fun s k hl => ?_
  blk_point [iblk, V, index ⟨2 * (t.val / 2) + s.val, _⟩, index t]

/-- The kernel and the reference over the extended reals. -/
theorem algebraic : Cert.algebraic_DwDownIdeal_DwDownRefIdeal := by
  pair_intro
  · run_from Cert.DwDownIdeal.Gen.run_main m g
  · run_from Cert.DwDownRefIdeal.Value.run m' g'
    refine Eq.trans ?_ (final m c).symm
    generalize m (c.tc.loc DwDownIdeal.main_arg0) = a at *
    generalize m (c.tc.loc DwDownIdeal.main_arg1) = dz at *
    clear hagree
    refine funext fun i => ?_
    idx_vars i
    pointwise [G]
    exact Finset.sum_congr rfl fun r _ => mul_comm _ _

end Cert.Proof.DwDown

end
-- ==== Proof.DwOut.lean ====
/- The gradient of a mixer's output projection: what the kernel leaves in its result, as one function of the two arguments, and the
   claim about the two programs. A grid point holds one shard of columns and half of the rows; the two points of a shard
   add their halves of the sum over the rows. -/
module

public import proofs.«01_k».proof.Defs
public import proofs.«01_k».proof.Proof.Gen.DwOutIdeal.Frame
public import proofs.«01_k».proof.Proof.Gen.DwOutRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.DwOut

open Cert.DwOutIdeal Cert.DwOutIdeal.Gen Idealize.ShloMosaic Idealize.ShloMosaic.TcCoe Idealize.SL.Sem

/-- The gradient at column `k` of shard `s` and output `j`: the sum over the rows. -/
def G (a : Vec Ideal S4x4096x256 .bf16) (dz : Vec Ideal S4096x1024 .bf16) : Vec Ideal S4x256x1024 .f32 :=
  fun i => ∑ r : Fin 4096, a (ix3 (i 0) r (i 1)) * dz (ix2 r (i 2))

variable (m : (ℓ : Loc nD τ sig) → Buf (Elt Ideal) ℓ) (ρ : Dev nD → PrngReg)

/-- One point's step: the block as it was, plus the point's rows. -/
theorem step (acc : Vec Ideal S1x256x1024 .f32) (x : Vec Ideal S1x2048x256 .bf16) (z : Vec Ideal S2048x1024 .bf16)
    (j : S1x256x1024.Idx) :
    k0_pay2 acc x z j = acc j + ∑ r : Fin 2048, x (ix3 0 r (j 1)) * z (ix2 r (j 2)) := by
  idx_vars j
  obtain rfl : j0 = 0 := Subsingleton.elim _ _
  pointwise [k0_pay2]

/-- A shard's block starts at zero. -/
theorem start (j : S1x256x1024.Idx) : k0_pay1 (F := Ideal) j = 0 := by
  idx_vars j
  pointwise [k0_pay1]

/-- Where each window's block of grid point `t` lies. -/
theorem index : ∀ t : Fin cfg0.N,
    win0_0.index t = ![t.val / 2, t.val % 2, 0] ∧ win0_1.index t = ![t.val % 2, 0] ∧ win0_2.index t = ![t.val / 2, 0, 0] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [step, start])
    (fun t h j => by rw [outsAt0_B m c t h]; frame_out; rw [step]) t ((flush0_2 t).mp hf), zero_add]
  pointwise [G]
  refine Fin.sum_mul_add_congr fun s k hl => ?_
  blk_point [iblk, V, index ⟨2 * (t.val / 2) + s.val, _⟩, index t]

/-- The kernel and the reference over the extended reals. -/
theorem algebraic : Cert.algebraic_DwOutIdeal_DwOutRefIdeal := by
  pair_intro
  · run_from Cert.DwOutIdeal.Gen.run_main m g
  · run_from Cert.DwOutRefIdeal.Value.run m' g'
    refine Eq.trans ?_ (final m c).symm
    generalize m (c.tc.loc DwOutIdeal.main_arg0) = a at *
    generalize m (c.tc.loc DwOutIdeal.main_arg1) = dz at *
    clear hagree
    refine funext fun i => ?_
    idx_vars i
    pointwise [G]
    exact Finset.sum_congr rfl fun r _ => mul_comm _ _

end Cert.Proof.DwOut

end
-- ==== Proof.OutBwd.lean ====
/- The gradient of what a mixer's output projection multiplies: what the kernel leaves in its result, as one function of
   the arguments, and the claim about the two programs. A grid point holds one tile of rows and one shard of columns. -/
module

public import proofs.«01_k».proof.Defs
public import proofs.«01_k».proof.Proof.Gen.OutBwdIdeal.Frame
public import proofs.«01_k».proof.Proof.Gen.OutBwdRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.OutBwd

open Cert.OutBwdIdeal Cert.OutBwdIdeal.Gen Idealize.ShloMosaic Idealize.ShloMosaic.TcCoe Idealize.SL.Sem

/-- The gradient at row `r` and column `k` of shard `s`: the row of `dz` times the row of the weight. -/
def G (dz : Vec Ideal S4096x1024 .bf16) (w : Vec Ideal S4x1x256x1024 .bf16) : Vec Ideal S4x4096x256 .f32 :=
  fun i => ∑ j : Fin 1024, dz (ix2 (i 1) j) * w (ix4 (i 0) 0 (i 2) j)

variable (m : (ℓ : Loc nD τ sig) → Buf (Elt Ideal) ℓ) (ρ : Dev nD → PrngReg)

/-- Where each window's block of grid point `t` lies. -/
theorem index : ∀ t : Fin cfg0.N,
    win0_0.index t = ![t.val / 4, 0] ∧ win0_1.index t = ![t.val % 4, 0, 0, 0] ∧ win0_2.index t = ![t.val % 4, t.val / 4, 0] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G]
  blk_point [iblk, V, index t]

/-- The weight's matrix, its rows numbered through the shards. -/
theorem row (w : Vec Ideal S4x1x256x1024 .f32) (h : S4x1x256x1024.ShapeCasts OutBwdRefIdeal.S1024x1024) (s : Fin 4) (k : Fin 256)
    (j : Fin 1024) :
    shapeCast OutBwdRefIdeal.S1024x1024 w h (ix2 ⟨s.val * 256 + k.val, by omega⟩ j) = w (ix4 s 0 k j) := by
  pointwise

/-- The kernel and the reference over the extended reals. -/
theorem algebraic : Cert.algebraic_OutBwdIdeal_OutBwdRefIdeal := by
  pair_intro
  · run_from Cert.OutBwdIdeal.Gen.run_main m g
  · run_from Cert.OutBwdRefIdeal.Value.run m' g'
    refine Eq.trans ?_ (final m c).symm
    generalize m (c.tc.loc OutBwdIdeal.main_arg0) = dz at *
    generalize m (c.tc.loc OutBwdIdeal.main_arg1) = w at *
    clear hagree
    refine funext fun i => ?_
    generalize hv : shapeCast OutBwdRefIdeal.S1024x1024 _ _ = v
    idx_vars i
    pointwise [G]
    subst hv
    exact Finset.sum_congr rfl fun j _ => congrArg _ (row _ _ i0 i2 j)

end Cert.Proof.OutBwd

end
-- ==== Proof.InBwd.lean ====
/- The gradient of what the recurrence's input projection multiplies: what the kernel leaves in its result, as one function
   of the arguments, and the claim about the two programs. A grid point holds one tile of rows and adds the products of the
   four blocks of columns. -/
module

public import proofs.«01_k».proof.Defs
public import proofs.«01_k».proof.Proof.Gen.InBwdIdeal.Frame
public import proofs.«01_k».proof.Proof.Gen.InBwdRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.InBwd

open Cert.InBwdIdeal Cert.InBwdIdeal.Gen Idealize.ShloMosaic Idealize.ShloMosaic.TcCoe Idealize.SL.Sem

/-- The gradient at row `r` and input `k`: over every block and every column of it. -/
def G (d : Vec Ideal S4x4096x1024 .bf16) (w : Vec Ideal S4x1x1024x1024 .bf16) : Vec Ideal S4096x1024 .f32 :=
  fun i => ∑ s : Fin 4, ∑ j : Fin 1024, d (ix3 s (i 0) j) * w (ix4 s 0 (i 1) j)

variable (m : (ℓ : Loc nD τ sig) → Buf (Elt Ideal) ℓ) (ρ : Dev nD → PrngReg)

/-- Where each window's block of grid point `t` lies. -/
theorem index : ∀ t : Fin cfg0.N,
    win0_0.index t = ![0, t.val, 0] ∧ win0_1.index t = ![0, 0, 0, 0] ∧ win0_2.index t = ![t.val, 0] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G]
  simp only [Fin.sum_univ_four]
  blk_point [iblk, V, index t]

/-- The kernel and the reference over the extended reals. -/
theorem algebraic : Cert.algebraic_InBwdIdeal_InBwdRefIdeal := by
  pair_intro
  · run_from Cert.InBwdIdeal.Gen.run_main m g
  · run_from Cert.InBwdRefIdeal.Value.run m' g'
    refine Eq.trans ?_ (final m c).symm
    generalize m (c.tc.loc InBwdIdeal.main_arg0) = d at *
    generalize m (c.tc.loc InBwdIdeal.main_arg1) = w at *
    clear hagree
    refine funext fun i => ?_
    idx_vars i
    pointwise [G]
    exact Fin.sum_divmod_congr fun x ha hs => rfl

end Cert.Proof.InBwd

end
-- ==== Proof.DwIn.lean ====
/- The gradient of the recurrence's input projection: what the kernel leaves in its result, as one function of the two arguments, and the
   claim about the two programs. A grid point holds one block of columns and half of the rows; the two points of a block
   add their halves of the sum over the rows. -/
module

public import proofs.«01_k».proof.Defs
public import proofs.«01_k».proof.Proof.Gen.DwInIdeal.Frame
public import proofs.«01_k».proof.Proof.Gen.DwInRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.DwIn

open Cert.DwInIdeal Cert.DwInIdeal.Gen Idealize.ShloMosaic Idealize.ShloMosaic.TcCoe Idealize.SL.Sem

/-- The gradient at input `k` and column `j` of block `s`: the sum over the rows. -/
def G (h : Vec Ideal S4096x1024 .bf16) (d : Vec Ideal S4x4096x1024 .bf16) : Vec Ideal S4x1024x1024 .f32 :=
  fun i => ∑ r : Fin 4096, h (ix2 r (i 1)) * d (ix3 (i 0) r (i 2))

variable (m : (ℓ : Loc nD τ sig) → Buf (Elt Ideal) ℓ) (ρ : Dev nD → PrngReg)

/-- One point's step: the block as it was, plus the point's rows. -/
theorem step (acc : Vec Ideal S1x1024x1024 .f32) (x : Vec Ideal S2048x1024 .bf16) (z : Vec Ideal S1x2048x1024 .bf16)
    (j : S1x1024x1024.Idx) :
    k0_pay2 acc x z j = acc j + ∑ r : Fin 2048, x (ix2 r (j 1)) * z (ix3 0 r (j 2)) := by
  idx_vars j
  obtain rfl : j0 = 0 := Subsingleton.elim _ _
  pointwise [k0_pay2]

/-- A block starts at zero. -/
theorem start (j : S1x1024x1024.Idx) : k0_pay1 (F := Ideal) j = 0 := by
  idx_vars j
  pointwise [k0_pay1]

/-- Where each window's block of grid point `t` lies. -/
theorem index : ∀ t : Fin cfg0.N,
    win0_0.index t = ![t.val % 2, 0] ∧ win0_1.index t = ![t.val / 2, t.val % 2, 0] ∧ win0_2.index t = ![t.val / 2, 0, 0] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [step, start])
    (fun t h j => by rw [outsAt0_B m c t h]; frame_out; rw [step]) t ((flush0_2 t).mp hf), zero_add]
  pointwise [G]
  refine Fin.sum_mul_add_congr fun s k hl => ?_
  blk_point [iblk, V, index ⟨2 * (t.val / 2) + s.val, _⟩, index t]

/-- The kernel and the reference over the extended reals. -/
theorem algebraic : Cert.algebraic_DwInIdeal_DwInRefIdeal := by
  pair_intro
  · run_from Cert.DwInIdeal.Gen.run_main m g
  · run_from Cert.DwInRefIdeal.Value.run m' g'
    refine Eq.trans ?_ (final m c).symm
    generalize m (c.tc.loc DwInIdeal.main_arg0) = h at *
    generalize m (c.tc.loc DwInIdeal.main_arg1) = d at *
    clear hagree
    refine funext fun i => ?_
    idx_vars i
    pointwise [G]
    exact Finset.sum_congr rfl fun r _ => mul_comm _ _

end Cert.Proof.DwIn

end
-- ==== Proof.DwQkv.lean ====
/- The gradient of the attention's input projection: what the kernel leaves in its result, as one function of the two arguments, and the
   claim about the two programs. A grid point holds one block of columns and half of the rows; the two points of a block
   add their halves of the sum over the rows. -/
module

public import proofs.«01_k».proof.Defs
public import proofs.«01_k».proof.Proof.Gen.DwQkvIdeal.Frame
public import proofs.«01_k».proof.Proof.Gen.DwQkvRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.DwQkv

open Cert.DwQkvIdeal Cert.DwQkvIdeal.Gen Idealize.ShloMosaic Idealize.ShloMosaic.TcCoe Idealize.SL.Sem

/-- The gradient at input `k` and column `j` of block `s`: the sum over the rows. -/
def G (h : Vec Ideal S4096x1024 .bf16) (d : Vec Ideal S9x4096x1024 .bf16) : Vec Ideal S9x1024x1024 .f32 :=
  fun i => ∑ r : Fin 4096, h (ix2 r (i 1)) * d (ix3 (i 0) r (i 2))

variable (m : (ℓ : Loc nD τ sig) → Buf (Elt Ideal) ℓ) (ρ : Dev nD → PrngReg)

/-- One point's step: the block as it was, plus the point's rows. -/
theorem step (acc : Vec Ideal S1x1024x1024 .f32) (x : Vec Ideal S2048x1024 .bf16) (z : Vec Ideal S1x2048x1024 .bf16)
    (j : S1x1024x1024.Idx) :
    k0_pay2 acc x z j = acc j + ∑ r : Fin 2048, x (ix2 r (j 1)) * z (ix3 0 r (j 2)) := by
  idx_vars j
  obtain rfl : j0 = 0 := Subsingleton.elim _ _
  pointwise [k0_pay2]

/-- A block starts at zero. -/
theorem start (j : S1x1024x1024.Idx) : k0_pay1 (F := Ideal) j = 0 := by
  idx_vars j
  pointwise [k0_pay1]

/-- Where each window's block of grid point `t` lies. -/
theorem index : ∀ t : Fin cfg0.N,
    win0_0.index t = ![t.val % 2, 0] ∧ win0_1.index t = ![t.val / 2, t.val % 2, 0] ∧ win0_2.index t = ![t.val / 2, 0, 0] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h]; frame_out; rw [step, start])
    (fun t h j => by rw [outsAt0_B m c t h]; frame_out; rw [step]) t ((flush0_2 t).mp hf), zero_add]
  pointwise [G]
  refine Fin.sum_mul_add_congr fun s k hl => ?_
  blk_point [iblk, V, index ⟨2 * (t.val / 2) + s.val, _⟩, index t]

/-- The kernel and the reference over the extended reals. -/
theorem algebraic : Cert.algebraic_DwQkvIdeal_DwQkvRefIdeal := by
  pair_intro
  · run_from Cert.DwQkvIdeal.Gen.run_main m g
  · run_from Cert.DwQkvRefIdeal.Value.run m' g'
    refine Eq.trans ?_ (final m c).symm
    generalize m (c.tc.loc DwQkvIdeal.main_arg0) = h at *
    generalize m (c.tc.loc DwQkvIdeal.main_arg1) = d at *
    clear hagree
    refine funext fun i => ?_
    idx_vars i
    pointwise [G]
    exact Finset.sum_congr rfl fun r _ => mul_comm _ _

end Cert.Proof.DwQkv

end
-- ==== Proof.Down.lean ====
/- The product by the down projection and the gated residual: what the kernel leaves in its two results, as one function of
   the arguments each, and the claim about the two programs. A grid point holds one tile of rows and adds the products of
   the four shards. -/
module

public import proofs.«01_k».proof.Defs
public import proofs.«01_k».proof.Proof.Gen.DownIdeal.Frame
public import proofs.«01_k».proof.Proof.Gen.DownRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.Down

open Cert.DownIdeal Cert.DownIdeal.Gen Idealize.ShloMosaic Idealize.ShloMosaic.TcCoe Idealize.SL.Sem

/-- The product at row `r` and output `j`: over every shard and every column of it. -/
def G4 (a : Vec Ideal S4x4096x704 .bf16) (w : Vec Ideal S4x2x704x1024 .bf16) : Vec Ideal S4096x1024 .bf16 :=
  fun i => ∑ s : Fin 4, ∑ k : Fin 704, a (ix3 s (i 0) k) * w (ix4 s 1 k (i 1))

/-- The residual: the row before, plus the gate times the product. -/
def G5 (a : Vec Ideal S4x4096x704 .bf16) (w : Vec Ideal S4x2x704x1024 .bf16) (x : Vec Ideal S4096x1024 .f32)
    (g : Vec Ideal S1x1024 .f32) : Vec Ideal S4096x1024 .f32 :=
  fun i => x i + g (ix2 0 (i 1)) * ∑ s : Fin 4, ∑ k : Fin 704, a (ix3 s (i 0) k) * w (ix4 s 1 k (i 1))

variable (m : (ℓ : Loc nD τ sig) → Buf (Elt Ideal) ℓ) (ρ : Dev nD → PrngReg)

/-- Where each window's block of grid point `t` lies. -/
theorem index : ∀ t : Fin cfg0.N,
    (win0_0.index t = ![0, t.val, 0] ∧ win0_1.index t = ![0, 1, 0, 0])
    ∧ (win0_2.index t = ![t.val, 0] ∧ win0_3.index t = ![0, 0]) ∧ win0_4.index t = ![t.val, 0] ∧ win0_5.index t = ![t.val, 0] :=
  (by decide +kernel : ∀ t : Fin grid0.N, _)

theorem final4 (c : Dev nD) : (dats m 0 c).arrAt 4 cfg0.N
    = G4 (m ((c : Thread nD τ).loc main_arg0)) (m ((c : Thread nD τ).loc main_arg1)) := by
  refine (dats m 0 c).arrAt_eq_of_covers 4 _ (by decide +kernel) fun t hf y => ?_
  blk_simp
  rw [after0_4]; frame_out
  pointwise [k0_pay1, k0_pay2, k0_pay3, G4]
  simp only [Fin.sum_univ_four]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay2, k0_pay3, G5]
  simp only [Fin.sum_univ_four]
  blk_point [iblk, V, index t]

/-- The kernel and the reference over the extended reals. -/
theorem algebraic : Cert.algebraic_DownIdeal_DownRefIdeal := by
  pair_intro
  · run_from Cert.DownIdeal.Gen.run_main m g
  · run_from Cert.DownRefIdeal.Value.run m' g'
    · refine Eq.trans ?_ (final4 m c).symm
      generalize m (c.tc.loc DownIdeal.main_arg0) = a at *
      generalize m (c.tc.loc DownIdeal.main_arg1) = w at *
      clear hagree
      refine funext fun i => ?_
      idx_vars i
      pointwise [G4]
      exact Fin.sum_divmod_congr fun x ha hs => rfl
    · refine Eq.trans ?_ (final5 m c).symm
      generalize m (c.tc.loc DownIdeal.main_arg0) = a at *
      generalize m (c.tc.loc DownIdeal.main_arg1) = w at *
      generalize m (c.tc.loc DownIdeal.main_arg2) = x at *
      generalize m (c.tc.loc DownIdeal.main_arg3) = g at *
      clear hagree
      refine funext fun i => ?_
      idx_vars i
      pointwise [G5]
      exact congrArg (fun z : EReal => (show EReal from x (ix2 i0 i1)) + (show EReal from g (ix2 0 i1)) * z) (Fin.sum_divmod_congr fun x ha hs => rfl)

end Cert.Proof.Down

end
-- ==== Proof.Out.lean ====
/- The product by a mixer's output projection and the gated residual: what the kernel leaves in its two results, as one function of
   the arguments each, and the claim about the two programs. A grid point holds one tile of rows and adds the products of
   the four shards. -/
module

public import proofs.«01_k».proof.Defs
public import proofs.«01_k».proof.Proof.Gen.OutIdeal.Frame
public import proofs.«01_k».proof.Proof.Gen.OutRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.Out

open Cert.OutIdeal Cert.OutIdeal.Gen Idealize.ShloMosaic Idealize.ShloMosaic.TcCoe Idealize.SL.Sem

/-- The product at row `r` and output `j`: over every shard and every column of it. -/
def G4 (a : Vec Ideal S4x4096x256 .bf16) (w : Vec Ideal S4x1x256x1024 .bf16) : Vec Ideal S4096x1024 .bf16 :=
  fun i => ∑ s : Fin 4, ∑ k : Fin 256, a (ix3 s (i 0) k) * w (ix4 s 0 k (i 1))

/-- The residual: the row before, plus the gate times the product. -/
def G5 (a : Vec Ideal S4x4096x256 .bf16) (w : Vec Ideal S4x1x256x1024 .bf16) (x : Vec Ideal S4096x1024 .f32)
    (g : Vec Ideal S1x1024 .f32) : Vec Ideal S4096x1024 .f32 :=
  fun i => x i + g (ix2 0 (i 1)) * ∑ s : Fin 4, ∑ k : Fin 256, a (ix3 s (i 0) k) * w (ix4 s 0 k (i 1))

variable (m : (ℓ : Loc nD τ sig) → Buf (Elt Ideal) ℓ) (ρ : Dev nD → PrngReg)

/-- Where each window's block of grid point `t` lies. -/
theorem index : ∀ t : Fin cfg0.N,
    (win0_0.index t = ![0, t.val, 0] ∧ win0_1.index t = ![0, 0, 0, 0])
    ∧ (win0_2.index t = ![t.val, 0] ∧ win0_3.index t = ![0, 0]) ∧ win0_4.index t = ![t.val, 0] ∧ win0_5.index t = ![t.val, 0] :=
  (by decide +kernel : ∀ t : Fin grid0.N, _)

theorem final4 (c : Dev nD) : (dats m 0 c).arrAt 4 cfg0.N
    = G4 (m ((c : Thread nD τ).loc main_arg0)) (m ((c : Thread nD τ).loc main_arg1)) := by
  refine (dats m 0 c).arrAt_eq_of_covers 4 _ (by decide +kernel) fun t hf y => ?_
  blk_simp
  rw [after0_4]; frame_out
  pointwise [k0_pay1, k0_pay2, k0_pay3, G4]
  simp only [Fin.sum_univ_four]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay2, k0_pay3, G5]
  simp only [Fin.sum_univ_four]
  blk_point [iblk, V, index t]

/-- The weight's matrix, its rows numbered through the shards. -/
theorem row (w : Vec Ideal S4x1x256x1024 .f32) (h : S4x1x256x1024.ShapeCasts OutRefIdeal.S1024x1024) (x j : Fin 1024) :
    shapeCast OutRefIdeal.S1024x1024 w h (ix2 x j) = w (ix4 ⟨x.val / 256, by omega⟩ 0 ⟨x.val % 256, by omega⟩ j) := by
  pointwise

/-- The kernel and the reference over the extended reals. -/
theorem algebraic : Cert.algebraic_OutIdeal_OutRefIdeal := by
  pair_intro
  · run_from Cert.OutIdeal.Gen.run_main m g
  · run_from Cert.OutRefIdeal.Value.run m' g'
    · refine Eq.trans ?_ (final4 m c).symm
      generalize m (c.tc.loc OutIdeal.main_arg0) = a at *
      generalize m (c.tc.loc OutIdeal.main_arg1) = w at *
      clear hagree
      refine funext fun i => ?_
      generalize hv : shapeCast OutRefIdeal.S1024x1024 _ _ = v
      idx_vars i
      pointwise [G4]
      subst hv
      exact Fin.sum_divmod_congr fun x ha hs => congrArg _ (row _ _ x i1)
    · refine Eq.trans ?_ (final5 m c).symm
      generalize m (c.tc.loc OutIdeal.main_arg0) = a at *
      generalize m (c.tc.loc OutIdeal.main_arg1) = w at *
      generalize m (c.tc.loc OutIdeal.main_arg2) = x at *
      generalize m (c.tc.loc OutIdeal.main_arg3) = g at *
      clear hagree
      refine funext fun i => ?_
      generalize hv : shapeCast OutRefIdeal.S1024x1024 _ _ = v
      idx_vars i
      pointwise [G5]
      subst hv
      exact congrArg (fun z : EReal => (show EReal from x (ix2 i0 i1)) + (show EReal from g (ix2 0 i1)) * z)
        (Fin.sum_divmod_congr fun x ha hs => congrArg _ (row _ _ x i1))

end Cert.Proof.Out

end
-- ==== Proof.UpRun.lean ====
/- The run of the feed-forward layer's two products with the norm before it. The first point of a row block puts the normalised rows into
   the last result's block; the block's later points read them from there and leave them in place. So after every point
   the last result's buffer holds the normalised rows of the point's own block, the first two results' their products
   with the point's rows of the two weights, and the third's the gated product. -/
module

public import proofs.«01_k».proof.Proof.Gen.UpIdeal.Frame
public import proofs.«01_k».proof.Proof.Gen.UpIdeal.Skeleton
public import Idealize.ShloMosaic.Lib.VecWindow
public import Idealize.ShloMosaic.Lib.Claim

@[expose] public section

set_option maxRecDepth 16384

noncomputable section

namespace Cert.Proof.Up

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this program's runs. -/
abbrev Assert (F : FTy → Type) [FloatOps F] : Type := sProp (MT nD τ sig Unit (Elt F) ℕ (UR sig nD τ) ℕ)

/-- The body's condition: the point is the first of its row block. -/
abbrev opens (i : grid0.Coords) : Prop := k0_cond1 i = 1#1

theorem opens_iff : ∀ t : Fin cfg0.N, opens (grid0.coords t) ↔ t.val % 4 = 0 :=
  (by decide +kernel : ∀ t : Fin grid0.N, opens (grid0.coords t) ↔ t.val % 4 = 0)

/-! ## The body -/

set_option maxHeartbeats 1000000 in
/-- At the first point of a row block: the normalised rows go into the last result's block, and their product with the
    point's columns into the first's. -/
theorem body_opens (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x704x1024 .bf16) (harg6 : arg6.IsWhole)
    (arg7 : Memref sig .tc .vmem S1x1x704x1024 .bf16) (harg7 : arg7.IsWhole) (arg8 : Memref sig .tc .vmem S1x1024x704 .bf16) (harg8 : arg8.IsWhole)
    (arg9 : Memref sig .tc .vmem S1x1024x704 .bf16) (harg9 : arg9.IsWhole) (arg10 : Memref sig .tc .vmem S1x1024x704 .bf16) (harg10 : arg10.IsWhole)
    (arg11 : Memref sig .tc .vmem S1024x1024 .bf16) (harg11 : arg11.IsWhole)
    (hc : opens i) (x : Vec F S1024x1024 .f32) (g sc sh : Vec F S1x1024 .f32) (w z : Vec F S1x1x704x1024 .bf16)
    (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
            ∗ owns (c : Thread nD τ) arg8 fullShare (k0_pay6 (k0_pay2 x g sc sh) w)
            ∗ owns (c : Thread nD τ) arg9 fullShare (k0_pay7 (k0_pay2 x g sc sh) z)
            ∗ owns (c : Thread nD τ) arg10 fullShare (k0_pay1 (k0_pay8 (k0_pay2 x g sc sh) w z))
            ∗ owns (c : Thread nD τ) arg11 fullShare (k0_pay2 x g sc sh)) -∗ K ⟨⟩))
      ⊢ wp frame (wpE (defs₀ (F := F)) Variants.none c none) E (cc0_l1_ffn_up i arg2 harg2 arg3 harg3 arg4 harg4 arg5 harg5 arg6 harg6 arg7 harg7 arg8 harg8 arg9 harg9 arg10 harg10 arg11 harg11) K := by
  simp only [cc0_l1_ffn_up_eq_skeleton]; unfold cc0_l1_ffn_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩,
    ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    unfold body_opens.sl.v3 body_opens.sl.H9_1
    rw [View.readCov_full, View.readAt_full, View.readAt_full, View.readAt_full, View.readAt_full, View.readAt_full,
      harg2.read_unread, harg3.read_unread, harg4.read_unread, harg5.read_unread, harg6.read_unread]
  isplitl [H7]
  · iexists _; isplitr
    swap; · iexact H7
    ipureintro
    refine (View.read_writes_full _ _ _ _ _).trans ?_
    unfold body_opens.sl.v3 body_opens.sl.H9_1
    rw [View.readCov_full, View.readAt_full, View.readAt_full, View.readAt_full, View.readAt_full, View.readAt_full,
      harg2.read_unread, harg3.read_unread, harg4.read_unread, harg5.read_unread, harg7.read_unread]
  isplitl [H8]
  · iexists _; isplitr
    swap; · iexact H8
    ipureintro
    refine (View.read_writes_full _ _ _ _ _).trans ?_
    unfold body_opens.sl.v3 body_opens.sl.H9_1
    rw [View.readCov_full, View.readAt_full, View.readAt_full, View.readAt_full, View.readAt_full, View.readAt_full, View.readAt_full,
      harg2.read_unread, harg3.read_unread, harg4.read_unread, harg5.read_unread, harg6.read_unread, harg7.read_unread]
  iexists _; isplitr
  swap; · iexact H9
  ipureintro
  unfold body_opens.sl.H9_1
  refine (View.read_writes_full _ _ _ _ _).trans ?_
  rw [View.readAt_full, View.readAt_full, View.readAt_full, View.readAt_full,
    harg2.read_unread, harg3.read_unread, harg4.read_unread, harg5.read_unread]

set_option maxHeartbeats 1000000 in
/-- At a later point of a row block: the rows `h` in the last result's block stay there. -/
theorem body_later (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x704x1024 .bf16) (harg6 : arg6.IsWhole)
    (arg7 : Memref sig .tc .vmem S1x1x704x1024 .bf16) (harg7 : arg7.IsWhole) (arg8 : Memref sig .tc .vmem S1x1024x704 .bf16) (harg8 : arg8.IsWhole)
    (arg9 : Memref sig .tc .vmem S1x1024x704 .bf16) (harg9 : arg9.IsWhole) (arg10 : Memref sig .tc .vmem S1x1024x704 .bf16) (harg10 : arg10.IsWhole)
    (arg11 : Memref sig .tc .vmem S1024x1024 .bf16) (harg11 : arg11.IsWhole)
    (hc : ¬ opens i) (x : Vec F S1024x1024 .f32) (g sc sh : Vec F S1x1024 .f32) (w z : Vec F S1x1x704x1024 .bf16)
    (h : Vec F S1024x1024 .bf16) (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare h
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
            ∗ owns (c : Thread nD τ) arg8 fullShare (k0_pay6 h w) ∗ owns (c : Thread nD τ) arg9 fullShare (k0_pay7 h z)
            ∗ owns (c : Thread nD τ) arg10 fullShare (k0_pay1 (k0_pay8 h w z)) ∗ owns (c : Thread nD τ) arg11 fullShare h) -∗ K ⟨⟩))
      ⊢ wp frame (wpE (defs₀ (F := F)) Variants.none c none) E (cc0_l1_ffn_up i arg2 harg2 arg3 harg3 arg4 harg4 arg5 harg5 arg6 harg6 arg7 harg7 arg8 harg8 arg9 harg9 arg10 harg10 arg11 harg11) K := by
  simp only [cc0_l1_ffn_up_eq_skeleton]; unfold cc0_l1_ffn_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩,
    ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg11.eq_unread hf9
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    rw [View.readAt_full, View.readAt_full,
      harg11.read_unread, harg6.read_unread]
  isplitl [H7]
  · iexists _; isplitr
    swap; · iexact H7
    ipureintro
    refine (View.read_writes_full _ _ _ _ _).trans ?_
    rw [View.readAt_full, View.readAt_full,
      harg11.read_unread, harg7.read_unread]
  isplitl [H8]
  · iexists _; isplitr
    swap; · iexact H8
    ipureintro
    refine (View.read_writes_full _ _ _ _ _).trans ?_
    rw [View.readAt_full, View.readAt_full, View.readAt_full,
      harg11.read_unread, harg6.read_unread, harg7.read_unread]
  iexists _; isplitr
  swap; · iexact H9
  ipureintro
  exact harg11.read_unread _

/-! ## What the buffers hold -/

variable (m : (ℓ : Loc nD τ sig) → Buf (Elt F) ℓ) (ρ : Dev nD → PrngReg)

/-- The first point of `t`'s row block. -/
def opening (t : Fin cfg0.N) : Fin cfg0.N := ⟨4 * (t.val / 4), by have := t.isLt; omega⟩

theorem opening_self (t : Fin cfg0.N) (h : t.val % 4 = 0) : opening t = t :=
  Fin.ext (by show 4 * (t.val / 4) = t.val; omega)

theorem opening_prev (t : Fin cfg0.N) (h : t.val % 4 ≠ 0) :
    opening ⟨t.val - 1, Nat.lt_of_le_of_lt (Nat.sub_le _ _) t.isLt⟩ = opening t :=
  Fin.ext (by show 4 * ((t.val - 1) / 4) = 4 * (t.val / 4); omega)

/-- The normalised rows of `t`'s row block. -/
def rows (c : Dev nD) (t : Fin cfg0.N) : Vec F S1024x1024 .bf16 :=
  k0_pay2 (iblk m c 0 (opening t)) (iblk m c 1 (opening t)) (iblk m c 2 (opening t)) (iblk m c 3 (opening t))

theorem rows_opens (c : Dev nD) (t : Fin cfg0.N) (h : t.val % 4 = 0) :
    rows m c t = k0_pay2 (iblk m c 0 t) (iblk m c 1 t) (iblk m c 2 t) (iblk m c 3 t) := by
  unfold rows; rw [opening_self t h]

theorem rows_prev (c : Dev nD) (t : Fin cfg0.N) (h : t.val % 4 ≠ 0) :
    rows m c ⟨t.val - 1, Nat.lt_of_le_of_lt (Nat.sub_le _ _) t.isLt⟩ = rows m c t := by
  unfold rows; rw [opening_prev t h]

/-- The proof data: the arrays as the region finds them; after each point an input's buffer still holds its block, the
    last result's the normalised rows and the first result's their product. -/
def dats (_p : Fin 1) (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay6 (rows m c t) (iblk m c 4 t)
    | ⟨7, _⟩ => k0_pay7 (rows m c t) (iblk m c 5 t)
    | ⟨8, _⟩ => k0_pay1 (k0_pay8 (rows m c t) (iblk m c 4 t) (iblk m c 5 t))
    | ⟨9, _⟩ => rows m c t
  Φ := fun _ => Pipeline.ΦA spec0 c
  q := fun _ => fullShare
  owed := fun _ => 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay6 (rows m c t) (iblk m c 4 t) := by dsimp only [dats]
theorem after0_7 (c : Dev nD) (t : Fin cfg0.N) : (dats m 0 c).after 7 t = k0_pay7 (rows m c t) (iblk m c 5 t) := by dsimp only [dats]
theorem after0_8 (c : Dev nD) (t : Fin cfg0.N) :
    (dats m 0 c).after 8 t = k0_pay1 (k0_pay8 (rows m c t) (iblk m c 4 t) (iblk m c 5 t)) := by dsimp only [dats]
theorem after0_9 (c : Dev nD) (t : Fin cfg0.N) : (dats m 0 c).after 9 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The last result's block is idle at the later points of a row block, -/
theorem idle_later (t : Fin cfg0.N) (h : t.val % 4 ≠ 0) : cfg0.idle 9 (cfg0.grid.coords t) = true := by
  have : ¬ opens (grid0.coords t) := fun hc => h ((opens_iff t).mp hc)
  show (!(k0_cond1 (grid0.coords t) == 1#1)) = true
  simpa [opens] using this

theorem idle_opens (t : Fin cfg0.N) (h : t.val % 4 = 0) : cfg0.idle 9 (cfg0.grid.coords t) = false := by
  have : opens (grid0.coords t) := (opens_iff t).mpr h
  show (!(k0_cond1 (grid0.coords t) == 1#1)) = false
  simpa [opens] using this

/-- and written back at the last of them. -/
theorem flush_inner (t : Fin cfg0.N) (h : t.val % 4 ≠ 3) : (cfg0.win 9).flush t = false :=
  Bool.eq_false_iff.mpr fun hf => h ((flush0_9 t).mp hf)

/-- So a later point finds the block's normalised rows in it. -/
theorem before_later (c : Dev nD) (d) : ∀ (n : ℕ) (t : Fin cfg0.N), t.val = n → t.val % 4 ≠ 0 → (dats m 0 c).before 9 t d = rows m c t := by
  intro n
  induction n with
  | zero => intro t h0 h; omega
  | succ n ih =>
    intro t h0 h
    have hfl : (cfg0.win 9).flush ⟨t.val - 1, Nat.lt_of_le_of_lt (Nat.sub_le _ _) t.isLt⟩ = false :=
      flush_inner _ (by show (t.val - 1) % 4 ≠ 3; omega)
    rw [(dats m 0 c).before_of_pos 9 t (by omega) ((cfg0.win 9).fetch_out rfl t), hfl, if_neg Bool.false_ne_true]
    unfold Dat.left
    by_cases h1 : (t.val - 1) % 4 = 0
    · rw [idle_opens ⟨t.val - 1, Nat.lt_of_le_of_lt (Nat.sub_le _ _) t.isLt⟩ h1]
      exact Eq.trans rfl (rows_prev m c t h)
    · rw [idle_later ⟨t.val - 1, Nat.lt_of_le_of_lt (Nat.sub_le _ _) t.isLt⟩ h1]
      exact (ih _ (by show t.val - 1 = n; omega) h1).trans (rows_prev m c t h)

/-! ## The body at a point -/

/-- What the body is called with at point `t`. -/
def given (c : Dev nD) (t : Fin cfg0.N) : Assert F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def returned (c : Dev nD) (t : Fin cfg0.N) : Assert F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

/-- Where the last result's block holds the normalised rows, that is what the point is to leave. -/
theorem leaves_rows (c : Dev nD) (t : Fin cfg0.N) :
    owns (c : Thread nD τ) (st0_9 t) fullShare (rows m c t) ⊢ (dats m 0 c).leavesExact 9 t := by
  by_cases h : t.val % 4 = 0
  · unfold Dat.leavesExact; rw [idle_opens t h]; exact .rfl
  by_cases hl : t.val % 4 = 3
  · unfold Dat.leavesExact; rw [idle_later t h, (flush0_9 t).mpr hl]; exact .rfl
  · rw [(dats m 0 c).leavesExact_idle 9 t (idle_later t h) (flush_inner t hl)]
    iintro H
    iexists (rows m c t)
    rw [before_later m c _ t.val t rfl h]
    iexact H

theorem leaves_opens (c : Dev nD) (t : Fin cfg0.N) (h : t.val % 4 = 0) :
    owns (c : Thread nD τ) (st0_9 t) fullShare (k0_pay2 (iblk m c 0 t) (iblk m c 1 t) (iblk m c 2 t) (iblk m c 3 t))
      ⊢ (dats m 0 c).leavesExact 9 t := by
  rw [← rows_opens m c t h]; exact leaves_rows m c t

set_option maxHeartbeats 1000000 in
theorem body_point (c : Dev nD) (t : Fin cfg0.N) :
    given m c t ⊢ wp frame (wpE (defs₀ (F := F)) Variants.none c none) Set.univ (bodyAt0 t) (fun _ => returned m c t) := by
  unfold given returned bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h : t.val % 4 = 0
  · rw [rows_opens m c t h]
    iintro ⟨HΦ, Ho, ⟨%d0, H0⟩, ⟨%d1, H1⟩, ⟨%d2, H2⟩, ⟨%d3, H3⟩, ⟨%d4, H4⟩, ⟨%d5, H5⟩,
      ⟨%d6, H6⟩, ⟨%d7, H7⟩, ⟨%d8, H8⟩, ⟨%d9, H9⟩⟩
    iapply (body_opens c (grid0.coords t) _ _ _ _ _ _ _ _ _ _ _ _ _ _ _ _ _ _ _ _ ((opens_iff t).mpr h) (iblk m c 0 t) (iblk m c 1 t)
      (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_opens m c t h)
    iexact H9
  · simp only [before_later m c _ t.val t rfl h]
    iintro ⟨HΦ, Ho, ⟨%d0, H0⟩, ⟨%d1, H1⟩, ⟨%d2, H2⟩, ⟨%d3, H3⟩, ⟨%d4, H4⟩, ⟨%d5, H5⟩,
      ⟨%d6, H6⟩, ⟨%d7, H7⟩, ⟨%d8, H8⟩, ⟨%d9, H9⟩⟩
    iapply (body_later c (grid0.coords t) _ _ _ _ _ _ _ _ _ _ _ _ _ _ _ _ _ _ _ _ (fun hc => h ((opens_iff t).mp hc)) (iblk m c 0 t)
      (iblk m c 1 t) (iblk m c 2 t) (iblk m c 3 t) (iblk m c 4 t) (iblk m c 5 t) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_rows m c t)
    iexact H9

/-- The body table's row at a point's slots is the body there. -/
theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_point m c t) rfl .rfl fun _ => .rfl

/-! ## The run -/

set_option backward.isDefEq.respectTransparency.types false in
set_option maxHeartbeats 800000 in
/-- From any memory with the counters at zero the program ends, its arrays as the proof data say and the counters at zero. -/
theorem run_ends : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_ends m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_ends m ρ))

end Cert.Proof.Up

end
-- ==== Proof.Up.lean ====
/- The feed-forward layer's two products with the norm before them: what the kernel leaves in its four results, as one
   function of the arguments each, and the claim about the two programs. The normalised rows are a row's entries times the
   inverse root of their mean square, times the gain, modulated by a scale and a shift; they are multiplied by the rows of
   two weights, and the third result gates one product by the other. -/
module

public import proofs.«01_k».proof.Defs
public import proofs.«01_k».proof.Proof.Gen.Up
public import proofs.«01_k».proof.Proof.UpRun
public import proofs.«01_k».proof.Proof.Gen.UpRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.Up

open Cert.UpIdeal Cert.UpIdeal.Gen Idealize.ShloMosaic Idealize.ShloMosaic.TcCoe Idealize.SL.Sem

/-- The normalised rows, modulated. -/
def G9 (x : Vec Ideal S4096x1024 .f32) (g sc sh : Vec Ideal S1x1024 .f32) : Vec Ideal S4096x1024 .bf16 :=
  fun i => x (ix2 (i 0) (i 1)) * Ideal.rsqrt (Ideal.div (∑ l : Fin 1024, x (ix2 (i 0) l) * x (ix2 (i 0) l))
      (Ideal.ofBits .f32 0x44800000#32) + Ideal.ofBits .f32 0x358637BD#32) * g (ix2 0 (i 1)) * (1 + sc (ix2 0 (i 1))) + sh (ix2 0 (i 1))

/-- Their product with a block of a weight's rows. -/
def G6 (x : Vec Ideal S4096x1024 .f32) (g sc sh : Vec Ideal S1x1024 .f32) (w : Vec Ideal S4x2x704x1024 .bf16) :
    Vec Ideal S4x4096x704 .bf16 :=
  fun i => ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
    * w (ix4 (i 0) 1 (i 2) k)

/-- One product, passed through the gate of the other. -/
def G8 (x : Vec Ideal S4096x1024 .f32) (g sc sh : Vec Ideal S1x1024 .f32) (w z : Vec Ideal S4x2x704x1024 .bf16) :
    Vec Ideal S4x4096x704 .bf16 :=
  fun i => (∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
      * w (ix4 (i 0) 1 (i 2) k))
    * Ideal.div 1 (1 + Ideal.exp (0 - ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
      * w (ix4 (i 0) 1 (i 2) k)))
    * ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
      * z (ix4 (i 0) 1 (i 2) k)

variable (m : (ℓ : Loc nD τ sig) → Buf (Elt Ideal) ℓ)

/-- Where each window's block of grid point `t` lies. -/
theorem index : ∀ t : Fin cfg0.N,
    (win0_0.index (opening t) = ![t.val / 4, 0] ∧ win0_1.index (opening t) = ![0, 0] ∧ win0_2.index (opening t) = ![0, 0])
    ∧ (win0_3.index (opening t) = ![0, 0] ∧ win0_4.index t = ![t.val % 4, 1, 0, 0] ∧ win0_5.index t = ![t.val % 4, 1, 0, 0])
    ∧ (win0_6.index t = ![t.val % 4, t.val / 4, 0] ∧ win0_7.index t = ![t.val % 4, t.val / 4, 0])
    ∧ win0_8.index t = ![t.val % 4, t.val / 4, 0] ∧ win0_9.index t = ![t.val / 4, 0] :=
  (by decide +kernel : ∀ t : Fin grid0.N, _)

theorem final6 (c : Dev nD) : (dats m 0 c).arrAt 6 cfg0.N
    = G6 (m ((c : Thread nD τ).loc main_arg0))
        (m ((c : Thread nD τ).loc main_arg1))
        (m ((c : Thread nD τ).loc main_arg2))
        (m ((c : Thread nD τ).loc main_arg3))
        (m ((c : Thread nD τ).loc main_arg4)) := by
  refine (dats m 0 c).arrAt_eq_of_covers 6 _ (by decide +kernel) fun t hf y => ?_
  blk_simp
  rw [after0_6]
  pointwise [rows, k0_pay2, k0_pay6, k0_pay4, k0_pay3, G6]
  blk_point [iblk, V, index t]

theorem final7 (c : Dev nD) : (dats m 0 c).arrAt 7 cfg0.N
    = G6 (m ((c : Thread nD τ).loc main_arg0))
        (m ((c : Thread nD τ).loc main_arg1))
        (m ((c : Thread nD τ).loc main_arg2))
        (m ((c : Thread nD τ).loc main_arg3))
        (m ((c : Thread nD τ).loc main_arg5)) := by
  refine (dats m 0 c).arrAt_eq_of_covers 7 _ (by decide +kernel) fun t hf y => ?_
  blk_simp
  rw [after0_7]
  pointwise [rows, k0_pay2, k0_pay7, k0_pay5, k0_pay3, G6]
  blk_point [iblk, V, index t]

theorem final8 (c : Dev nD) : (dats m 0 c).arrAt 8 cfg0.N
    = G8 (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5)) := by
  refine (dats m 0 c).arrAt_eq_of_covers 8 _ (by decide +kernel) fun t hf y => ?_
  blk_simp
  rw [after0_8]
  pointwise [rows, k0_pay2, k0_pay1, k0_pay8, k0_pay4, k0_pay5, k0_pay3, G8]
  blk_point [iblk, V, index t]

theorem final9 (c : Dev nD) : (dats m 0 c).arrAt 9 cfg0.N
    = G9 (m ((c : Thread nD τ).loc main_arg0))
        (m ((c : Thread nD τ).loc main_arg1))
        (m ((c : Thread nD τ).loc main_arg2))
        (m ((c : Thread nD τ).loc main_arg3)) := by
  refine (dats m 0 c).arrAt_eq_of_covers 9 _ (by decide +kernel) fun t hf y => ?_
  blk_simp
  rw [after0_9]
  pointwise [rows, k0_pay2, G9]
  blk_point [iblk, V, index t]

set_option maxHeartbeats 1600000 in
/-- The kernel and the reference over the extended reals. -/
theorem algebraic : Cert.algebraic_UpIdeal_UpRefIdeal := by
  pair_intro
  · run_from Cert.Proof.Up.run_main m g
  · run_from Cert.UpRefIdeal.Value.run m' g'
    · refine Eq.trans ?_ (final6 m c).symm
      generalize m (c.tc.loc UpIdeal.main_arg0) = x at *
      generalize m (c.tc.loc UpIdeal.main_arg1) = gn at *
      generalize m (c.tc.loc UpIdeal.main_arg2) = sc at *
      generalize m (c.tc.loc UpIdeal.main_arg3) = sh at *
      generalize m (c.tc.loc UpIdeal.main_arg4) = w at *
      clear hagree
      refine funext fun i => ?_
      idx_vars i
      pointwise [G6]
    · refine Eq.trans ?_ (final7 m c).symm
      generalize m (c.tc.loc UpIdeal.main_arg0) = x at *
      generalize m (c.tc.loc UpIdeal.main_arg1) = gn at *
      generalize m (c.tc.loc UpIdeal.main_arg2) = sc at *
      generalize m (c.tc.loc UpIdeal.main_arg3) = sh at *
      generalize m (c.tc.loc UpIdeal.main_arg5) = z at *
      clear hagree
      refine funext fun i => ?_
      idx_vars i
      pointwise [G6]
    · refine Eq.trans ?_ (final8 m c).symm
      unfold Cert.UpRefIdeal.Value.res_main_v40
      obtain ⟨h0, h1, h2, h3, h4, h5⟩ := hagree c
      rw [h0, h1, h2, h3, h4, h5]
      clear h0 h1 h2 h3 h4 h5
      generalize m (c.tc.loc UpIdeal.main_arg0) = x at *
      generalize m (c.tc.loc UpIdeal.main_arg1) = gn at *
      generalize m (c.tc.loc UpIdeal.main_arg2) = sc at *
      generalize m (c.tc.loc UpIdeal.main_arg3) = sh at *
      generalize m (c.tc.loc UpIdeal.main_arg4) = w at *
      generalize m (c.tc.loc UpIdeal.main_arg5) = z at *
      clear hagree
      refine funext fun i => ?_
      idx_vars i
      pointwise [G8, zero_sub]
    · refine Eq.trans ?_ (final9 m c).symm
      generalize m (c.tc.loc UpIdeal.main_arg0) = x at *
      generalize m (c.tc.loc UpIdeal.main_arg1) = gn at *
      generalize m (c.tc.loc UpIdeal.main_arg2) = sc at *
      generalize m (c.tc.loc UpIdeal.main_arg3) = sh at *
      clear hagree
      refine funext fun i => ?_
      idx_vars i
      pointwise [G9]

/-- The two programs' body tables are one. -/
theorem defs_eq : (Cert.Up.defs (F := Bits)) = Cert.UpIdeal.defs (F := Bits) :=
  congrArg (Pipeline.defs _) (congrArg Defs.onTc (funext fun l => by
    rcases l with ⟨_ | n, h⟩
    · funext p
      rcases p with ⟨t, s⟩
      exact rfl
    · omega))

/-- The frame of the kernel, read off the same run. -/
theorem frame_kernel : Cert.quiescent_Up (hUp := Cert.Up.Gen.facts) := by
  intro m ρ _
  rw [defs_eq]
  exact frame (F := Bits) m ρ

end Cert.Proof.Up

end
-- ==== Proof.QkvRun.lean ====
/- The run of the attention's projection with the norm before it. The first point of a row block puts the normalised rows into
   the second result's block; the block's later points read them from there and leave them in place. So after every point
   the second result's buffer holds the normalised rows of the point's own block, and the first result's their product
   with the point's columns. -/
module

public import proofs.«01_k».proof.Proof.Gen.QkvIdeal.Frame
public import proofs.«01_k».proof.Proof.Gen.QkvIdeal.Skeleton
public import Idealize.ShloMosaic.Lib.VecWindow
public import Idealize.ShloMosaic.Lib.Claim

@[expose] public section

set_option maxRecDepth 16384

noncomputable section

namespace Cert.Proof.Qkv

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this program's runs. -/
abbrev Assert (F : FTy → Type) [FloatOps F] : Type := sProp (MT nD τ sig Unit (Elt F) ℕ (UR sig nD τ) ℕ)

/-- The body's condition: the point is the first of its row block. -/
abbrev opens (i : grid0.Coords) : Prop := k0_cond1 i = 1#1

theorem opens_iff : ∀ t : Fin cfg0.N, opens (grid0.coords t) ↔ t.val % 9 = 0 :=
  (by decide +kernel : ∀ t : Fin grid0.N, opens (grid0.coords t) ↔ t.val % 9 = 0)

/-! ## The body -/

set_option maxHeartbeats 1000000 in
/-- At the first point of a row block: the normalised rows go into the second result's block, and their product with the
    point's columns into the first's. -/
theorem body_opens (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x1024x1024 .bf16) (harg6 : arg6.IsWhole)
    (arg7 : Memref sig .tc .vmem S1x1024x1024 .f32) (harg7 : arg7.IsWhole) (arg8 : Memref sig .tc .vmem S1024x1024 .bf16) (harg8 : arg8.IsWhole)
    (hc : opens i) (x : Vec F S1024x1024 .f32) (g sc sh : Vec F S1x1024 .f32) (w : Vec F S1x1x1024x1024 .bf16)
    (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
            ∗ owns (c : Thread nD τ) arg7 fullShare (k0_pay2 (k0_pay1 x g sc sh) w)
            ∗ owns (c : Thread nD τ) arg8 fullShare (k0_pay1 x g sc sh)) -∗ K ⟨⟩))
      ⊢ wp frame (wpE (defs₀ (F := F)) Variants.none c none) E (cc0_l0_qkv i arg2 harg2 arg3 harg3 arg4 harg4 arg5 harg5 arg6 harg6 arg7 harg7 arg8 harg8) K := by
  simp only [cc0_l0_qkv_eq_skeleton]; unfold cc0_l0_qkv_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    unfold body_opens.sl.v3 body_opens.sl.H6_1
    rw [View.readCov_full, View.readAt_full, View.readAt_full, View.readAt_full, View.readAt_full, View.readAt_full,
      harg2.read_unread, harg3.read_unread, harg4.read_unread, harg5.read_unread, harg6.read_unread]
  iexists _; isplitr
  swap; · iexact H6
  ipureintro
  unfold body_opens.sl.H6_1
  refine (View.read_writes_full _ _ _ _ _).trans ?_
  rw [View.readAt_full, View.readAt_full, View.readAt_full, View.readAt_full,
    harg2.read_unread, harg3.read_unread, harg4.read_unread, harg5.read_unread]

set_option maxHeartbeats 1000000 in
/-- At a later point of a row block: the rows `h` in the second result's block stay there. -/
theorem body_later (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x1024x1024 .bf16) (harg6 : arg6.IsWhole)
    (arg7 : Memref sig .tc .vmem S1x1024x1024 .f32) (harg7 : arg7.IsWhole) (arg8 : Memref sig .tc .vmem S1024x1024 .bf16) (harg8 : arg8.IsWhole)
    (hc : ¬ opens i) (x : Vec F S1024x1024 .f32) (g sc sh : Vec F S1x1024 .f32) (w : Vec F S1x1x1024x1024 .bf16)
    (h : Vec F S1024x1024 .bf16) (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
        ∗ (∃ d, owns (c : Thread nD τ) arg7 fullShare d) ∗ owns (c : Thread nD τ) arg8 fullShare h
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
            ∗ owns (c : Thread nD τ) arg7 fullShare (k0_pay2 h w) ∗ owns (c : Thread nD τ) arg8 fullShare h) -∗ K ⟨⟩))
      ⊢ wp frame (wpE (defs₀ (F := F)) Variants.none c none) E (cc0_l0_qkv i arg2 harg2 arg3 harg3 arg4 harg4 arg5 harg5 arg6 harg6 arg7 harg7 arg8 harg8) K := by
  simp only [cc0_l0_qkv_eq_skeleton]; unfold cc0_l0_qkv_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    rw [View.readAt_full, View.readAt_full, harg8.read_unread, harg6.read_unread]
  iexists _; isplitr
  swap; · iexact H6
  ipureintro
  exact harg8.read_unread _

/-! ## What the buffers hold -/

variable (m : (ℓ : Loc nD τ sig) → Buf (Elt F) ℓ) (ρ : Dev nD → PrngReg)

/-- The first point of `t`'s row block. -/
def opening (t : Fin cfg0.N) : Fin cfg0.N := ⟨9 * (t.val / 9), by have := t.isLt; omega⟩

theorem opening_self (t : Fin cfg0.N) (h : t.val % 9 = 0) : opening t = t :=
  Fin.ext (by show 9 * (t.val / 9) = t.val; omega)

theorem opening_prev (t : Fin cfg0.N) (h : t.val % 9 ≠ 0) :
    opening ⟨t.val - 1, Nat.lt_of_le_of_lt (Nat.sub_le _ _) t.isLt⟩ = opening t :=
  Fin.ext (by show 9 * ((t.val - 1) / 9) = 9 * (t.val / 9); omega)

/-- The normalised rows of `t`'s row block. -/
def rows (c : Dev nD) (t : Fin cfg0.N) : Vec F S1024x1024 .bf16 :=
  k0_pay1 (iblk m c 0 (opening t)) (iblk m c 1 (opening t)) (iblk m c 2 (opening t)) (iblk m c 3 (opening t))

theorem rows_opens (c : Dev nD) (t : Fin cfg0.N) (h : t.val % 9 = 0) :
    rows m c t = k0_pay1 (iblk m c 0 t) (iblk m c 1 t) (iblk m c 2 t) (iblk m c 3 t) := by
  unfold rows; rw [opening_self t h]

theorem rows_prev (c : Dev nD) (t : Fin cfg0.N) (h : t.val % 9 ≠ 0) :
    rows m c ⟨t.val - 1, Nat.lt_of_le_of_lt (Nat.sub_le _ _) t.isLt⟩ = rows m c t := by
  unfold rows; rw [opening_prev t h]

/-- The proof data: the arrays as the region finds them; after each point an input's buffer still holds its block, the
    second result's the normalised rows and the first result's their product. -/
def dats (_p : Fin 1) (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (rows m c t) (iblk m c 4 t)
    | ⟨6, _⟩ => rows m c t
  Φ := fun _ => Pipeline.ΦA spec0 c
  q := fun _ => fullShare
  owed := fun _ => 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay2 (rows m c t) (iblk m c 4 t) := by dsimp only [dats]
theorem after0_6 (c : Dev nD) (t : Fin cfg0.N) : (dats m 0 c).after 6 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's block is idle at the later points of a row block, -/
theorem idle_later (t : Fin cfg0.N) (h : t.val % 9 ≠ 0) : cfg0.idle 6 (cfg0.grid.coords t) = true := by
  have : ¬ opens (grid0.coords t) := fun hc => h ((opens_iff t).mp hc)
  show (!(k0_cond1 (grid0.coords t) == 1#1)) = true
  simpa [opens] using this

theorem idle_opens (t : Fin cfg0.N) (h : t.val % 9 = 0) : cfg0.idle 6 (cfg0.grid.coords t) = false := by
  have : opens (grid0.coords t) := (opens_iff t).mpr h
  show (!(k0_cond1 (grid0.coords t) == 1#1)) = false
  simpa [opens] using this

/-- and written back at the last of them. -/
theorem flush_inner (t : Fin cfg0.N) (h : t.val % 9 ≠ 8) : (cfg0.win 6).flush t = false :=
  Bool.eq_false_iff.mpr fun hf => h ((flush0_6 t).mp hf)

/-- So a later point finds the block's normalised rows in it. -/
theorem before_later (c : Dev nD) (d) : ∀ (n : ℕ) (t : Fin cfg0.N), t.val = n → t.val % 9 ≠ 0 → (dats m 0 c).before 6 t d = rows m c t := by
  intro n
  induction n with
  | zero => intro t h0 h; omega
  | succ n ih =>
    intro t h0 h
    have hfl : (cfg0.win 6).flush ⟨t.val - 1, Nat.lt_of_le_of_lt (Nat.sub_le _ _) t.isLt⟩ = false :=
      flush_inner _ (by show (t.val - 1) % 9 ≠ 8; omega)
    rw [(dats m 0 c).before_of_pos 6 t (by omega) ((cfg0.win 6).fetch_out rfl t), hfl, if_neg Bool.false_ne_true]
    unfold Dat.left
    by_cases h1 : (t.val - 1) % 9 = 0
    · rw [idle_opens ⟨t.val - 1, Nat.lt_of_le_of_lt (Nat.sub_le _ _) t.isLt⟩ h1]
      exact Eq.trans rfl (rows_prev m c t h)
    · rw [idle_later ⟨t.val - 1, Nat.lt_of_le_of_lt (Nat.sub_le _ _) t.isLt⟩ h1]
      exact (ih _ (by show t.val - 1 = n; omega) h1).trans (rows_prev m c t h)

/-! ## The body at a point -/

/-- What the body is called with at point `t`. -/
def given (c : Dev nD) (t : Fin cfg0.N) : Assert F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def returned (c : Dev nD) (t : Fin cfg0.N) : Assert F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Where the second result's block holds the normalised rows, that is what the point is to leave. -/
theorem leaves_rows (c : Dev nD) (t : Fin cfg0.N) :
    owns (c : Thread nD τ) (st0_6 t) fullShare (rows m c t) ⊢ (dats m 0 c).leavesExact 6 t := by
  by_cases h : t.val % 9 = 0
  · unfold Dat.leavesExact; rw [idle_opens t h]; exact .rfl
  by_cases hl : t.val % 9 = 8
  · unfold Dat.leavesExact; rw [idle_later t h, (flush0_6 t).mpr hl]; exact .rfl
  · rw [(dats m 0 c).leavesExact_idle 6 t (idle_later t h) (flush_inner t hl)]
    iintro H
    iexists (rows m c t)
    rw [before_later m c _ t.val t rfl h]
    iexact H

theorem leaves_opens (c : Dev nD) (t : Fin cfg0.N) (h : t.val % 9 = 0) :
    owns (c : Thread nD τ) (st0_6 t) fullShare (k0_pay1 (iblk m c 0 t) (iblk m c 1 t) (iblk m c 2 t) (iblk m c 3 t))
      ⊢ (dats m 0 c).leavesExact 6 t := by
  rw [← rows_opens m c t h]; exact leaves_rows m c t

set_option maxHeartbeats 1000000 in
theorem body_point (c : Dev nD) (t : Fin cfg0.N) :
    given m c t ⊢ wp frame (wpE (defs₀ (F := F)) Variants.none c none) Set.univ (bodyAt0 t) (fun _ => returned m c t) := by
  unfold given returned bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h : t.val % 9 = 0
  · rw [rows_opens m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_opens c (grid0.coords t) _ _ _ _ _ _ _ _ _ _ _ _ _ _ ((opens_iff t).mpr h) (iblk m c 0 t) (iblk m c 1 t)
      (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_opens m c t h)
    iexact H6
  · simp only [before_later m c _ t.val t rfl h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ (fun hc => h ((opens_iff t).mp hc)) (iblk m c 0 t)
      (iblk m c 1 t) (iblk m c 2 t) (iblk m c 3 t) (iblk m c 4 t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_rows m c t)
    iexact H6

/-- The body table's row at a point's slots is the body there. -/
theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_point m c t) rfl .rfl fun _ => .rfl

/-! ## The run -/

set_option backward.isDefEq.respectTransparency.types false in
set_option maxHeartbeats 800000 in
/-- From any memory with the counters at zero the program ends, its arrays as the proof data say and the counters at zero. -/
theorem run_ends : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_ends m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_ends m ρ))

end Cert.Proof.Qkv

end
-- ==== Proof.Qkv.lean ====
/- The attention's projection with the norm before it: what the kernel leaves in its two results, as one function of the arguments each,
   and the claim about the two programs. The normalised rows are a row's entries times the inverse root of their mean
   square, times the gain, modulated by a scale and a shift; the first result is their product with each block of columns. -/
module

public import proofs.«01_k».proof.Defs
public import proofs.«01_k».proof.Proof.Gen.Qkv
public import proofs.«01_k».proof.Proof.QkvRun
public import proofs.«01_k».proof.Proof.Gen.QkvRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.Qkv

open Cert.QkvIdeal Cert.QkvIdeal.Gen Idealize.ShloMosaic Idealize.ShloMosaic.TcCoe Idealize.SL.Sem

/-- The normalised rows, modulated. -/
def G6 (x : Vec Ideal S4096x1024 .f32) (g sc sh : Vec Ideal S1x1024 .f32) : Vec Ideal S4096x1024 .bf16 :=
  fun i => x i * Ideal.rsqrt (Ideal.div (∑ k : Fin 1024, x (ix2 (i 0) k) * x (ix2 (i 0) k)) (Ideal.ofBits .f32 0x44800000#32)
      + Ideal.ofBits .f32 0x358637BD#32) * g (ix2 0 (i 1)) * (1 + sc (ix2 0 (i 1))) + sh (ix2 0 (i 1))

/-- Their product with a block of the weight's columns. -/
def G5 (x : Vec Ideal S4096x1024 .f32) (g sc sh : Vec Ideal S1x1024 .f32) (w : Vec Ideal S9x1x1024x1024 .bf16) :
    Vec Ideal S9x4096x1024 .f32 :=
  fun i => ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
    * w (ix4 (i 0) 0 k (i 2))

variable (m : (ℓ : Loc nD τ sig) → Buf (Elt Ideal) ℓ)

/-- Where each window's block of grid point `t` lies. -/
theorem index : ∀ t : Fin cfg0.N,
    (win0_0.index (opening t) = ![t.val / 9, 0] ∧ win0_1.index (opening t) = ![0, 0] ∧ win0_2.index (opening t) = ![0, 0])
    ∧ win0_3.index (opening t) = ![0, 0] ∧ win0_4.index t = ![t.val % 9, 0, 0, 0]
    ∧ win0_5.index t = ![t.val % 9, t.val / 9, 0] ∧ win0_6.index t = ![t.val / 9, 0] :=
  (by decide +kernel : ∀ t : Fin grid0.N, _)

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  pointwise [rows, k0_pay1, k0_pay2, G5]
  blk_point [iblk, V, index t]

theorem final6 (c : Dev nD) : (dats m 0 c).arrAt 6 cfg0.N
    = G6 (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6]
  pointwise [rows, k0_pay1, G6]
  blk_point [iblk, V, index t]

/-- The kernel and the reference over the extended reals. -/
theorem algebraic : Cert.algebraic_QkvIdeal_QkvRefIdeal := by
  pair_intro
  · run_from Cert.Proof.Qkv.run_main m g
  · run_from Cert.QkvRefIdeal.Value.run m' g'
    · refine Eq.trans ?_ (final5 m c).symm
      generalize m (c.tc.loc QkvIdeal.main_arg0) = x at *
      generalize m (c.tc.loc QkvIdeal.main_arg1) = gn at *
      generalize m (c.tc.loc QkvIdeal.main_arg2) = sc at *
      generalize m (c.tc.loc QkvIdeal.main_arg3) = sh at *
      generalize m (c.tc.loc QkvIdeal.main_arg4) = w at *
      clear hagree
      refine funext fun i => ?_
      idx_vars i
      pointwise [G5]
    · refine Eq.trans ?_ (final6 m c).symm
      generalize m (c.tc.loc QkvIdeal.main_arg0) = x at *
      generalize m (c.tc.loc QkvIdeal.main_arg1) = gn at *
      generalize m (c.tc.loc QkvIdeal.main_arg2) = sc at *
      generalize m (c.tc.loc QkvIdeal.main_arg3) = sh at *
      clear hagree
      refine funext fun i => ?_
      idx_vars i
      pointwise [G6]

/-- The two programs' body tables are one. -/
theorem defs_eq : (Cert.Qkv.defs (F := Bits)) = Cert.QkvIdeal.defs (F := Bits) :=
  congrArg (Pipeline.defs _) (congrArg Defs.onTc (funext fun l => by
    rcases l with ⟨_ | n, h⟩
    · funext p
      rcases p with ⟨t, s⟩
      exact rfl
    · omega))

/-- The frame of the kernel, read off the same run. -/
theorem frame_kernel : Cert.quiescent_Qkv (hQkv := Cert.Qkv.Gen.facts) := by
  intro m ρ _
  rw [defs_eq]
  exact frame (F := Bits) m ρ

end Cert.Proof.Qkv

end
-- ==== Proof.InRun.lean ====
/- The run of the projection with the norm before it. The first point of a row block puts the normalised rows into
   the second result's block; the block's later points read them from there and leave them in place. So after every point
   the second result's buffer holds the normalised rows of the point's own block, and the first result's their product
   with the point's columns. -/
module

public import proofs.«01_k».proof.Proof.Gen.InIdeal.Frame
public import proofs.«01_k».proof.Proof.Gen.InIdeal.Skeleton
public import Idealize.ShloMosaic.Lib.VecWindow
public import Idealize.ShloMosaic.Lib.Claim

@[expose] public section

set_option maxRecDepth 16384

noncomputable section

namespace Cert.Proof.In

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this program's runs. -/
abbrev Assert (F : FTy → Type) [FloatOps F] : Type := sProp (MT nD τ sig Unit (Elt F) ℕ (UR sig nD τ) ℕ)

/-- The body's condition: the point is the first of its row block. -/
abbrev opens (i : grid0.Coords) : Prop := k0_cond1 i = 1#1

theorem opens_iff : ∀ t : Fin cfg0.N, opens (grid0.coords t) ↔ t.val % 4 = 0 :=
  (by decide +kernel : ∀ t : Fin grid0.N, opens (grid0.coords t) ↔ t.val % 4 = 0)

/-! ## The body -/

set_option maxHeartbeats 1000000 in
/-- At the first point of a row block: the normalised rows go into the second result's block, and their product with the
    point's columns into the first's. -/
theorem body_opens (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x1024x1024 .bf16) (harg6 : arg6.IsWhole)
    (arg7 : Memref sig .tc .vmem S1x1024x1024 .f32) (harg7 : arg7.IsWhole) (arg8 : Memref sig .tc .vmem S1024x1024 .bf16) (harg8 : arg8.IsWhole)
    (hc : opens i) (x : Vec F S1024x1024 .f32) (g sc sh : Vec F S1x1024 .f32) (w : Vec F S1x1x1024x1024 .bf16)
    (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
        ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
            ∗ owns (c : Thread nD τ) arg7 fullShare (k0_pay2 (k0_pay1 x g sc sh) w)
            ∗ owns (c : Thread nD τ) arg8 fullShare (k0_pay1 x g sc sh)) -∗ K ⟨⟩))
      ⊢ wp frame (wpE (defs₀ (F := F)) Variants.none c none) E (cc0_l1_hgrn_in i arg2 harg2 arg3 harg3 arg4 harg4 arg5 harg5 arg6 harg6 arg7 harg7 arg8 harg8) K := by
  simp only [cc0_l1_hgrn_in_eq_skeleton]; unfold cc0_l1_hgrn_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    unfold body_opens.sl.v3 body_opens.sl.H6_1
    rw [View.readCov_full, View.readAt_full, View.readAt_full, View.readAt_full, View.readAt_full, View.readAt_full,
      harg2.read_unread, harg3.read_unread, harg4.read_unread, harg5.read_unread, harg6.read_unread]
  iexists _; isplitr
  swap; · iexact H6
  ipureintro
  unfold body_opens.sl.H6_1
  refine (View.read_writes_full _ _ _ _ _).trans ?_
  rw [View.readAt_full, View.readAt_full, View.readAt_full, View.readAt_full,
    harg2.read_unread, harg3.read_unread, harg4.read_unread, harg5.read_unread]

set_option maxHeartbeats 1000000 in
/-- At a later point of a row block: the rows `h` in the second result's block stay there. -/
theorem body_later (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x1024x1024 .bf16) (harg6 : arg6.IsWhole)
    (arg7 : Memref sig .tc .vmem S1x1024x1024 .f32) (harg7 : arg7.IsWhole) (arg8 : Memref sig .tc .vmem S1024x1024 .bf16) (harg8 : arg8.IsWhole)
    (hc : ¬ opens i) (x : Vec F S1024x1024 .f32) (g sc sh : Vec F S1x1024 .f32) (w : Vec F S1x1x1024x1024 .bf16)
    (h : Vec F S1024x1024 .bf16) (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
        ∗ (∃ d, owns (c : Thread nD τ) arg7 fullShare d) ∗ owns (c : Thread nD τ) arg8 fullShare h
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w
            ∗ owns (c : Thread nD τ) arg7 fullShare (k0_pay2 h w) ∗ owns (c : Thread nD τ) arg8 fullShare h) -∗ K ⟨⟩))
      ⊢ wp frame (wpE (defs₀ (F := F)) Variants.none c none) E (cc0_l1_hgrn_in i arg2 harg2 arg3 harg3 arg4 harg4 arg5 harg5 arg6 harg6 arg7 harg7 arg8 harg8) K := by
  simp only [cc0_l1_hgrn_in_eq_skeleton]; unfold cc0_l1_hgrn_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (View.read_writes_full _ _ _ _ _).trans ?_
    rw [View.readAt_full, View.readAt_full, harg8.read_unread, harg6.read_unread]
  iexists _; isplitr
  swap; · iexact H6
  ipureintro
  exact harg8.read_unread _

/-! ## What the buffers hold -/

variable (m : (ℓ : Loc nD τ sig) → Buf (Elt F) ℓ) (ρ : Dev nD → PrngReg)

/-- The first point of `t`'s row block. -/
def opening (t : Fin cfg0.N) : Fin cfg0.N := ⟨4 * (t.val / 4), by have := t.isLt; omega⟩

theorem opening_self (t : Fin cfg0.N) (h : t.val % 4 = 0) : opening t = t :=
  Fin.ext (by show 4 * (t.val / 4) = t.val; omega)

theorem opening_prev (t : Fin cfg0.N) (h : t.val % 4 ≠ 0) :
    opening ⟨t.val - 1, Nat.lt_of_le_of_lt (Nat.sub_le _ _) t.isLt⟩ = opening t :=
  Fin.ext (by show 4 * ((t.val - 1) / 4) = 4 * (t.val / 4); omega)

/-- The normalised rows of `t`'s row block. -/
def rows (c : Dev nD) (t : Fin cfg0.N) : Vec F S1024x1024 .bf16 :=
  k0_pay1 (iblk m c 0 (opening t)) (iblk m c 1 (opening t)) (iblk m c 2 (opening t)) (iblk m c 3 (opening t))

theorem rows_opens (c : Dev nD) (t : Fin cfg0.N) (h : t.val % 4 = 0) :
    rows m c t = k0_pay1 (iblk m c 0 t) (iblk m c 1 t) (iblk m c 2 t) (iblk m c 3 t) := by
  unfold rows; rw [opening_self t h]

theorem rows_prev (c : Dev nD) (t : Fin cfg0.N) (h : t.val % 4 ≠ 0) :
    rows m c ⟨t.val - 1, Nat.lt_of_le_of_lt (Nat.sub_le _ _) t.isLt⟩ = rows m c t := by
  unfold rows; rw [opening_prev t h]

/-- The proof data: the arrays as the region finds them; after each point an input's buffer still holds its block, the
    second result's the normalised rows and the first result's their product. -/
def dats (_p : Fin 1) (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (rows m c t) (iblk m c 4 t)
    | ⟨6, _⟩ => rows m c t
  Φ := fun _ => Pipeline.ΦA spec0 c
  q := fun _ => fullShare
  owed := fun _ => 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay2 (rows m c t) (iblk m c 4 t) := by dsimp only [dats]
theorem after0_6 (c : Dev nD) (t : Fin cfg0.N) : (dats m 0 c).after 6 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The second result's block is idle at the later points of a row block, -/
theorem idle_later (t : Fin cfg0.N) (h : t.val % 4 ≠ 0) : cfg0.idle 6 (cfg0.grid.coords t) = true := by
  have : ¬ opens (grid0.coords t) := fun hc => h ((opens_iff t).mp hc)
  show (!(k0_cond1 (grid0.coords t) == 1#1)) = true
  simpa [opens] using this

theorem idle_opens (t : Fin cfg0.N) (h : t.val % 4 = 0) : cfg0.idle 6 (cfg0.grid.coords t) = false := by
  have : opens (grid0.coords t) := (opens_iff t).mpr h
  show (!(k0_cond1 (grid0.coords t) == 1#1)) = false
  simpa [opens] using this

/-- and written back at the last of them. -/
theorem flush_inner (t : Fin cfg0.N) (h : t.val % 4 ≠ 3) : (cfg0.win 6).flush t = false :=
  Bool.eq_false_iff.mpr fun hf => h ((flush0_6 t).mp hf)

/-- So a later point finds the block's normalised rows in it. -/
theorem before_later (c : Dev nD) (d) : ∀ (n : ℕ) (t : Fin cfg0.N), t.val = n → t.val % 4 ≠ 0 → (dats m 0 c).before 6 t d = rows m c t := by
  intro n
  induction n with
  | zero => intro t h0 h; omega
  | succ n ih =>
    intro t h0 h
    have hfl : (cfg0.win 6).flush ⟨t.val - 1, Nat.lt_of_le_of_lt (Nat.sub_le _ _) t.isLt⟩ = false :=
      flush_inner _ (by show (t.val - 1) % 4 ≠ 3; omega)
    rw [(dats m 0 c).before_of_pos 6 t (by omega) ((cfg0.win 6).fetch_out rfl t), hfl, if_neg Bool.false_ne_true]
    unfold Dat.left
    by_cases h1 : (t.val - 1) % 4 = 0
    · rw [idle_opens ⟨t.val - 1, Nat.lt_of_le_of_lt (Nat.sub_le _ _) t.isLt⟩ h1]
      exact Eq.trans rfl (rows_prev m c t h)
    · rw [idle_later ⟨t.val - 1, Nat.lt_of_le_of_lt (Nat.sub_le _ _) t.isLt⟩ h1]
      exact (ih _ (by show t.val - 1 = n; omega) h1).trans (rows_prev m c t h)

/-! ## The body at a point -/

/-- What the body is called with at point `t`. -/
def given (c : Dev nD) (t : Fin cfg0.N) : Assert F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def returned (c : Dev nD) (t : Fin cfg0.N) : Assert F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- Where the second result's block holds the normalised rows, that is what the point is to leave. -/
theorem leaves_rows (c : Dev nD) (t : Fin cfg0.N) :
    owns (c : Thread nD τ) (st0_6 t) fullShare (rows m c t) ⊢ (dats m 0 c).leavesExact 6 t := by
  by_cases h : t.val % 4 = 0
  · unfold Dat.leavesExact; rw [idle_opens t h]; exact .rfl
  by_cases hl : t.val % 4 = 3
  · unfold Dat.leavesExact; rw [idle_later t h, (flush0_6 t).mpr hl]; exact .rfl
  · rw [(dats m 0 c).leavesExact_idle 6 t (idle_later t h) (flush_inner t hl)]
    iintro H
    iexists (rows m c t)
    rw [before_later m c _ t.val t rfl h]
    iexact H

theorem leaves_opens (c : Dev nD) (t : Fin cfg0.N) (h : t.val % 4 = 0) :
    owns (c : Thread nD τ) (st0_6 t) fullShare (k0_pay1 (iblk m c 0 t) (iblk m c 1 t) (iblk m c 2 t) (iblk m c 3 t))
      ⊢ (dats m 0 c).leavesExact 6 t := by
  rw [← rows_opens m c t h]; exact leaves_rows m c t

set_option maxHeartbeats 1000000 in
theorem body_point (c : Dev nD) (t : Fin cfg0.N) :
    given m c t ⊢ wp frame (wpE (defs₀ (F := F)) Variants.none c none) Set.univ (bodyAt0 t) (fun _ => returned m c t) := by
  unfold given returned bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h : t.val % 4 = 0
  · rw [rows_opens m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_opens c (grid0.coords t) _ _ _ _ _ _ _ _ _ _ _ _ _ _ ((opens_iff t).mpr h) (iblk m c 0 t) (iblk m c 1 t)
      (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_opens m c t h)
    iexact H6
  · simp only [before_later m c _ t.val t rfl h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ (fun hc => h ((opens_iff t).mp hc)) (iblk m c 0 t)
      (iblk m c 1 t) (iblk m c 2 t) (iblk m c 3 t) (iblk m c 4 t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_rows m c t)
    iexact H6

/-- The body table's row at a point's slots is the body there. -/
theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_point m c t) rfl .rfl fun _ => .rfl

/-! ## The run -/

set_option backward.isDefEq.respectTransparency.types false in
set_option maxHeartbeats 800000 in
/-- From any memory with the counters at zero the program ends, its arrays as the proof data say and the counters at zero. -/
theorem run_ends : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_ends m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_ends m ρ))

end Cert.Proof.In

end
-- ==== Proof.In.lean ====
/- The recurrence's projection with the norm before it: what the kernel leaves in its two results, as one function of the arguments each,
   and the claim about the two programs. The normalised rows are a row's entries times the inverse root of their mean
   square, times the gain, modulated by a scale and a shift; the first result is their product with each block of columns. -/
module

public import proofs.«01_k».proof.Defs
public import proofs.«01_k».proof.Proof.Gen.In
public import proofs.«01_k».proof.Proof.InRun
public import proofs.«01_k».proof.Proof.Gen.InRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.In

open Cert.InIdeal Cert.InIdeal.Gen Idealize.ShloMosaic Idealize.ShloMosaic.TcCoe Idealize.SL.Sem

/-- The normalised rows, modulated. -/
def G6 (x : Vec Ideal S4096x1024 .f32) (g sc sh : Vec Ideal S1x1024 .f32) : Vec Ideal S4096x1024 .bf16 :=
  fun i => x i * Ideal.rsqrt (Ideal.div (∑ k : Fin 1024, x (ix2 (i 0) k) * x (ix2 (i 0) k)) (Ideal.ofBits .f32 0x44800000#32)
      + Ideal.ofBits .f32 0x358637BD#32) * g (ix2 0 (i 1)) * (1 + sc (ix2 0 (i 1))) + sh (ix2 0 (i 1))

/-- Their product with a block of the weight's columns. -/
def G5 (x : Vec Ideal S4096x1024 .f32) (g sc sh : Vec Ideal S1x1024 .f32) (w : Vec Ideal S4x1x1024x1024 .bf16) :
    Vec Ideal S4x4096x1024 .f32 :=
  fun i => ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
    * w (ix4 (i 0) 0 k (i 2))

variable (m : (ℓ : Loc nD τ sig) → Buf (Elt Ideal) ℓ)

/-- Where each window's block of grid point `t` lies. -/
theorem index : ∀ t : Fin cfg0.N,
    (win0_0.index (opening t) = ![t.val / 4, 0] ∧ win0_1.index (opening t) = ![0, 0] ∧ win0_2.index (opening t) = ![0, 0])
    ∧ win0_3.index (opening t) = ![0, 0] ∧ win0_4.index t = ![t.val % 4, 0, 0, 0]
    ∧ win0_5.index t = ![t.val % 4, t.val / 4, 0] ∧ win0_6.index t = ![t.val / 4, 0] :=
  (by decide +kernel : ∀ t : Fin grid0.N, _)

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  pointwise [rows, k0_pay1, k0_pay2, G5]
  blk_point [iblk, V, index t]

theorem final6 (c : Dev nD) : (dats m 0 c).arrAt 6 cfg0.N
    = G6 (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6]
  pointwise [rows, k0_pay1, G6]
  blk_point [iblk, V, index t]

/-- The kernel and the reference over the extended reals. -/
theorem algebraic : Cert.algebraic_InIdeal_InRefIdeal := by
  pair_intro
  · run_from Cert.Proof.In.run_main m g
  · run_from Cert.InRefIdeal.Value.run m' g'
    · refine Eq.trans ?_ (final5 m c).symm
      generalize m (c.tc.loc InIdeal.main_arg0) = x at *
      generalize m (c.tc.loc InIdeal.main_arg1) = gn at *
      generalize m (c.tc.loc InIdeal.main_arg2) = sc at *
      generalize m (c.tc.loc InIdeal.main_arg3) = sh at *
      generalize m (c.tc.loc InIdeal.main_arg4) = w at *
      clear hagree
      refine funext fun i => ?_
      idx_vars i
      pointwise [G5]
    · refine Eq.trans ?_ (final6 m c).symm
      generalize m (c.tc.loc InIdeal.main_arg0) = x at *
      generalize m (c.tc.loc InIdeal.main_arg1) = gn at *
      generalize m (c.tc.loc InIdeal.main_arg2) = sc at *
      generalize m (c.tc.loc InIdeal.main_arg3) = sh at *
      clear hagree
      refine funext fun i => ?_
      idx_vars i
      pointwise [G6]

/-- The two programs' body tables are one. -/
theorem defs_eq : (Cert.In.defs (F := Bits)) = Cert.InIdeal.defs (F := Bits) :=
  congrArg (Pipeline.defs _) (congrArg Defs.onTc (funext fun l => by
    rcases l with ⟨_ | n, h⟩
    · funext p
      rcases p with ⟨t, s⟩
      exact rfl
    · omega))

/-- The frame of the kernel, read off the same run. -/
theorem frame_kernel : Cert.quiescent_In (hIn := Cert.In.Gen.facts) := by
  intro m ρ _
  rw [defs_eq]
  exact frame (F := Bits) m ρ

end Cert.Proof.In

end
-- ==== Proof.UpBwd0.lean ====
/- The first layer. The gradient of the feed-forward block's input: what the kernel leaves in its result, as one function of the arguments,
   and the claim about the two programs. A grid point holds one tile of rows and adds the products of the four shards. -/
module

public import proofs.«01_k».proof.Defs
public import proofs.«01_k».proof.Proof.Gen.UpBwd0Ideal.Frame
public import proofs.«01_k».proof.Proof.Gen.UpBwd0RefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.UpBwd0

open Cert.UpBwd0Ideal Cert.UpBwd0Ideal.Gen Idealize.ShloMosaic Idealize.ShloMosaic.TcCoe Idealize.SL.Sem

/-- The gradient at row `r` and input `j`: both products, over every shard and every column of it. -/
def G (d1 d3 : Vec Ideal S4x4096x704 .bf16) (w1 w3 : Vec Ideal S4x2x704x1024 .bf16) : Vec Ideal S4096x1024 .f32 :=
  fun i => ∑ s : Fin 4, (∑ k : Fin 704, d1 (ix3 s (i 0) k) * w1 (ix4 s 0 k (i 1)) + ∑ k : Fin 704, d3 (ix3 s (i 0) k) * w3 (ix4 s 0 k (i 1)))

variable (m : (ℓ : Loc nD τ sig) → Buf (Elt Ideal) ℓ) (ρ : Dev nD → PrngReg)

/-- Where each window's block of grid point `t` lies. -/
theorem index : ∀ t : Fin cfg0.N,
    (win0_0.index t = ![0, t.val, 0] ∧ win0_1.index t = ![0, t.val, 0])
    ∧ (win0_2.index t = ![0, 0, 0, 0] ∧ win0_3.index t = ![0, 0, 0, 0]) ∧ win0_4.index t = ![t.val, 0] :=
  (by decide +kernel : ∀ t : Fin grid0.N, _)

theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]; frame_out
  pointwise [k0_pay1, k0_pay2, G]
  simp only [Fin.sum_univ_four]
  blk_point [iblk, V, index t]

/-- The kernel and the reference over the extended reals. -/
theorem algebraic : Cert.algebraic_UpBwd0Ideal_UpBwd0RefIdeal := by
  pair_intro
  · run_from Cert.UpBwd0Ideal.Gen.run_main m g
  · run_from Cert.UpBwd0RefIdeal.Value.run m' g'
    refine Eq.trans ?_ (final m c).symm
    generalize m (c.tc.loc UpBwd0Ideal.main_arg0) = d1 at *
    generalize m (c.tc.loc UpBwd0Ideal.main_arg1) = d3 at *
    generalize m (c.tc.loc UpBwd0Ideal.main_arg2) = w1 at *
    generalize m (c.tc.loc UpBwd0Ideal.main_arg3) = w3 at *
    clear hagree
    refine funext fun i => ?_
    idx_vars i
    pointwise [G]
    rw [Finset.sum_add_distrib, add_comm]
    exact congrArg₂ (· + ·) (Fin.sum_divmod_congr fun x ha hs => rfl) (Fin.sum_divmod_congr fun x ha hs => rfl)

end Cert.Proof.UpBwd0

end
-- ==== Proof.Down0.lean ====
/- The first layer. The product by the down projection and the gated residual: what the kernel leaves in its two results, as one function of
   the arguments each, and the claim about the two programs. A grid point holds one tile of rows and adds the products of
   the four shards. -/
module

public import proofs.«01_k».proof.Defs
public import proofs.«01_k».proof.Proof.Gen.Down0Ideal.Frame
public import proofs.«01_k».proof.Proof.Gen.Down0RefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.Down0

open Cert.Down0Ideal Cert.Down0Ideal.Gen Idealize.ShloMosaic Idealize.ShloMosaic.TcCoe Idealize.SL.Sem

/-- The product at row `r` and output `j`: over every shard and every column of it. -/
def G4 (a : Vec Ideal S4x4096x704 .bf16) (w : Vec Ideal S4x2x704x1024 .bf16) : Vec Ideal S4096x1024 .bf16 :=
  fun i => ∑ s : Fin 4, ∑ k : Fin 704, a (ix3 s (i 0) k) * w (ix4 s 0 k (i 1))

/-- The residual: the row before, plus the gate times the product. -/
def G5 (a : Vec Ideal S4x4096x704 .bf16) (w : Vec Ideal S4x2x704x1024 .bf16) (x : Vec Ideal S4096x1024 .f32)
    (g : Vec Ideal S1x1024 .f32) : Vec Ideal S4096x1024 .f32 :=
  fun i => x i + g (ix2 0 (i 1)) * ∑ s : Fin 4, ∑ k : Fin 704, a (ix3 s (i 0) k) * w (ix4 s 0 k (i 1))

variable (m : (ℓ : Loc nD τ sig) → Buf (Elt Ideal) ℓ) (ρ : Dev nD → PrngReg)

/-- Where each window's block of grid point `t` lies. -/
theorem index : ∀ t : Fin cfg0.N,
    (win0_0.index t = ![0, t.val, 0] ∧ win0_1.index t = ![0, 0, 0, 0])
    ∧ (win0_2.index t = ![t.val, 0] ∧ win0_3.index t = ![0, 0]) ∧ win0_4.index t = ![t.val, 0] ∧ win0_5.index t = ![t.val, 0] :=
  (by decide +kernel : ∀ t : Fin grid0.N, _)

theorem final4 (c : Dev nD) : (dats m 0 c).arrAt 4 cfg0.N
    = G4 (m ((c : Thread nD τ).loc main_arg0)) (m ((c : Thread nD τ).loc main_arg1)) := by
  refine (dats m 0 c).arrAt_eq_of_covers 4 _ (by decide +kernel) fun t hf y => ?_
  blk_simp
  rw [after0_4]; frame_out
  pointwise [k0_pay1, k0_pay2, k0_pay3, G4]
  simp only [Fin.sum_univ_four]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay2, k0_pay3, G5]
  simp only [Fin.sum_univ_four]
  blk_point [iblk, V, index t]

/-- The kernel and the reference over the extended reals. -/
theorem algebraic : Cert.algebraic_Down0Ideal_Down0RefIdeal := by
  pair_intro
  · run_from Cert.Down0Ideal.Gen.run_main m g
  · run_from Cert.Down0RefIdeal.Value.run m' g'
    · refine Eq.trans ?_ (final4 m c).symm
      generalize m (c.tc.loc Down0Ideal.main_arg0) = a at *
      generalize m (c.tc.loc Down0Ideal.main_arg1) = w at *
      clear hagree
      refine funext fun i => ?_
      idx_vars i
      pointwise [G4]
      exact Fin.sum_divmod_congr fun x ha hs => rfl
    · refine Eq.trans ?_ (final5 m c).symm
      generalize m (c.tc.loc Down0Ideal.main_arg0) = a at *
      generalize m (c.tc.loc Down0Ideal.main_arg1) = w at *
      generalize m (c.tc.loc Down0Ideal.main_arg2) = x at *
      generalize m (c.tc.loc Down0Ideal.main_arg3) = g at *
      clear hagree
      refine funext fun i => ?_
      idx_vars i
      pointwise [G5]
      exact congrArg (fun z : EReal => (show EReal from x (ix2 i0 i1)) + (show EReal from g (ix2 0 i1)) * z) (Fin.sum_divmod_congr fun x ha hs => rfl)

end Cert.Proof.Down0

end
-- ==== Proof.Up0Run.lean ====
/- The first layer. The run of the feed-forward layer's two products with the norm before it. The first point of a row block puts the normalised rows into
   the last result's block; the block's later points read them from there and leave them in place. So after every point
   the last result's buffer holds the normalised rows of the point's own block, the first two results' their products
   with the point's rows of the two weights, and the third's the gated product. -/
module

public import proofs.«01_k».proof.Proof.Gen.Up0Ideal.Frame
public import proofs.«01_k».proof.Proof.Gen.Up0Ideal.Skeleton
public import Idealize.ShloMosaic.Lib.VecWindow
public import Idealize.ShloMosaic.Lib.Claim

@[expose] public section

set_option maxRecDepth 16384

noncomputable section

namespace Cert.Proof.Up0

open Cert.Up0Ideal Cert.Up0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions of this program's runs. -/
abbrev Assert (F : FTy → Type) [FloatOps F] : Type := sProp (MT nD τ sig Unit (Elt F) ℕ (UR sig nD τ) ℕ)

/-- The body's condition: the point is the first of its row block. -/
abbrev opens (i : grid0.Coords) : Prop := k0_cond1 i = 1#1

theorem opens_iff : ∀ t : Fin cfg0.N, opens (grid0.coords t) ↔ t.val % 4 = 0 :=
  (by decide +kernel : ∀ t : Fin grid0.N, opens (grid0.coords t) ↔ t.val % 4 = 0)

/-! ## The body -/

set_option maxHeartbeats 1000000 in
/-- At the first point of a row block: the normalised rows go into the last result's block, and their product with the
    point's columns into the first's. -/
theorem body_opens (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x704x1024 .bf16) (harg6 : arg6.IsWhole)
    (arg7 : Memref sig .tc .vmem S1x1x704x1024 .bf16) (harg7 : arg7.IsWhole) (arg8 : Memref sig .tc .vmem S1x1024x704 .bf16) (harg8 : arg8.IsWhole)
    (arg9 : Memref sig .tc .vmem S1x1024x704 .bf16) (harg9 : arg9.IsWhole) (arg10 : Memref sig .tc .vmem S1x1024x704 .bf16) (harg10 : arg10.IsWhole)
    (arg11 : Memref sig .tc .vmem S1024x1024 .bf16) (harg11 : arg11.IsWhole)
    (hc : opens i) (x : Vec F S1024x1024 .f32) (g sc sh : Vec F S1x1024 .f32) (w z : Vec F S1x1x704x1024 .bf16)
    (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
            ∗ owns (c : Thread nD τ) arg8 fullShare (k0_pay6 (k0_pay2 x g sc sh) w)
            ∗ owns (c : Thread nD τ) arg9 fullShare (k0_pay7 (k0_pay2 x g sc sh) z)
            ∗ owns (c : Thread nD τ) arg10 fullShare (k0_pay1 (k0_pay8 (k0_pay2 x g sc sh) w z))
            ∗ owns (c : Thread nD τ) arg11 fullShare (k0_pay2 x g sc sh)) -∗ K ⟨⟩))
      ⊢ wp frame (wpE (defs₀ (F := F)) Variants.none c none) E (cc0_l0_ffn_up i arg2 harg2 arg3 harg3 arg4 harg4 arg5 harg5 arg6 harg6 arg7 harg7 arg8 harg8 arg9 harg9 arg10 harg10 arg11 harg11) K := by
  simp only [cc0_l0_ffn_up_eq_skeleton]; unfold cc0_l0_ffn_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩,
    ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    unfold body_opens.sl.v3 body_opens.sl.H9_1
    rw [View.readCov_full, View.readAt_full, View.readAt_full, View.readAt_full, View.readAt_full, View.readAt_full,
      harg2.read_unread, harg3.read_unread, harg4.read_unread, harg5.read_unread, harg6.read_unread]
  isplitl [H7]
  · iexists _; isplitr
    swap; · iexact H7
    ipureintro
    refine (View.read_writes_full _ _ _ _ _).trans ?_
    unfold body_opens.sl.v3 body_opens.sl.H9_1
    rw [View.readCov_full, View.readAt_full, View.readAt_full, View.readAt_full, View.readAt_full, View.readAt_full,
      harg2.read_unread, harg3.read_unread, harg4.read_unread, harg5.read_unread, harg7.read_unread]
  isplitl [H8]
  · iexists _; isplitr
    swap; · iexact H8
    ipureintro
    refine (View.read_writes_full _ _ _ _ _).trans ?_
    unfold body_opens.sl.v3 body_opens.sl.H9_1
    rw [View.readCov_full, View.readAt_full, View.readAt_full, View.readAt_full, View.readAt_full, View.readAt_full, View.readAt_full,
      harg2.read_unread, harg3.read_unread, harg4.read_unread, harg5.read_unread, harg6.read_unread, harg7.read_unread]
  iexists _; isplitr
  swap; · iexact H9
  ipureintro
  unfold body_opens.sl.H9_1
  refine (View.read_writes_full _ _ _ _ _).trans ?_
  rw [View.readAt_full, View.readAt_full, View.readAt_full, View.readAt_full,
    harg2.read_unread, harg3.read_unread, harg4.read_unread, harg5.read_unread]

set_option maxHeartbeats 1000000 in
/-- At a later point of a row block: the rows `h` in the last result's block stay there. -/
theorem body_later (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1x1024 .f32) (harg5 : arg5.IsWhole) (arg6 : Memref sig .tc .vmem S1x1x704x1024 .bf16) (harg6 : arg6.IsWhole)
    (arg7 : Memref sig .tc .vmem S1x1x704x1024 .bf16) (harg7 : arg7.IsWhole) (arg8 : Memref sig .tc .vmem S1x1024x704 .bf16) (harg8 : arg8.IsWhole)
    (arg9 : Memref sig .tc .vmem S1x1024x704 .bf16) (harg9 : arg9.IsWhole) (arg10 : Memref sig .tc .vmem S1x1024x704 .bf16) (harg10 : arg10.IsWhole)
    (arg11 : Memref sig .tc .vmem S1024x1024 .bf16) (harg11 : arg11.IsWhole)
    (hc : ¬ opens i) (x : Vec F S1024x1024 .f32) (g sc sh : Vec F S1x1024 .f32) (w z : Vec F S1x1x704x1024 .bf16)
    (h : Vec F S1024x1024 .bf16) (E : Set ℕ) (K : PUnit → Assert F) :
    iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare h
        ∗ (iprop(owns (c : Thread nD τ) arg2 fullShare x ∗ owns (c : Thread nD τ) arg3 fullShare g ∗ owns (c : Thread nD τ) arg4 fullShare sc
        ∗ owns (c : Thread nD τ) arg5 fullShare sh ∗ owns (c : Thread nD τ) arg6 fullShare w ∗ owns (c : Thread nD τ) arg7 fullShare z
            ∗ owns (c : Thread nD τ) arg8 fullShare (k0_pay6 h w) ∗ owns (c : Thread nD τ) arg9 fullShare (k0_pay7 h z)
            ∗ owns (c : Thread nD τ) arg10 fullShare (k0_pay1 (k0_pay8 h w z)) ∗ owns (c : Thread nD τ) arg11 fullShare h) -∗ K ⟨⟩))
      ⊢ wp frame (wpE (defs₀ (F := F)) Variants.none c none) E (cc0_l0_ffn_up i arg2 harg2 arg3 harg3 arg4 harg4 arg5 harg5 arg6 harg6 arg7 harg7 arg8 harg8 arg9 harg9 arg10 harg10 arg11 harg11) K := by
  simp only [cc0_l0_ffn_up_eq_skeleton]; unfold cc0_l0_ffn_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩,
    ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg11.eq_unread hf9
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_full _ _ _ _ _).trans ?_
    rw [View.readAt_full, View.readAt_full,
      harg11.read_unread, harg6.read_unread]
  isplitl [H7]
  · iexists _; isplitr
    swap; · iexact H7
    ipureintro
    refine (View.read_writes_full _ _ _ _ _).trans ?_
    rw [View.readAt_full, View.readAt_full,
      harg11.read_unread, harg7.read_unread]
  isplitl [H8]
  · iexists _; isplitr
    swap; · iexact H8
    ipureintro
    refine (View.read_writes_full _ _ _ _ _).trans ?_
    rw [View.readAt_full, View.readAt_full, View.readAt_full,
      harg11.read_unread, harg6.read_unread, harg7.read_unread]
  iexists _; isplitr
  swap; · iexact H9
  ipureintro
  exact harg11.read_unread _

/-! ## What the buffers hold -/

variable (m : (ℓ : Loc nD τ sig) → Buf (Elt F) ℓ) (ρ : Dev nD → PrngReg)

/-- The first point of `t`'s row block. -/
def opening (t : Fin cfg0.N) : Fin cfg0.N := ⟨4 * (t.val / 4), by have := t.isLt; omega⟩

theorem opening_self (t : Fin cfg0.N) (h : t.val % 4 = 0) : opening t = t :=
  Fin.ext (by show 4 * (t.val / 4) = t.val; omega)

theorem opening_prev (t : Fin cfg0.N) (h : t.val % 4 ≠ 0) :
    opening ⟨t.val - 1, Nat.lt_of_le_of_lt (Nat.sub_le _ _) t.isLt⟩ = opening t :=
  Fin.ext (by show 4 * ((t.val - 1) / 4) = 4 * (t.val / 4); omega)

/-- The normalised rows of `t`'s row block. -/
def rows (c : Dev nD) (t : Fin cfg0.N) : Vec F S1024x1024 .bf16 :=
  k0_pay2 (iblk m c 0 (opening t)) (iblk m c 1 (opening t)) (iblk m c 2 (opening t)) (iblk m c 3 (opening t))

theorem rows_opens (c : Dev nD) (t : Fin cfg0.N) (h : t.val % 4 = 0) :
    rows m c t = k0_pay2 (iblk m c 0 t) (iblk m c 1 t) (iblk m c 2 t) (iblk m c 3 t) := by
  unfold rows; rw [opening_self t h]

theorem rows_prev (c : Dev nD) (t : Fin cfg0.N) (h : t.val % 4 ≠ 0) :
    rows m c ⟨t.val - 1, Nat.lt_of_le_of_lt (Nat.sub_le _ _) t.isLt⟩ = rows m c t := by
  unfold rows; rw [opening_prev t h]

/-- The proof data: the arrays as the region finds them; after each point an input's buffer still holds its block, the
    last result's the normalised rows and the first result's their product. -/
def dats (_p : Fin 1) (c : Dev nD) : Dat τ (Elt F) Unit ℕ (UR sig nD τ) ℕ cfg0 c where
  A := fun w => V m c (Pipeline.arrRef spec0 w)
  after := fun w t => match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay6 (rows m c t) (iblk m c 4 t)
    | ⟨7, _⟩ => k0_pay7 (rows m c t) (iblk m c 5 t)
    | ⟨8, _⟩ => k0_pay1 (k0_pay8 (rows m c t) (iblk m c 4 t) (iblk m c 5 t))
    | ⟨9, _⟩ => rows m c t
  Φ := fun _ => Pipeline.ΦA spec0 c
  q := fun _ => fullShare
  owed := fun _ => 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay6 (rows m c t) (iblk m c 4 t) := by dsimp only [dats]
theorem after0_7 (c : Dev nD) (t : Fin cfg0.N) : (dats m 0 c).after 7 t = k0_pay7 (rows m c t) (iblk m c 5 t) := by dsimp only [dats]
theorem after0_8 (c : Dev nD) (t : Fin cfg0.N) :
    (dats m 0 c).after 8 t = k0_pay1 (k0_pay8 (rows m c t) (iblk m c 4 t) (iblk m c 5 t)) := by dsimp only [dats]
theorem after0_9 (c : Dev nD) (t : Fin cfg0.N) : (dats m 0 c).after 9 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The last result's block is idle at the later points of a row block, -/
theorem idle_later (t : Fin cfg0.N) (h : t.val % 4 ≠ 0) : cfg0.idle 9 (cfg0.grid.coords t) = true := by
  have : ¬ opens (grid0.coords t) := fun hc => h ((opens_iff t).mp hc)
  show (!(k0_cond1 (grid0.coords t) == 1#1)) = true
  simpa [opens] using this

theorem idle_opens (t : Fin cfg0.N) (h : t.val % 4 = 0) : cfg0.idle 9 (cfg0.grid.coords t) = false := by
  have : opens (grid0.coords t) := (opens_iff t).mpr h
  show (!(k0_cond1 (grid0.coords t) == 1#1)) = false
  simpa [opens] using this

/-- and written back at the last of them. -/
theorem flush_inner (t : Fin cfg0.N) (h : t.val % 4 ≠ 3) : (cfg0.win 9).flush t = false :=
  Bool.eq_false_iff.mpr fun hf => h ((flush0_9 t).mp hf)

/-- So a later point finds the block's normalised rows in it. -/
theorem before_later (c : Dev nD) (d) : ∀ (n : ℕ) (t : Fin cfg0.N), t.val = n → t.val % 4 ≠ 0 → (dats m 0 c).before 9 t d = rows m c t := by
  intro n
  induction n with
  | zero => intro t h0 h; omega
  | succ n ih =>
    intro t h0 h
    have hfl : (cfg0.win 9).flush ⟨t.val - 1, Nat.lt_of_le_of_lt (Nat.sub_le _ _) t.isLt⟩ = false :=
      flush_inner _ (by show (t.val - 1) % 4 ≠ 3; omega)
    rw [(dats m 0 c).before_of_pos 9 t (by omega) ((cfg0.win 9).fetch_out rfl t), hfl, if_neg Bool.false_ne_true]
    unfold Dat.left
    by_cases h1 : (t.val - 1) % 4 = 0
    · rw [idle_opens ⟨t.val - 1, Nat.lt_of_le_of_lt (Nat.sub_le _ _) t.isLt⟩ h1]
      exact Eq.trans rfl (rows_prev m c t h)
    · rw [idle_later ⟨t.val - 1, Nat.lt_of_le_of_lt (Nat.sub_le _ _) t.isLt⟩ h1]
      exact (ih _ (by show t.val - 1 = n; omega) h1).trans (rows_prev m c t h)

/-! ## The body at a point -/

/-- What the body is called with at point `t`. -/
def given (c : Dev nD) (t : Fin cfg0.N) : Assert F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def returned (c : Dev nD) (t : Fin cfg0.N) : Assert F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t)

/-- Where the last result's block holds the normalised rows, that is what the point is to leave. -/
theorem leaves_rows (c : Dev nD) (t : Fin cfg0.N) :
    owns (c : Thread nD τ) (st0_9 t) fullShare (rows m c t) ⊢ (dats m 0 c).leavesExact 9 t := by
  by_cases h : t.val % 4 = 0
  · unfold Dat.leavesExact; rw [idle_opens t h]; exact .rfl
  by_cases hl : t.val % 4 = 3
  · unfold Dat.leavesExact; rw [idle_later t h, (flush0_9 t).mpr hl]; exact .rfl
  · rw [(dats m 0 c).leavesExact_idle 9 t (idle_later t h) (flush_inner t hl)]
    iintro H
    iexists (rows m c t)
    rw [before_later m c _ t.val t rfl h]
    iexact H

theorem leaves_opens (c : Dev nD) (t : Fin cfg0.N) (h : t.val % 4 = 0) :
    owns (c : Thread nD τ) (st0_9 t) fullShare (k0_pay2 (iblk m c 0 t) (iblk m c 1 t) (iblk m c 2 t) (iblk m c 3 t))
      ⊢ (dats m 0 c).leavesExact 9 t := by
  rw [← rows_opens m c t h]; exact leaves_rows m c t

set_option maxHeartbeats 1000000 in
theorem body_point (c : Dev nD) (t : Fin cfg0.N) :
    given m c t ⊢ wp frame (wpE (defs₀ (F := F)) Variants.none c none) Set.univ (bodyAt0 t) (fun _ => returned m c t) := by
  unfold given returned bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h : t.val % 4 = 0
  · rw [rows_opens m c t h]
    iintro ⟨HΦ, Ho, ⟨%d0, H0⟩, ⟨%d1, H1⟩, ⟨%d2, H2⟩, ⟨%d3, H3⟩, ⟨%d4, H4⟩, ⟨%d5, H5⟩,
      ⟨%d6, H6⟩, ⟨%d7, H7⟩, ⟨%d8, H8⟩, ⟨%d9, H9⟩⟩
    iapply (body_opens c (grid0.coords t) _ _ _ _ _ _ _ _ _ _ _ _ _ _ _ _ _ _ _ _ ((opens_iff t).mpr h) (iblk m c 0 t) (iblk m c 1 t)
      (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_opens m c t h)
    iexact H9
  · simp only [before_later m c _ t.val t rfl h]
    iintro ⟨HΦ, Ho, ⟨%d0, H0⟩, ⟨%d1, H1⟩, ⟨%d2, H2⟩, ⟨%d3, H3⟩, ⟨%d4, H4⟩, ⟨%d5, H5⟩,
      ⟨%d6, H6⟩, ⟨%d7, H7⟩, ⟨%d8, H8⟩, ⟨%d9, H9⟩⟩
    iapply (body_later c (grid0.coords t) _ _ _ _ _ _ _ _ _ _ _ _ _ _ _ _ _ _ _ _ (fun hc => h ((opens_iff t).mp hc)) (iblk m c 0 t)
      (iblk m c 1 t) (iblk m c 2 t) (iblk m c 3 t) (iblk m c 4 t) (iblk m c 5 t) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply (leaves_rows m c t)
    iexact H9

/-- The body table's row at a point's slots is the body there. -/
theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_point m c t) rfl .rfl fun _ => .rfl

/-! ## The run -/

set_option backward.isDefEq.respectTransparency.types false in
set_option maxHeartbeats 800000 in
/-- From any memory with the counters at zero the program ends, its arrays as the proof data say and the counters at zero. -/
theorem run_ends : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_ends m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_ends m ρ))

end Cert.Proof.Up0

end
-- ==== Proof.Up0.lean ====
/- The first layer. The feed-forward layer's two products with the norm before them: what the kernel leaves in its four results, as one
   function of the arguments each, and the claim about the two programs. The normalised rows are a row's entries times the
   inverse root of their mean square, times the gain, modulated by a scale and a shift; they are multiplied by the rows of
   two weights, and the third result gates one product by the other. -/
module

public import proofs.«01_k».proof.Defs
public import proofs.«01_k».proof.Proof.Gen.Up0
public import proofs.«01_k».proof.Proof.Up0Run
public import proofs.«01_k».proof.Proof.Gen.Up0RefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.Up0

open Cert.Up0Ideal Cert.Up0Ideal.Gen Idealize.ShloMosaic Idealize.ShloMosaic.TcCoe Idealize.SL.Sem

/-- The normalised rows, modulated. -/
def G9 (x : Vec Ideal S4096x1024 .f32) (g sc sh : Vec Ideal S1x1024 .f32) : Vec Ideal S4096x1024 .bf16 :=
  fun i => x (ix2 (i 0) (i 1)) * Ideal.rsqrt (Ideal.div (∑ l : Fin 1024, x (ix2 (i 0) l) * x (ix2 (i 0) l))
      (Ideal.ofBits .f32 0x44800000#32) + Ideal.ofBits .f32 0x358637BD#32) * g (ix2 0 (i 1)) * (1 + sc (ix2 0 (i 1))) + sh (ix2 0 (i 1))

/-- Their product with a block of a weight's rows. -/
def G6 (x : Vec Ideal S4096x1024 .f32) (g sc sh : Vec Ideal S1x1024 .f32) (w : Vec Ideal S4x2x704x1024 .bf16) :
    Vec Ideal S4x4096x704 .bf16 :=
  fun i => ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
    * w (ix4 (i 0) 0 (i 2) k)

/-- One product, passed through the gate of the other. -/
def G8 (x : Vec Ideal S4096x1024 .f32) (g sc sh : Vec Ideal S1x1024 .f32) (w z : Vec Ideal S4x2x704x1024 .bf16) :
    Vec Ideal S4x4096x704 .bf16 :=
  fun i => (∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
      * w (ix4 (i 0) 0 (i 2) k))
    * Ideal.div 1 (1 + Ideal.exp (0 - ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
      * w (ix4 (i 0) 0 (i 2) k)))
    * ∑ k : Fin 1024, (x (ix2 (i 1) k) * Ideal.rsqrt (Ideal.div (∑ l : Fin 1024, x (ix2 (i 1) l) * x (ix2 (i 1) l))
      (Ideal.ofBits .f32 0x44800000#32) + Ideal.ofBits .f32 0x358637BD#32) * g (ix2 0 k) * (1 + sc (ix2 0 k)) + sh (ix2 0 k))
      * z (ix4 (i 0) 0 (i 2) k)

variable (m : (ℓ : Loc nD τ sig) → Buf (Elt Ideal) ℓ)

/-- Where each window's block of grid point `t` lies. -/
theorem index : ∀ t : Fin cfg0.N,
    (win0_0.index (opening t) = ![t.val / 4, 0] ∧ win0_1.index (opening t) = ![0, 0] ∧ win0_2.index (opening t) = ![0, 0])
    ∧ (win0_3.index (opening t) = ![0, 0] ∧ win0_4.index t = ![t.val % 4, 0, 0, 0] ∧ win0_5.index t = ![t.val % 4, 0, 0, 0])
    ∧ (win0_6.index t = ![t.val % 4, t.val / 4, 0] ∧ win0_7.index t = ![t.val % 4, t.val / 4, 0])
    ∧ win0_8.index t = ![t.val % 4, t.val / 4, 0] ∧ win0_9.index t = ![t.val / 4, 0] :=
  (by decide +kernel : ∀ t : Fin grid0.N, _)

theorem final6 (c : Dev nD) : (dats m 0 c).arrAt 6 cfg0.N
    = G6 (m ((c : Thread nD τ).loc main_arg0))
        (m ((c : Thread nD τ).loc main_arg1))
        (m ((c : Thread nD τ).loc main_arg2))
        (m ((c : Thread nD τ).loc main_arg3))
        (m ((c : Thread nD τ).loc main_arg4)) := by
  refine (dats m 0 c).arrAt_eq_of_covers 6 _ (by decide +kernel) fun t hf y => ?_
  blk_simp
  rw [after0_6]
  pointwise [rows, k0_pay2, k0_pay6, k0_pay4, k0_pay3, G6]
  blk_point [iblk, V, index t]

theorem final7 (c : Dev nD) : (dats m 0 c).arrAt 7 cfg0.N
    = G6 (m ((c : Thread nD τ).loc main_arg0))
        (m ((c : Thread nD τ).loc main_arg1))
        (m ((c : Thread nD τ).loc main_arg2))
        (m ((c : Thread nD τ).loc main_arg3))
        (m ((c : Thread nD τ).loc main_arg5)) := by
  refine (dats m 0 c).arrAt_eq_of_covers 7 _ (by decide +kernel) fun t hf y => ?_
  blk_simp
  rw [after0_7]
  pointwise [rows, k0_pay2, k0_pay7, k0_pay5, k0_pay3, G6]
  blk_point [iblk, V, index t]

theorem final8 (c : Dev nD) : (dats m 0 c).arrAt 8 cfg0.N
    = G8 (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5)) := by
  refine (dats m 0 c).arrAt_eq_of_covers 8 _ (by decide +kernel) fun t hf y => ?_
  blk_simp
  rw [after0_8]
  pointwise [rows, k0_pay2, k0_pay1, k0_pay8, k0_pay4, k0_pay5, k0_pay3, G8]
  blk_point [iblk, V, index t]

theorem final9 (c : Dev nD) : (dats m 0 c).arrAt 9 cfg0.N
    = G9 (m ((c : Thread nD τ).loc main_arg0))
        (m ((c : Thread nD τ).loc main_arg1))
        (m ((c : Thread nD τ).loc main_arg2))
        (m ((c : Thread nD τ).loc main_arg3)) := by
  refine (dats m 0 c).arrAt_eq_of_covers 9 _ (by decide +kernel) fun t hf y => ?_
  blk_simp
  rw [after0_9]
  pointwise [rows, k0_pay2, G9]
  blk_point [iblk, V, index t]

set_option maxHeartbeats 1600000 in
/-- The kernel and the reference over the extended reals. -/
theorem algebraic : Cert.algebraic_Up0Ideal_Up0RefIdeal := by
  pair_intro
  · run_from Cert.Proof.Up0.run_main m g
  · run_from Cert.Up0RefIdeal.Value.run m' g'
    · refine Eq.trans ?_ (final6 m c).symm
      generalize m (c.tc.loc Up0Ideal.main_arg0) = x at *
      generalize m (c.tc.loc Up0Ideal.main_arg1) = gn at *
      generalize m (c.tc.loc Up0Ideal.main_arg2) = sc at *
      generalize m (c.tc.loc Up0Ideal.main_arg3) = sh at *
      generalize m (c.tc.loc Up0Ideal.main_arg4) = w at *
      clear hagree
      refine funext fun i => ?_
      idx_vars i
      pointwise [G6]
    · refine Eq.trans ?_ (final7 m c).symm
      generalize m (c.tc.loc Up0Ideal.main_arg0) = x at *
      generalize m (c.tc.loc Up0Ideal.main_arg1) = gn at *
      generalize m (c.tc.loc Up0Ideal.main_arg2) = sc at *
      generalize m (c.tc.loc Up0Ideal.main_arg3) = sh at *
      generalize m (c.tc.loc Up0Ideal.main_arg5) = z at *
      clear hagree
      refine funext fun i => ?_
      idx_vars i
      pointwise [G6]
    · refine Eq.trans ?_ (final8 m c).symm
      unfold Cert.Up0RefIdeal.Value.res_main_v40
      obtain ⟨h0, h1, h2, h3, h4, h5⟩ := hagree c
      rw [h0, h1, h2, h3, h4, h5]
      clear h0 h1 h2 h3 h4 h5
      generalize m (c.tc.loc Up0Ideal.main_arg0) = x at *
      generalize m (c.tc.loc Up0Ideal.main_arg1) = gn at *
      generalize m (c.tc.loc Up0Ideal.main_arg2) = sc at *
      generalize m (c.tc.loc Up0Ideal.main_arg3) = sh at *
      generalize m (c.tc.loc Up0Ideal.main_arg4) = w at *
      generalize m (c.tc.loc Up0Ideal.main_arg5) = z at *
      clear hagree
      refine funext fun i => ?_
      idx_vars i
      pointwise [G8, zero_sub]
    · refine Eq.trans ?_ (final9 m c).symm
      generalize m (c.tc.loc Up0Ideal.main_arg0) = x at *
      generalize m (c.tc.loc Up0Ideal.main_arg1) = gn at *
      generalize m (c.tc.loc Up0Ideal.main_arg2) = sc at *
      generalize m (c.tc.loc Up0Ideal.main_arg3) = sh at *
      clear hagree
      refine funext fun i => ?_
      idx_vars i
      pointwise [G9]

/-- The two programs' body tables are one. -/
theorem defs_eq : (Cert.Up0.defs (F := Bits)) = Cert.Up0Ideal.defs (F := Bits) :=
  congrArg (Pipeline.defs _) (congrArg Defs.onTc (funext fun l => by
    rcases l with ⟨_ | n, h⟩
    · funext p
      rcases p with ⟨t, s⟩
      exact rfl
    · omega))

/-- The frame of the kernel, read off the same run. -/
theorem frame_kernel : Cert.quiescent_Up0 (hUp0 := Cert.Up0.Gen.facts) := by
  intro m ρ _
  rw [defs_eq]
  exact frame (F := Bits) m ρ

end Cert.Proof.Up0

end
-- ==== Proof.NormRow.lean ====
/- One row of the norm's gradient: the kernel's form, the chain rule's form, and that they are one number. -/
module

public import Idealize.ShloMosaic.Lib.IdealHost

@[expose] public section

noncomputable section

namespace Cert.Proof.NormRow

open Idealize.ShloMosaic

/-- The reciprocal root of the row's mean square, with the norm's epsilon. -/
def invRoot (x : Fin 1024 → EReal) : EReal :=
  Ideal.rsqrt (Ideal.div (∑ l, x l * x l) (Ideal.ofBits .f32 0x44800000#32) + Ideal.ofBits .f32 0x358637BD#32)

/-- The kernel's gradient of the row's element `j`, added to the residual's. -/
def dx (x g sc dh dres : Fin 1024 → EReal) (j : Fin 1024) : EReal :=
  dres j + invRoot x * (dh j * (1 + sc j) * g j
    - x j * invRoot x * Ideal.div (∑ l, dh l * (1 + sc l) * g l * (x l * invRoot x)) (Ideal.ofBits .f32 0x44800000#32))

/-- The chain rule's coefficient of the row itself, half of it: the derivative of the mean square's reciprocal root. -/
def half (x g sc dh : Fin 1024 → EReal) : EReal :=
  Ideal.div ((∑ l, x l * (dh l * (1 + sc l) * g l)) * (Ideal.ofBits .f32 0xBF000000#32
    * Ideal.div (invRoot x) (Ideal.div (∑ l, x l * x l) (Ideal.ofBits .f32 0x44800000#32) + Ideal.ofBits .f32 0x358637BD#32)))
    (Ideal.ofBits .f32 0x44800000#32)

theorem width : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul, -EReal.coe_neg]; norm_num

/-- The norm's epsilon is positive. -/
theorem eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A sum of reals is the real sum. -/
theorem sum_coe {ι : Type} (s : Finset ι) (f : ι → ℝ) : ∑ i ∈ s, (f i : EReal) = ((∑ i ∈ s, f i : ℝ) : EReal) := by
  classical
  induction s using Finset.induction_on with
  | empty => rfl
  | insert a s h ih => rw [Finset.sum_insert h, Finset.sum_insert h, ih, EReal.coe_add]

theorem div_real (a b : ℝ) (h : b ≠ 0) : Ideal.div (a : EReal) (b : EReal) = ((a / b : ℝ) : EReal) := by
  rw [Ideal.div_coe h, ← EReal.coe_mul, mul_one_div]

theorem finite_row (f : Fin 1024 → EReal) (h : ∀ l, f l ≠ ⊤ ∧ f l ≠ ⊥) : ∃ r : Fin 1024 → ℝ, f = fun l => (r l : EReal) :=
  ⟨fun l => (f l).toReal, funext fun l => (EReal.coe_toReal (h l).1 (h l).2).symm⟩

/-- The chain rule's form is the kernel's, for a finite row with finite gain, scale and gradient. -/
theorem chain (x g sc dh dres : Fin 1024 → EReal) (hx : ∀ l, x l ≠ ⊤ ∧ x l ≠ ⊥) (hg : ∀ l, g l ≠ ⊤ ∧ g l ≠ ⊥)
    (hs : ∀ l, sc l ≠ ⊤ ∧ sc l ≠ ⊥) (hd : ∀ l, dh l ≠ ⊤ ∧ dh l ≠ ⊥) (j : Fin 1024) :
    dres j + dh j * (1 + sc j) * g j * invRoot x + x j * half x g sc dh + half x g sc dh * x j = dx x g sc dh dres j := by
  obtain ⟨x, rfl⟩ := finite_row x hx
  obtain ⟨g, rfl⟩ := finite_row g hg
  obtain ⟨sc, rfl⟩ := finite_row sc hs
  obtain ⟨dh, rfl⟩ := finite_row dh hd
  obtain ⟨e, he, hE⟩ := eps
  have pos : 0 < (∑ l, x l * x l) / 1024 + e :=
    add_pos_of_nonneg_of_pos (div_nonneg (Finset.sum_nonneg fun l _ => mul_self_nonneg _) (by norm_num)) he
  have one : (1 : EReal) = ((1 : ℝ) : EReal) := rfl
  have hv : Ideal.div (∑ l, (x l : EReal) * (x l : EReal)) (Ideal.ofBits .f32 0x44800000#32) + Ideal.ofBits .f32 0x358637BD#32
      = (((∑ l, x l * x l) / 1024 + e : ℝ) : EReal) := by
    simp only [← EReal.coe_mul, sum_coe, width, hE]
    rw [div_real _ _ (by norm_num), ← EReal.coe_add]
  have hr : invRoot (fun l => (x l : EReal)) = (((Real.sqrt ((∑ l, x l * x l) / 1024 + e))⁻¹ : ℝ) : EReal) := by
    unfold invRoot
    rw [hv, Ideal.rsqrt_coe, if_neg (not_lt.mpr pos.le), if_neg pos.ne']
  have sq : Real.sqrt ((∑ l, x l * x l) / 1024 + e) * Real.sqrt ((∑ l, x l * x l) / 1024 + e)
      = (∑ l, x l * x l) / 1024 + e := Real.mul_self_sqrt pos.le
  have hpos : 0 < Real.sqrt ((∑ l, x l * x l) / 1024 + e) := Real.sqrt_pos.mpr pos
  unfold dx half
  rw [hv, hr]
  simp only [width, minus_half, one, ← EReal.coe_mul, ← EReal.coe_add, sum_coe]
  rw [div_real _ _ pos.ne', ← EReal.coe_mul, ← EReal.coe_mul, div_real _ _ (by norm_num), div_real _ _ (by norm_num)]
  simp only [← EReal.coe_mul, ← EReal.coe_sub, add_assoc, ← EReal.coe_add]
  refine congrArg (fun t : ℝ => dres j + (t : EReal)) ?_
  generalize (∑ l, x l * x l) / 1024 + e = v at *
  generalize Real.sqrt v = s at *
  have e1 : ∑ l, x l * (dh l * (1 + sc l) * g l) = s * ∑ l, dh l * (1 + sc l) * g l * (x l * s⁻¹) := by
    rw [Finset.mul_sum]
    refine Finset.sum_congr rfl fun l _ => ?_
    field_simp
  rw [e1]
  generalize ∑ l, dh l * (1 + sc l) * g l * (x l * s⁻¹) = S
  subst sq
  field_simp
  ring

end Cert.Proof.NormRow

end
-- ==== Proof.NormBwd.lean ====
/- The gradient of the norm with its modulation, and of the gated residual before it: what the kernel leaves in its six
   results, as one function of the arguments each. A grid point holds one tile of
   rows. The gradients of the rows are the point's own; those of the scale, the shift, the gain and the gate add over the
   points. -/
module

public import proofs.«01_k».proof.Defs
public import proofs.«01_k».proof.Proof.NormRow
public import proofs.«01_k».proof.Proof.Gen.NormBwdIdeal.Frame
public import Idealize.ShloMosaic.Lib.Claim
public import Idealize.ShloMosaic.Lib.Pipeline.ValueKit
public import Idealize.ShloMosaic.Lib.Pointwise

@[expose] public section

set_option maxRecDepth 16384

noncomputable section

namespace Cert.Proof.NormBwd

open Cert.NormBwdIdeal Cert.NormBwdIdeal.Gen Idealize.ShloMosaic Idealize.ShloMosaic.TcCoe Idealize.SL.Sem
open Cert.Proof.NormRow (invRoot dx half chain)

/-- The gradient of the row's element. -/
def G8 (x : Vec Ideal S4096x1024 .f32) (g sc : Vec Ideal S1x1024 .f32) (dh dres : Vec Ideal S4096x1024 .f32) :
    Vec Ideal S4096x1024 .f32 :=
  fun i => dx (fun l => x (ix2 (i 0) l)) (fun l => g (ix2 0 l)) (fun l => sc (ix2 0 l)) (fun l => dh (ix2 (i 0) l))
    (fun l => dres (ix2 (i 0) l)) (i 1)

/-- The scale's gradient. -/
def G9 (x : Vec Ideal S4096x1024 .f32) (g : Vec Ideal S1x1024 .f32) (dh : Vec Ideal S4096x1024 .f32) :
    Vec Ideal S1x1024 .f32 :=
  fun i => ∑ r : Fin 4096, dh (ix2 r (i 1)) * (x (ix2 r (i 1)) * invRoot (fun l => x (ix2 r l)) * g (ix2 0 (i 1)))

/-- The shift's gradient. -/
def G10 (dh : Vec Ideal S4096x1024 .f32) : Vec Ideal S1x1024 .f32 :=
  fun i => ∑ r : Fin 4096, dh (ix2 r (i 1))

/-- The gain's gradient. -/
def G11 (x : Vec Ideal S4096x1024 .f32) (sc : Vec Ideal S1x1024 .f32) (dh : Vec Ideal S4096x1024 .f32) :
    Vec Ideal S1x1024 .f32 :=
  fun i => ∑ r : Fin 4096, dh (ix2 r (i 1)) * (1 + sc (ix2 0 (i 1))) * (x (ix2 r (i 1)) * invRoot (fun l => x (ix2 r l)))

/-- The gradient of the branch before the gate. -/
def G12 (x : Vec Ideal S4096x1024 .f32) (g sc : Vec Ideal S1x1024 .f32) (dh dres : Vec Ideal S4096x1024 .f32)
    (gate : Vec Ideal S1x1024 .f32) : Vec Ideal S4096x1024 .bf16 :=
  fun i => G8 x g sc dh dres i * gate (ix2 0 (i 1))

/-- The gate's gradient. -/
def G13 (x : Vec Ideal S4096x1024 .f32) (g sc : Vec Ideal S1x1024 .f32) (dh dres : Vec Ideal S4096x1024 .f32)
    (z : Vec Ideal S4096x1024 .bf16) : Vec Ideal S1x1024 .f32 :=
  fun i => ∑ r : Fin 4096, G8 x g sc dh dres (ix2 r (i 1)) * z (ix2 r (i 1))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, 0] ∧ win0_2.index t = ![0, 0])
    ∧ (win0_4.index t = ![t.val, 0] ∧ win0_5.index t = ![t.val, 0] ∧ win0_6.index t = ![t.val, 0] ∧ win0_7.index t = ![0, 0])
    ∧ (win0_8.index t = ![t.val, 0] ∧ win0_9.index t = ![0, 0] ∧ win0_10.index t = ![0, 0])
    ∧ win0_11.index t = ![0, 0] ∧ win0_12.index t = ![t.val, 0] ∧ win0_13.index t = ![0, 0] :=
  (by decide +kernel : ∀ t : Fin grid0.N, _)

/-- One point's rows of the row gradient. -/
theorem tile (x dh dres : Vec Ideal S512x1024 .f32) (g sc : Vec Ideal S1x1024 .f32) (r : Fin 512) (j : Fin 1024) :
    k0_pay12 dh (k0_pay6 x) (k0_pay7 x) sc (FloatOps.ofBits .f32 0x3F800000#32) g dres (ix2 r j)
      = dx (fun l => x (ix2 r l)) (fun l => g (ix2 0 l)) (fun l => sc (ix2 0 l)) (fun l => dh (ix2 r l))
        (fun l => dres (ix2 r l)) j := by
  pointwise [k0_pay12, k0_pay10, k0_pay7, k0_pay6, dx, invRoot]

/-- The same at an index of the tile. -/
theorem tile_at (x dh dres : Vec Ideal S512x1024 .f32) (g sc : Vec Ideal S1x1024 .f32) (y : S512x1024.Idx) :
    k0_pay12 dh (k0_pay6 x) (k0_pay7 x) sc (FloatOps.ofBits .f32 0x3F800000#32) g dres y
      = dx (fun l => x (ix2 (y 0) l)) (fun l => g (ix2 0 l)) (fun l => sc (ix2 0 l)) (fun l => dh (ix2 (y 0) l))
        (fun l => dres (ix2 (y 0) l)) (y 1) := by
  idx_vars y
  exact tile x dh dres g sc y0 y1

/-- One point's step of the scale's gradient. -/
theorem step9 (x dh : Vec Ideal S512x1024 .f32) (acc g : Vec Ideal S1x1024 .f32) (j : S1x1024.Idx) :
    k0_pay8 x dh acc g j
      = acc j + ∑ r : Fin 512, dh (ix2 r (j 1)) * (x (ix2 r (j 1)) * invRoot (fun l => x (ix2 r l)) * g (ix2 0 (j 1))) := by
  idx_vars j
  obtain rfl : j0 = 0 := Subsingleton.elim _ _
  pointwise [k0_pay8, k0_pay7, k0_pay6, invRoot]

/-- One point's step of the shift's gradient. -/
theorem step10 (dh : Vec Ideal S512x1024 .f32) (acc : Vec Ideal S1x1024 .f32) (j : S1x1024.Idx) :
    k0_pay9 dh acc j = acc j + ∑ r : Fin 512, dh (ix2 r (j 1)) := by
  idx_vars j
  obtain rfl : j0 = 0 := Subsingleton.elim _ _
  pointwise [k0_pay9]

/-- One point's step of the gain's gradient. -/
theorem step11 (x dh : Vec Ideal S512x1024 .f32) (acc sc : Vec Ideal S1x1024 .f32) (j : S1x1024.Idx) :
    k0_pay11 dh (k0_pay7 x) sc (FloatOps.ofBits .f32 0x3F800000#32) acc j
      = acc j + ∑ r : Fin 512, dh (ix2 r (j 1)) * (1 + sc (ix2 0 (j 1))) * (x (ix2 r (j 1)) * invRoot (fun l => x (ix2 r l))) := by
  idx_vars j
  obtain rfl : j0 = 0 := Subsingleton.elim _ _
  pointwise [k0_pay11, k0_pay10, k0_pay7, k0_pay6, invRoot]

/-- One point's step of the gate's gradient. -/
theorem step13 (x dh dres : Vec Ideal S512x1024 .f32) (acc g sc : Vec Ideal S1x1024 .f32) (z : Vec Ideal S512x1024 .bf16)
    (j : S1x1024.Idx) :
    k0_pay1 (k0_pay12 dh (k0_pay6 x) (k0_pay7 x) sc (FloatOps.ofBits .f32 0x3F800000#32) g dres) (k0_pay14 acc) (k0_pay15 z) j
      = acc j + ∑ r : Fin 512, dx (fun l => x (ix2 r l)) (fun l => g (ix2 0 l)) (fun l => sc (ix2 0 l))
          (fun l => dh (ix2 r l)) (fun l => dres (ix2 r l)) (j 1) * z (ix2 r (j 1)) := by
  idx_vars j
  obtain rfl : j0 = 0 := Subsingleton.elim _ _
  simp only [← tile]
  generalize k0_pay12 dh (k0_pay6 x) (k0_pay7 x) sc (FloatOps.ofBits .f32 0x3F800000#32) g dres = d
  pointwise [k0_pay1, k0_pay14, k0_pay15]

/-- The sums start at zero. -/
theorem start (j : S1x1024.Idx) : k0_pay2 (F := Ideal) j = 0 := by
  idx_vars j
  pointwise [k0_pay2]

theorem start10 (j : S1x1024.Idx) : k0_pay3 (F := Ideal) j = 0 := start j
theorem start11 (j : S1x1024.Idx) : k0_pay4 (F := Ideal) j = 0 := start j
theorem start13 (j : S1x1024.Idx) : k0_pay5 (F := Ideal) j = 0 := start j

theorem final9 (c : Dev nD) : (dats m 0 c).arrAt 9 cfg0.N
    = G9 (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.1) 8 (fun _ => 0) _
    (fun t h j => by rw [outsAt0_A m c t h]; frame_out; rw [step9, start])
    (fun t h j => by rw [outsAt0_B m c t h]; frame_out; rw [step9]) t ((flush0_9 t).mp hf), zero_add]
  pointwise [G9, invRoot]
  refine Fin.sum_mul_add_congr fun s k hl => ?_
  blk_point [iblk, V, index ⟨8 * (t.val / 8) + s.val, _⟩, index t]

theorem final8 (c : Dev nD) : (dats m 0 c).arrAt 8 cfg0.N
    = G8 (m ((c : Thread nD τ).loc main_arg0)) (m ((c : Thread nD τ).loc main_arg1)) (m ((c : Thread nD τ).loc main_arg2))
      (m ((c : Thread nD τ).loc main_arg4)) (m ((c : Thread nD τ).loc main_arg5)) := by
  refine (dats m 0 c).arrAt_eq_of_covers 8 _ (by decide +kernel) fun t hf y => ?_
  blk_simp
  have h : (dats m 0 c).after 8 t = k0_pay12 (iblk m c 4 t) (k0_pay6 (iblk m c 0 t)) (k0_pay7 (iblk m c 0 t)) (iblk m c 2 t)
      (FloatOps.ofBits .f32 0x3F800000#32) (iblk m c 1 t) (iblk m c 5 t) := by
    rw [after0_8]
    by_cases h0 : t.val % 8 = 0
    · rw [outsAt0_A m c t h0]; frame_out
    · rw [outsAt0_B m c t h0]; frame_out
  rw [h, tile_at]
  pointwise [G8, dx, invRoot]
  blk_point [iblk, V, index t]

theorem final10 (c : Dev nD) : (dats m 0 c).arrAt 10 cfg0.N = G10 (m ((c : Thread nD τ).loc main_arg4)) := by
  refine (dats m 0 c).arrAt_eq_of_covers 10 _ (by decide +kernel) fun t hf y => ?_
  blk_simp
  rw [after0_10, Pipeline.eq_sum_fin_of_reset_step_apply_of_flush (fun n h => (outsAt0 m c n h).2.2.1) 8 (fun _ => 0) _
    (fun t h j => by rw [outsAt0_A m c t h]; frame_out; rw [step10, start10])
    (fun t h j => by rw [outsAt0_B m c t h]; frame_out; rw [step10]) t ((flush0_10 t).mp hf), zero_add]
  pointwise [G10]
  refine Fin.sum_mul_add_congr fun s k hl => ?_
  blk_point [iblk, V, index ⟨8 * (t.val / 8) + s.val, _⟩, index t]

theorem final11 (c : Dev nD) : (dats m 0 c).arrAt 11 cfg0.N
    = G11 (m ((c : Thread nD τ).loc main_arg0)) (m ((c : Thread nD τ).loc main_arg2)) (m ((c : Thread nD τ).loc main_arg4)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 8 (fun _ => 0) _
    (fun t h j => by rw [outsAt0_A m c t h]; frame_out; rw [step11, start11])
    (fun t h j => by rw [outsAt0_B m c t h]; frame_out; rw [step11]) t ((flush0_11 t).mp hf), zero_add]
  pointwise [G11, invRoot]
  refine Fin.sum_mul_add_congr fun s k hl => ?_
  blk_point [iblk, V, index ⟨8 * (t.val / 8) + s.val, _⟩, index t]

/-- The branch's tile: the row gradient by the gate. -/
theorem branch (x dh dres : Vec Ideal S512x1024 .f32) (g sc gate : Vec Ideal S1x1024 .f32) (y : S512x1024.Idx) :
    k0_pay13 dh (k0_pay6 x) (k0_pay7 x) sc (FloatOps.ofBits .f32 0x3F800000#32) g dres gate y
      = dx (fun l => x (ix2 (y 0) l)) (fun l => g (ix2 0 l)) (fun l => sc (ix2 0 l)) (fun l => dh (ix2 (y 0) l))
        (fun l => dres (ix2 (y 0) l)) (y 1) * gate (ix2 0 (y 1)) := by
  rw [← tile_at]
  unfold k0_pay13
  generalize k0_pay12 dh (k0_pay6 x) (k0_pay7 x) sc (FloatOps.ofBits .f32 0x3F800000#32) g dres = d
  idx_vars y
  pointwise

theorem final12 (c : Dev nD) : (dats m 0 c).arrAt 12 cfg0.N
    = G12 (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg7)) := by
  refine (dats m 0 c).arrAt_eq_of_covers 12 _ (by decide +kernel) fun t hf y => ?_
  blk_simp
  have h : (dats m 0 c).after 12 t = k0_pay13 (iblk m c 4 t) (k0_pay6 (iblk m c 0 t)) (k0_pay7 (iblk m c 0 t)) (iblk m c 2 t)
      (FloatOps.ofBits .f32 0x3F800000#32) (iblk m c 1 t) (iblk m c 5 t) (iblk m c 7 t) := by
    rw [after0_12]
    by_cases h0 : t.val % 8 = 0
    · rw [outsAt0_A m c t h0]; frame_out
    · rw [outsAt0_B m c t h0]; frame_out
  rw [h, branch]
  pointwise [G12, G8, dx, invRoot]
  blk_point [iblk, V, index t]

theorem final13 (c : Dev nD) : (dats m 0 c).arrAt 13 cfg0.N
    = G13 (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 8 (fun _ => 0) _
    (fun t h j => by rw [outsAt0_A m c t h]; frame_out; rw [step13, start13])
    (fun t h j => by rw [outsAt0_B m c t h]; frame_out; rw [step13]) t ((flush0_13 t).mp hf), zero_add]
  pointwise [G13, G8, dx, invRoot]
  refine Fin.sum_mul_add_congr fun s k hl => ?_
  blk_point [iblk, V, index ⟨8 * (t.val / 8) + s.val, _⟩, index t]

end Cert.Proof.NormBwd

end
-- ==== Proof.NormBwdRef.lean ====
/- The reference's gradients of the rows, of the branch and of its gate, read at a point: the chain rule's form of the row
   gradient is the one of `NormRow.dx`, for finite arguments. -/
module

public import proofs.«01_k».proof.Proof.NormRow
public import proofs.«01_k».proof.Proof.Gen.NormBwdRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.NormBwdRef

open Idealize.ShloMosaic Idealize.SL.Sem Cert.Proof.NormRow Cert.NormBwdRefIdeal

variable (m : (ℓ : Loc nD τ sig) → Buf (Elt Ideal) ℓ) (c : Dev nD)
  (x dh dres : FVec Ideal S4096x1024 .f32) (gn sc gate : FVec Ideal S1x1024 .f32) (z : FVec Ideal S4096x1024 .bf16)

variable (h0 : m ((c.tc : Thread nD τ).loc main_arg0) = x) (h1 : m ((c.tc : Thread nD τ).loc main_arg1) = gn)
  (h2 : m ((c.tc : Thread nD τ).loc main_arg2) = sc) (h4 : m ((c.tc : Thread nD τ).loc main_arg4) = dh)
  (h5 : m ((c.tc : Thread nD τ).loc main_arg5) = dres) (h6 : m ((c.tc : Thread nD τ).loc main_arg6) = z)
  (h7 : m ((c.tc : Thread nD τ).loc main_arg7) = gate)
  (hx : ∀ i, x i ≠ ⊤ ∧ x i ≠ ⊥) (hg : ∀ i, gn i ≠ ⊤ ∧ gn i ≠ ⊥) (hs : ∀ i, sc i ≠ ⊤ ∧ sc i ≠ ⊥) (hd : ∀ i, dh i ≠ ⊤ ∧ dh i ≠ ⊥)

include h0 h1 h2 h4 h5 hx hg hs hd

/-- The gradient of the rows. -/
theorem rows (i0 : Fin 4096) (i1 : Fin 1024) : Value.res_main_v48 m c (ix2 i0 i1)
    = dx (fun l => x (ix2 i0 l)) (fun l => gn (ix2 0 l)) (fun l => sc (ix2 0 l)) (fun l => dh (ix2 i0 l))
        (fun l => dres (ix2 i0 l)) i1 := by
  unfold Value.res_main_v48
  rw [h0, h1, h2, h4, h5]
  have e : ∀ h : S4096x1024.ShapeCasts ((c.tc : Thread nD τ).loc main_v48).ty.shape,
    (shapeCast ((c.tc : Thread nD τ).loc main_v48).ty.shape (α := Ideal .f32) dh h : S4096x1024.Idx → Ideal .f32) = dh :=
    fun h => shapeCast_self _ _
  have e' : ∀ h : S4096x1024.ShapeCasts ((c.tc : Thread nD τ).loc main_arg0).ty.shape,
    (shapeCast ((c.tc : Thread nD τ).loc main_arg0).ty.shape (α := Ideal .f32) dh h : S4096x1024.Idx → Ideal .f32) = dh :=
    fun h => shapeCast_self _ _
  simp only [e, e']
  show (_ : FVec Ideal S4096x1024 .f32) (ix2 i0 i1) = _
  refine Eq.trans ?_ (chain _ _ _ _ _ (fun l => hx (ix2 i0 l)) (fun l => hg (ix2 0 l)) (fun l => hs (ix2 0 l))
    (fun l => hd (ix2 i0 l)) i1)
  clear e e' h0 h1 h2 h4 h5
  pointwise [half, invRoot, Fin.sum_univ_one]

include h7
/-- The gradient of the branch. -/
theorem branch (i0 : Fin 4096) (i1 : Fin 1024) : Value.res_main_v57 m c (ix2 i0 i1)
    = dx (fun l => x (ix2 i0 l)) (fun l => gn (ix2 0 l)) (fun l => sc (ix2 0 l)) (fun l => dh (ix2 i0 l))
        (fun l => dres (ix2 i0 l)) i1 * gate (ix2 0 i1) := by
  unfold Value.res_main_v57
  rw [h0, h1, h2, h4, h5, h7]
  have e : ∀ h : S4096x1024.ShapeCasts ((c.tc : Thread nD τ).loc main_v48).ty.shape,
    (shapeCast ((c.tc : Thread nD τ).loc main_v48).ty.shape (α := Ideal .f32) dh h : S4096x1024.Idx → Ideal .f32) = dh :=
    fun h => shapeCast_self _ _
  have e' : ∀ h : S4096x1024.ShapeCasts ((c.tc : Thread nD τ).loc main_arg0).ty.shape,
    (shapeCast ((c.tc : Thread nD τ).loc main_arg0).ty.shape (α := Ideal .f32) dh h : S4096x1024.Idx → Ideal .f32) = dh :=
    fun h => shapeCast_self _ _
  simp only [e, e']
  show (_ : FVec Ideal S4096x1024 .bf16) (ix2 i0 i1) = _
  refine Eq.trans ?_ ((mul_comm _ _).trans (congrArg (· * (show EReal from gate (ix2 0 i1)))
    (chain _ _ _ _ _ (fun l => hx (ix2 i0 l)) (fun l => hg (ix2 0 l)) (fun l => hs (ix2 0 l)) (fun l => hd (ix2 i0 l)) i1)))
  clear e e' h0 h1 h2 h4 h5
  pointwise [half, invRoot, Fin.sum_univ_one]

omit h7
include h6
/-- The gradient of the branch's gate. -/
theorem gates (i1 : Fin 1024) : Value.res_main_v56 m c (ix2 0 i1)
    = ∑ r : Fin 4096, dx (fun l => x (ix2 r l)) (fun l => gn (ix2 0 l)) (fun l => sc (ix2 0 l)) (fun l => dh (ix2 r l))
        (fun l => dres (ix2 r l)) i1 * z (ix2 r i1) := by
  unfold Value.res_main_v56
  rw [h0, h1, h2, h4, h5, h6]
  have e : ∀ h : S4096x1024.ShapeCasts ((c.tc : Thread nD τ).loc main_v48).ty.shape,
    (shapeCast ((c.tc : Thread nD τ).loc main_v48).ty.shape (α := Ideal .f32) dh h : S4096x1024.Idx → Ideal .f32) = dh :=
    fun h => shapeCast_self _ _
  have e' : ∀ h : S4096x1024.ShapeCasts ((c.tc : Thread nD τ).loc main_arg0).ty.shape,
    (shapeCast ((c.tc : Thread nD τ).loc main_arg0).ty.shape (α := Ideal .f32) dh h : S4096x1024.Idx → Ideal .f32) = dh :=
    fun h => shapeCast_self _ _
  simp only [e, e']
  show (_ : FVec Ideal S1x1024 .f32) (ix2 0 i1) = _
  refine Eq.trans ?_ (Finset.sum_congr rfl fun r _ => congrArg (· * (show EReal from z (ix2 r i1)))
    (chain _ _ _ _ _ (fun l => hx (ix2 r l)) (fun l => hg (ix2 0 l)) (fun l => hs (ix2 0 l)) (fun l => hd (ix2 r l)) i1))
  clear e e' h0 h1 h2 h4 h5
  pointwise [half, invRoot, Fin.sum_univ_one]

end Cert.Proof.NormBwdRef

end
-- ==== Proof.NormBwdClaim.lean ====
/- The claim about the gradient of the norm: the precondition, read as finite arguments, and the two programs' results. -/
module

public import proofs.«01_k».proof.Defs
public import proofs.«01_k».proof.Proof.NormBwd
public import proofs.«01_k».proof.Proof.NormBwdRef
public import proofs.«01_k».proof.Proof.Pre
public import proofs.«01_k».proof.Proof.Gen.Pre_finite_norm
public import Idealize.ShloMosaic.Lib.Claim
public import Idealize.ShloMosaic.Lib.Pipeline.ValueKit
public import Idealize.ShloMosaic.Lib.Pointwise

@[expose] public section

set_option maxRecDepth 16384

noncomputable section

namespace Cert.Proof.NormBwdClaim

open Cert.NormBwdIdeal Cert.NormBwdIdeal.Gen Idealize.ShloMosaic Idealize.ShloMosaic.TcCoe Idealize.SL.Sem
open Cert.Proof.NormRow Cert.Proof.NormBwd

/-- Under the precondition the row, the gain, the scale and the gradient are finite. -/
theorem finite (x : FVec Ideal Cert.Pre_finite_norm.S4096x1024 .f32) (gn sc sh : FVec Ideal Cert.Pre_finite_norm.S1x1024 .f32)
    (dh dres : FVec Ideal Cert.Pre_finite_norm.S4096x1024 .f32) (z : FVec Ideal Cert.Pre_finite_norm.S4096x1024 .bf16)
    (gate : FVec Ideal Cert.Pre_finite_norm.S1x1024 .f32)
    (h : Cert.Pre_finite_norm.fn x gn sc sh dh dres z gate = fun _ => 1#1) :
    (∀ i, x i ≠ ⊤ ∧ x i ≠ ⊥) ∧ (∀ i, gn i ≠ ⊤ ∧ gn i ≠ ⊥) ∧ (∀ i, sc i ≠ ⊤ ∧ sc i ≠ ⊥) ∧ ∀ i, dh i ≠ ⊤ ∧ dh i ≠ ⊥ := by
  have h := congrFun h default
  simp only [Cert.Pre_finite_norm.fn, Cert.Pre_finite_norm.fn_part1] at h
  have two : ∀ p q : BitVec 1, p &&& q = 1#1 → p = 1#1 ∧ q = 1#1 := by decide
  obtain ⟨h123, h4⟩ := two _ _ h
  obtain ⟨h12, h3⟩ := two _ _ h123
  obtain ⟨h1, h2⟩ := two _ _ h12
  exact ⟨fun i => Pre.finite_of_lt _ (Pre.all_of_reduce _ _ _ _ _ (fun _ => funext fun a => a.elim0) h1 i),
    fun i => Pre.finite_of_lt _ (Pre.all_of_reduce _ _ _ _ _ (fun _ => funext fun a => a.elim0) h2 i),
    fun i => Pre.finite_of_lt _ (Pre.all_of_reduce _ _ _ _ _ (fun _ => funext fun a => a.elim0) h3 i),
    fun i => Pre.finite_of_lt _ (Pre.all_of_reduce _ _ _ _ _ (fun _ => funext fun a => a.elim0) h4 i)⟩

/-- The kernel and the reference over the extended reals. -/
theorem algebraic : Cert.algebraic_NormBwdIdeal_NormBwdRefIdeal_pre_finite_norm := by
  intro m g m' g' hpre hagree
  refine ⟨fun c => G8 (m ((c : Thread nD τ).loc main_arg0)) (m ((c : Thread nD τ).loc main_arg1)) (m ((c : Thread nD τ).loc main_arg2)) (m ((c : Thread nD τ).loc main_arg4)) (m ((c : Thread nD τ).loc main_arg5)), fun c => G9 (m ((c : Thread nD τ).loc main_arg0)) (m ((c : Thread nD τ).loc main_arg1)) (m ((c : Thread nD τ).loc main_arg4)), fun c => G10 (m ((c : Thread nD τ).loc main_arg4)),
    fun c => G11 (m ((c : Thread nD τ).loc main_arg0)) (m ((c : Thread nD τ).loc main_arg2)) (m ((c : Thread nD τ).loc main_arg4)), fun c => G12 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)),
    fun c => G13 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)), ?_, ?_⟩
  · exact θ_run_mono (θ_run_and (run_main m g) (unchanged m g)) fun r hr c =>
      ⟨((hr.1 c).1 8).trans (final8 m c), ((hr.1 c).1 9).trans (final9 m c), ((hr.1 c).1 10).trans (final10 m c),
        ((hr.1 c).1 11).trans (final11 m c), ((hr.1 c).1 12).trans (final12 m c), ((hr.1 c).1 13).trans (final13 m c), hr.2 c⟩
  refine θ_run_mono (Cert.NormBwdRefIdeal.Value.run m' g') fun r hr c => ?_
  obtain ⟨r0, r1, r2, r3, r4, r5, rest⟩ := hr c
  obtain ⟨hx, hg, hs, hd⟩ := finite _ _ _ _ _ _ _ _ (hpre c)
  obtain ⟨h0, h1, h2, h3, h4, h5, h6, h7⟩ := hagree c
  refine ⟨r0.trans ?_, r1.trans ?_, r2.trans ?_, r3.trans ?_, r4.trans ?_, r5.trans ?_, rest⟩
  · refine funext fun i => ?_
    idx_vars i
    exact NormBwdRef.rows m' c _ _ _ _ _ h0 h1 h2 h4 h5 hx hg hs hd i0 i1
  · beta_reduce
    rw [h0, h1, h4]
    generalize m (c.tc.loc NormBwdIdeal.main_arg0) = x at *
    generalize m (c.tc.loc NormBwdIdeal.main_arg1) = gn at *
    generalize m (c.tc.loc NormBwdIdeal.main_arg4) = dh at *
    clear r0 r1 r2 r3 r4 r5 rest hx hg hs hd h0 h1 h2 h3 h4 h5 h6 h7 hr hagree hpre
    have e : ∀ h : S4096x1024.ShapeCasts ((c.tc : Thread _ NormBwdRefIdeal.τ).loc NormBwdRefIdeal.main_arg0).ty.shape,
      (shapeCast ((c.tc : Thread _ NormBwdRefIdeal.τ).loc NormBwdRefIdeal.main_arg0).ty.shape (α := Ideal .f32) dh h
        : S4096x1024.Idx → Ideal .f32) = dh := fun h => shapeCast_self _ _
    simp only [e]
    clear e
    refine funext fun i => ?_
    idx_vars i
    obtain rfl : i0 = 0 := Subsingleton.elim _ _
    pointwise [G9, invRoot]
    exact Finset.sum_congr rfl fun r _ => mul_comm _ _
  · beta_reduce
    rw [h4]
    generalize m (c.tc.loc NormBwdIdeal.main_arg4) = dh at *
    clear r0 r1 r2 r3 r4 r5 rest hx hg hs hd h0 h1 h2 h3 h4 h5 h6 h7 hr hagree hpre
    refine funext fun i => ?_
    idx_vars i
    obtain rfl : i0 = 0 := Subsingleton.elim _ _
    pointwise [G10]
  · beta_reduce
    rw [h0, h2, h4]
    generalize m (c.tc.loc NormBwdIdeal.main_arg0) = x at *
    generalize m (c.tc.loc NormBwdIdeal.main_arg2) = sc at *
    generalize m (c.tc.loc NormBwdIdeal.main_arg4) = dh at *
    clear r0 r1 r2 r3 r4 r5 rest hx hg hs hd h0 h1 h2 h3 h4 h5 h6 h7 hr hagree hpre
    have e : ∀ h : S4096x1024.ShapeCasts ((c.tc : Thread _ NormBwdRefIdeal.τ).loc NormBwdRefIdeal.main_arg0).ty.shape,
      (shapeCast ((c.tc : Thread _ NormBwdRefIdeal.τ).loc NormBwdRefIdeal.main_arg0).ty.shape (α := Ideal .f32) dh h
        : S4096x1024.Idx → Ideal .f32) = dh := fun h => shapeCast_self _ _
    simp only [e]
    clear e
    refine funext fun i => ?_
    idx_vars i
    obtain rfl : i0 = 0 := Subsingleton.elim _ _
    pointwise [G11, invRoot]
    exact Finset.sum_congr rfl fun r _ => mul_comm _ _
  · refine funext fun i => ?_
    idx_vars i
    exact NormBwdRef.branch m' c _ _ _ _ _ _ h0 h1 h2 h4 h5 h7 hx hg hs hd i0 i1
  · refine funext fun i => ?_
    idx_vars i
    obtain rfl : i0 = 0 := Subsingleton.elim _ _
    exact NormBwdRef.gates m' c _ _ _ _ _ _ h0 h1 h2 h4 h5 h6 hx hg hs hd i1

end Cert.Proof.NormBwdClaim

end
-- ==== Proof.NormBwd0.lean ====
/- The gradient of the step's first norm, which no branch precedes: what the kernel leaves in its four results, as one
   function of the arguments each. -/
module

public import proofs.«01_k».proof.Defs
public import proofs.«01_k».proof.Proof.NormRow
public import proofs.«01_k».proof.Proof.Gen.NormBwd0Ideal.Frame
public import Idealize.ShloMosaic.Lib.Claim
public import Idealize.ShloMosaic.Lib.Pipeline.ValueKit
public import Idealize.ShloMosaic.Lib.Pointwise

@[expose] public section

set_option maxRecDepth 16384

noncomputable section

namespace Cert.Proof.NormBwd0

open Cert.NormBwd0Ideal Cert.NormBwd0Ideal.Gen Idealize.ShloMosaic Idealize.ShloMosaic.TcCoe Idealize.SL.Sem
open Cert.Proof.NormRow (invRoot dx half chain)

/-- The gradient of the row's element. -/
def G6 (x : Vec Ideal S4096x1024 .f32) (g sc : Vec Ideal S1x1024 .f32) (dh dres : Vec Ideal S4096x1024 .f32) :
    Vec Ideal S4096x1024 .f32 :=
  fun i => dx (fun l => x (ix2 (i 0) l)) (fun l => g (ix2 0 l)) (fun l => sc (ix2 0 l)) (fun l => dh (ix2 (i 0) l))
    (fun l => dres (ix2 (i 0) l)) (i 1)

/-- The scale's gradient. -/
def G7 (x : Vec Ideal S4096x1024 .f32) (g : Vec Ideal S1x1024 .f32) (dh : Vec Ideal S4096x1024 .f32) :
    Vec Ideal S1x1024 .f32 :=
  fun i => ∑ r : Fin 4096, dh (ix2 r (i 1)) * (x (ix2 r (i 1)) * invRoot (fun l => x (ix2 r l)) * g (ix2 0 (i 1)))

/-- The shift's gradient. -/
def G8 (dh : Vec Ideal S4096x1024 .f32) : Vec Ideal S1x1024 .f32 :=
  fun i => ∑ r : Fin 4096, dh (ix2 r (i 1))

/-- The gain's gradient. -/
def G9 (x : Vec Ideal S4096x1024 .f32) (sc : Vec Ideal S1x1024 .f32) (dh : Vec Ideal S4096x1024 .f32) :
    Vec Ideal S1x1024 .f32 :=
  fun i => ∑ r : Fin 4096, dh (ix2 r (i 1)) * (1 + sc (ix2 0 (i 1))) * (x (ix2 r (i 1)) * invRoot (fun l => x (ix2 r l)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, 0] ∧ win0_2.index t = ![0, 0])
    ∧ (win0_4.index t = ![t.val, 0] ∧ win0_5.index t = ![t.val, 0])
    ∧ (win0_6.index t = ![t.val, 0] ∧ win0_7.index t = ![0, 0] ∧ win0_8.index t = ![0, 0])
    ∧ win0_9.index t = ![0, 0] :=
  (by decide +kernel : ∀ t : Fin grid0.N, _)

/-- One point's rows of the row gradient. -/
theorem tile (x dh dres : Vec Ideal S512x1024 .f32) (g sc : Vec Ideal S1x1024 .f32) (r : Fin 512) (j : Fin 1024) :
    k0_pay3 dh (k0_pay7 x) (k0_pay8 x) sc (FloatOps.ofBits .f32 0x3F800000#32) g dres (ix2 r j)
      = dx (fun l => x (ix2 r l)) (fun l => g (ix2 0 l)) (fun l => sc (ix2 0 l)) (fun l => dh (ix2 r l))
        (fun l => dres (ix2 r l)) j := by
  pointwise [k0_pay3, k0_pay1, k0_pay8, k0_pay7, dx, invRoot]

/-- The same at an index of the tile. -/
theorem tile_at (x dh dres : Vec Ideal S512x1024 .f32) (g sc : Vec Ideal S1x1024 .f32) (y : S512x1024.Idx) :
    k0_pay3 dh (k0_pay7 x) (k0_pay8 x) sc (FloatOps.ofBits .f32 0x3F800000#32) g dres y
      = dx (fun l => x (ix2 (y 0) l)) (fun l => g (ix2 0 l)) (fun l => sc (ix2 0 l)) (fun l => dh (ix2 (y 0) l))
        (fun l => dres (ix2 (y 0) l)) (y 1) := by
  idx_vars y
  exact tile x dh dres g sc y0 y1

/-- One point's step of the scale's gradient. -/
theorem step7 (x dh : Vec Ideal S512x1024 .f32) (acc g : Vec Ideal S1x1024 .f32) (j : S1x1024.Idx) :
    k0_pay9 x dh acc g j
      = acc j + ∑ r : Fin 512, dh (ix2 r (j 1)) * (x (ix2 r (j 1)) * invRoot (fun l => x (ix2 r l)) * g (ix2 0 (j 1))) := by
  idx_vars j
  obtain rfl : j0 = 0 := Subsingleton.elim _ _
  pointwise [k0_pay9, k0_pay8, k0_pay7, invRoot]

/-- One point's step of the shift's gradient. -/
theorem step8 (dh : Vec Ideal S512x1024 .f32) (acc : Vec Ideal S1x1024 .f32) (j : S1x1024.Idx) :
    k0_pay10 dh acc j = acc j + ∑ r : Fin 512, dh (ix2 r (j 1)) := by
  idx_vars j
  obtain rfl : j0 = 0 := Subsingleton.elim _ _
  pointwise [k0_pay10]

/-- One point's step of the gain's gradient. -/
theorem step9 (x dh : Vec Ideal S512x1024 .f32) (acc sc : Vec Ideal S1x1024 .f32) (j : S1x1024.Idx) :
    k0_pay2 dh (k0_pay8 x) sc (FloatOps.ofBits .f32 0x3F800000#32) acc j
      = acc j + ∑ r : Fin 512, dh (ix2 r (j 1)) * (1 + sc (ix2 0 (j 1))) * (x (ix2 r (j 1)) * invRoot (fun l => x (ix2 r l))) := by
  idx_vars j
  obtain rfl : j0 = 0 := Subsingleton.elim _ _
  pointwise [k0_pay2, k0_pay1, k0_pay8, k0_pay7, invRoot]

/-- The sums start at zero. -/
theorem start (j : S1x1024.Idx) : k0_pay4 (F := Ideal) j = 0 := by
  idx_vars j
  pointwise [k0_pay4]

theorem start8 (j : S1x1024.Idx) : k0_pay5 (F := Ideal) j = 0 := start j
theorem start9 (j : S1x1024.Idx) : k0_pay6 (F := Ideal) j = 0 := start j

theorem final7 (c : Dev nD) : (dats m 0 c).arrAt 7 cfg0.N
    = G7 (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.1) 8 (fun _ => 0) _
    (fun t h j => by rw [outsAt0_A m c t h]; frame_out; rw [step7, start])
    (fun t h j => by rw [outsAt0_B m c t h]; frame_out; rw [step7]) t ((flush0_7 t).mp hf), zero_add]
  pointwise [G7, invRoot]
  refine Fin.sum_mul_add_congr fun s k hl => ?_
  blk_point [iblk, V, index ⟨8 * (t.val / 8) + s.val, _⟩, index t]

theorem final6 (c : Dev nD) : (dats m 0 c).arrAt 6 cfg0.N
    = G6 (m ((c : Thread nD τ).loc main_arg0)) (m ((c : Thread nD τ).loc main_arg1)) (m ((c : Thread nD τ).loc main_arg2))
      (m ((c : Thread nD τ).loc main_arg4)) (m ((c : Thread nD τ).loc main_arg5)) := by
  refine (dats m 0 c).arrAt_eq_of_covers 6 _ (by decide +kernel) fun t hf y => ?_
  blk_simp
  have h : (dats m 0 c).after 6 t = k0_pay3 (iblk m c 4 t) (k0_pay7 (iblk m c 0 t)) (k0_pay8 (iblk m c 0 t)) (iblk m c 2 t)
      (FloatOps.ofBits .f32 0x3F800000#32) (iblk m c 1 t) (iblk m c 5 t) := by
    rw [after0_6]
    by_cases h0 : t.val % 8 = 0
    · rw [outsAt0_A m c t h0]; frame_out
    · rw [outsAt0_B m c t h0]; frame_out
  rw [h, tile_at]
  pointwise [G6, dx, invRoot]
  blk_point [iblk, V, index t]

theorem final8 (c : Dev nD) : (dats m 0 c).arrAt 8 cfg0.N = G8 (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.1) 8 (fun _ => 0) _
    (fun t h j => by rw [outsAt0_A m c t h]; frame_out; rw [step8, start8])
    (fun t h j => by rw [outsAt0_B m c t h]; frame_out; rw [step8]) t ((flush0_8 t).mp hf), zero_add]
  pointwise [G8]
  refine Fin.sum_mul_add_congr fun s k hl => ?_
  blk_point [iblk, V, index ⟨8 * (t.val / 8) + s.val, _⟩, index t]

theorem final9 (c : Dev nD) : (dats m 0 c).arrAt 9 cfg0.N
    = G9 (m ((c : Thread nD τ).loc main_arg0)) (m ((c : Thread nD τ).loc main_arg2)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2) 8 (fun _ => 0) _
    (fun t h j => by rw [outsAt0_A m c t h]; frame_out; rw [step9, start9])
    (fun t h j => by rw [outsAt0_B m c t h]; frame_out; rw [step9]) t ((flush0_9 t).mp hf), zero_add]
  pointwise [G9, invRoot]
  refine Fin.sum_mul_add_congr fun s k hl => ?_
  blk_point [iblk, V, index ⟨8 * (t.val / 8) + s.val, _⟩, index t]

end Cert.Proof.NormBwd0

end
-- ==== Proof.NormBwd0Ref.lean ====
/- The reference's gradient of the rows of the first norm, read at a point: the chain rule's form of it is the one of
   `NormRow.dx`, for finite arguments. -/
module

public import proofs.«01_k».proof.Proof.NormRow
public import proofs.«01_k».proof.Proof.Gen.NormBwd0RefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.NormBwd0Ref

open Idealize.ShloMosaic Idealize.SL.Sem Cert.Proof.NormRow Cert.NormBwd0RefIdeal

variable (m : (ℓ : Loc nD τ sig) → Buf (Elt Ideal) ℓ) (c : Dev nD)
  (x dh dres : FVec Ideal S4096x1024 .f32) (gn sc : FVec Ideal S1x1024 .f32)

variable (h0 : m ((c.tc : Thread nD τ).loc main_arg0) = x) (h1 : m ((c.tc : Thread nD τ).loc main_arg1) = gn)
  (h2 : m ((c.tc : Thread nD τ).loc main_arg2) = sc) (h4 : m ((c.tc : Thread nD τ).loc main_arg4) = dh)
  (h5 : m ((c.tc : Thread nD τ).loc main_arg5) = dres)
  (hx : ∀ i, x i ≠ ⊤ ∧ x i ≠ ⊥) (hg : ∀ i, gn i ≠ ⊤ ∧ gn i ≠ ⊥) (hs : ∀ i, sc i ≠ ⊤ ∧ sc i ≠ ⊥) (hd : ∀ i, dh i ≠ ⊤ ∧ dh i ≠ ⊥)

include h0 h1 h2 h4 h5 hx hg hs hd

/-- The gradient of the rows. -/
theorem rows (i0 : Fin 4096) (i1 : Fin 1024) : Value.res_main_v48 m c (ix2 i0 i1)
    = dx (fun l => x (ix2 i0 l)) (fun l => gn (ix2 0 l)) (fun l => sc (ix2 0 l)) (fun l => dh (ix2 i0 l))
        (fun l => dres (ix2 i0 l)) i1 := by
  unfold Value.res_main_v48
  rw [h0, h1, h2, h4, h5]
  have e : ∀ h : S4096x1024.ShapeCasts ((c.tc : Thread nD τ).loc main_v48).ty.shape,
    (shapeCast ((c.tc : Thread nD τ).loc main_v48).ty.shape (α := Ideal .f32) dh h : S4096x1024.Idx → Ideal .f32) = dh :=
    fun h => shapeCast_self _ _
  have e' : ∀ h : S4096x1024.ShapeCasts ((c.tc : Thread nD τ).loc main_arg0).ty.shape,
    (shapeCast ((c.tc : Thread nD τ).loc main_arg0).ty.shape (α := Ideal .f32) dh h : S4096x1024.Idx → Ideal .f32) = dh :=
    fun h => shapeCast_self _ _
  simp only [e, e']
  show (_ : FVec Ideal S4096x1024 .f32) (ix2 i0 i1) = _
  refine Eq.trans ?_ (chain _ _ _ _ _ (fun l => hx (ix2 i0 l)) (fun l => hg (ix2 0 l)) (fun l => hs (ix2 0 l))
    (fun l => hd (ix2 i0 l)) i1)
  clear e e' h0 h1 h2 h4 h5
  pointwise [half, invRoot, Fin.sum_univ_one]

end Cert.Proof.NormBwd0Ref

end
-- ==== Proof.NormBwd0Claim.lean ====
/- The claim about the gradient of the first norm: the precondition, read as finite arguments, and the two programs' results. -/
module

public import proofs.«01_k».proof.Defs
public import proofs.«01_k».proof.Proof.NormBwd0
public import proofs.«01_k».proof.Proof.NormBwd0Ref
public import proofs.«01_k».proof.Proof.Pre
public import proofs.«01_k».proof.Proof.Gen.Pre_finite_first
public import Idealize.ShloMosaic.Lib.Claim
public import Idealize.ShloMosaic.Lib.Pipeline.ValueKit
public import Idealize.ShloMosaic.Lib.Pointwise

@[expose] public section

set_option maxRecDepth 16384

noncomputable section

namespace Cert.Proof.NormBwd0Claim

open Cert.NormBwd0Ideal Cert.NormBwd0Ideal.Gen Idealize.ShloMosaic Idealize.ShloMosaic.TcCoe Idealize.SL.Sem
open Cert.Proof.NormRow Cert.Proof.NormBwd0

/-- Under the precondition the row, the gain, the scale and the gradient are finite. -/
theorem finite (x : FVec Ideal Cert.Pre_finite_first.S4096x1024 .f32) (gn sc sh : FVec Ideal Cert.Pre_finite_first.S1x1024 .f32)
    (dh dres : FVec Ideal Cert.Pre_finite_first.S4096x1024 .f32)
    (h : Cert.Pre_finite_first.fn x gn sc sh dh dres = fun _ => 1#1) :
    (∀ i, x i ≠ ⊤ ∧ x i ≠ ⊥) ∧ (∀ i, gn i ≠ ⊤ ∧ gn i ≠ ⊥) ∧ (∀ i, sc i ≠ ⊤ ∧ sc i ≠ ⊥) ∧ ∀ i, dh i ≠ ⊤ ∧ dh i ≠ ⊥ := by
  have h := congrFun h default
  simp only [Cert.Pre_finite_first.fn, Cert.Pre_finite_first.fn_part1] at h
  have two : ∀ p q : BitVec 1, p &&& q = 1#1 → p = 1#1 ∧ q = 1#1 := by decide
  obtain ⟨h123, h4⟩ := two _ _ h
  obtain ⟨h12, h3⟩ := two _ _ h123
  obtain ⟨h1, h2⟩ := two _ _ h12
  exact ⟨fun i => Pre.finite_of_lt _ (Pre.all_of_reduce _ _ _ _ _ (fun _ => funext fun a => a.elim0) h1 i),
    fun i => Pre.finite_of_lt _ (Pre.all_of_reduce _ _ _ _ _ (fun _ => funext fun a => a.elim0) h2 i),
    fun i => Pre.finite_of_lt _ (Pre.all_of_reduce _ _ _ _ _ (fun _ => funext fun a => a.elim0) h3 i),
    fun i => Pre.finite_of_lt _ (Pre.all_of_reduce _ _ _ _ _ (fun _ => funext fun a => a.elim0) h4 i)⟩

/-- The kernel and the reference over the extended reals. -/
theorem algebraic : Cert.algebraic_NormBwd0Ideal_NormBwd0RefIdeal_pre_finite_first := by
  intro m g m' g' hpre hagree
  refine ⟨fun c => G6 (m ((c : Thread nD τ).loc main_arg0)) (m ((c : Thread nD τ).loc main_arg1)) (m ((c : Thread nD τ).loc main_arg2)) (m ((c : Thread nD τ).loc main_arg4)) (m ((c : Thread nD τ).loc main_arg5)), fun c => G7 (m ((c : Thread nD τ).loc main_arg0)) (m ((c : Thread nD τ).loc main_arg1)) (m ((c : Thread nD τ).loc main_arg4)), fun c => G8 (m ((c : Thread nD τ).loc main_arg4)),
    fun c => G9 (m ((c : Thread nD τ).loc main_arg0)) (m ((c : Thread nD τ).loc main_arg2)) (m ((c : Thread nD τ).loc main_arg4)), ?_, ?_⟩
  · exact θ_run_mono (θ_run_and (run_main m g) (unchanged m g)) fun r hr c =>
      ⟨((hr.1 c).1 6).trans (final6 m c), ((hr.1 c).1 7).trans (final7 m c), ((hr.1 c).1 8).trans (final8 m c),
        ((hr.1 c).1 9).trans (final9 m c), hr.2 c⟩
  refine θ_run_mono (Cert.NormBwd0RefIdeal.Value.run m' g') fun r hr c => ?_
  obtain ⟨r0, r1, r2, r3, rest⟩ := hr c
  obtain ⟨hx, hg, hs, hd⟩ := finite _ _ _ _ _ _ (hpre c)
  obtain ⟨h0, h1, h2, h3, h4, h5⟩ := hagree c
  refine ⟨r0.trans ?_, r1.trans ?_, r2.trans ?_, r3.trans ?_, rest⟩
  · refine funext fun i => ?_
    idx_vars i
    exact NormBwd0Ref.rows m' c _ _ _ _ _ h0 h1 h2 h4 h5 hx hg hs hd i0 i1
  · beta_reduce
    rw [h0, h1, h4]
    generalize m (c.tc.loc NormBwd0Ideal.main_arg0) = x at *
    generalize m (c.tc.loc NormBwd0Ideal.main_arg1) = gn at *
    generalize m (c.tc.loc NormBwd0Ideal.main_arg4) = dh at *
    clear r0 r1 r2 r3 rest hx hg hs hd h0 h1 h2 h3 h4 h5 hr hagree hpre
    have e : ∀ h : S4096x1024.ShapeCasts ((c.tc : Thread _ NormBwd0RefIdeal.τ).loc NormBwd0RefIdeal.main_arg0).ty.shape,
      (shapeCast ((c.tc : Thread _ NormBwd0RefIdeal.τ).loc NormBwd0RefIdeal.main_arg0).ty.shape (α := Ideal .f32) dh h
        : S4096x1024.Idx → Ideal .f32) = dh := fun h => shapeCast_self _ _
    simp only [e]
    clear e
    refine funext fun i => ?_
    idx_vars i
    obtain rfl : i0 = 0 := Subsingleton.elim _ _
    pointwise [G7, invRoot]
    exact Finset.sum_congr rfl fun r _ => mul_comm _ _
  · beta_reduce
    rw [h4]
    generalize m (c.tc.loc NormBwd0Ideal.main_arg4) = dh at *
    clear r0 r1 r2 r3 rest hx hg hs hd h0 h1 h2 h3 h4 h5 hr hagree hpre
    refine funext fun i => ?_
    idx_vars i
    obtain rfl : i0 = 0 := Subsingleton.elim _ _
    pointwise [G8]
  · beta_reduce
    rw [h0, h2, h4]
    generalize m (c.tc.loc NormBwd0Ideal.main_arg0) = x at *
    generalize m (c.tc.loc NormBwd0Ideal.main_arg2) = sc at *
    generalize m (c.tc.loc NormBwd0Ideal.main_arg4) = dh at *
    clear r0 r1 r2 r3 rest hx hg hs hd h0 h1 h2 h3 h4 h5 hr hagree hpre
    have e : ∀ h : S4096x1024.ShapeCasts ((c.tc : Thread _ NormBwd0RefIdeal.τ).loc NormBwd0RefIdeal.main_arg0).ty.shape,
      (shapeCast ((c.tc : Thread _ NormBwd0RefIdeal.τ).loc NormBwd0RefIdeal.main_arg0).ty.shape (α := Ideal .f32) dh h
        : S4096x1024.Idx → Ideal .f32) = dh := fun h => shapeCast_self _ _
    simp only [e]
    clear e
    refine funext fun i => ?_
    idx_vars i
    obtain rfl : i0 = 0 := Subsingleton.elim _ _
    pointwise [G9, invRoot]
    exact Finset.sum_congr rfl fun r _ => mul_comm _ _

end Cert.Proof.NormBwd0Claim

end
-- ==== Proof.LossHead.lean ====
/- The loss head: what the kernel leaves in its four results, as one function of the arguments each. -/
module

public import proofs.«01_k».proof.Defs
public import proofs.«01_k».proof.Proof.Gen.LossIdeal.Frame
public import Idealize.ShloMosaic.Lib.Claim
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Proof.LossHead

open Cert.LossIdeal Cert.LossIdeal.Gen Idealize.ShloMosaic Idealize.ShloMosaic.TcCoe Idealize.SL.Sem

/-- The gradient of the loss at one element of the output. -/
def lossSlope (y t : EReal) : EReal := (y - t) * Ideal.ofBits .f32 0x3A800000#32

/-- The mean square error of one row. -/
def meanSq (y t : Fin 1024 → EReal) : EReal :=
  Ideal.div (∑ l, (y l - t l) * (y l - t l)) (Ideal.ofBits .f32 0x44800000#32)

/-- The gradient of the output. -/
def G4 (y t : Vec Ideal S4096x1024 .f32) : Vec Ideal S4096x1024 .f32 := fun i => lossSlope (y i) (t i)

/-- The loss: half the sum of the rows' mean squares. -/
def G5 (y t : Vec Ideal S4096x1024 .f32) : Vec Ideal S1x1 .f32 := fun _ =>
  Ideal.ofBits .f32 0x3F000000#32 * ∑ r : Fin 4096, meanSq (fun l => y (ix2 r l)) (fun l => t (ix2 r l))

/-- The gradient of the last branch before its gate. -/
def G6 (y t : Vec Ideal S4096x1024 .f32) (gate : Vec Ideal S1x1024 .f32) : Vec Ideal S4096x1024 .bf16 := fun i =>
  lossSlope (y (ix2 (i 0) (i 1))) (t (ix2 (i 0) (i 1))) * gate (ix2 0 (i 1))

/-- The gate's gradient. -/
def G7 (y t : Vec Ideal S4096x1024 .f32) (z : Vec Ideal S4096x1024 .bf16) : Vec Ideal S1x1024 .f32 := fun i =>
  ∑ r : Fin 4096, lossSlope (y (ix2 r (i 1))) (t (ix2 r (i 1))) * z (ix2 r (i 1))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![t.val, 0] ∧ win0_2.index t = ![t.val, 0] ∧ win0_3.index t = ![0, 0])
    ∧ (win0_4.index t = ![t.val, 0] ∧ win0_5.index t = ![0, 0] ∧ win0_6.index t = ![t.val, 0] ∧ win0_7.index t = ![0, 0]) :=
  (by decide +kernel : ∀ t : Fin grid0.N, _)

/-- One point's step of the sum of the rows' mean squares. -/
theorem step (y t : Vec Ideal S512x1024 .f32) (acc : Vec Ideal S1x1 .f32) (j : S1x1.Idx) :
    k0_pay7 y t acc j = acc j + ∑ r : Fin 512, meanSq (fun l => y (ix2 r l)) (fun l => t (ix2 r l)) := by
  idx_vars j
  obtain rfl : j0 = 0 := Subsingleton.elim _ _
  obtain rfl : j1 = 0 := Subsingleton.elim _ _
  pointwise [k0_pay7, k0_pay5, meanSq]

/-- One point's step of the gate's gradient. -/
theorem step7 (y t : Vec Ideal S512x1024 .f32) (z : Vec Ideal S512x1024 .bf16) (acc : Vec Ideal S1x1024 .f32) (j : S1x1024.Idx) :
    k0_pay1 (k0_pay9 acc) (k0_pay10 y t z) j
      = acc j + ∑ r : Fin 512, lossSlope (y (ix2 r (j 1))) (t (ix2 r (j 1))) * z (ix2 r (j 1)) := by
  idx_vars j
  obtain rfl : j0 = 0 := Subsingleton.elim _ _
  pointwise [k0_pay1, k0_pay9, k0_pay10, k0_pay6, k0_pay5, lossSlope]

theorem start (j : S1x1.Idx) : k0_pay3 (F := Ideal) j = 0 := by
  idx_vars j
  obtain rfl : j0 = 0 := Subsingleton.elim _ _
  obtain rfl : j1 = 0 := Subsingleton.elim _ _
  pointwise [k0_pay3]

theorem start7 (j : S1x1024.Idx) : k0_pay4 (F := Ideal) j = 0 := by
  idx_vars j
  pointwise [k0_pay4]

theorem final4 (c : Dev nD) : (dats m 0 c).arrAt 4 cfg0.N
    = G4 (m ((c : Thread nD τ).loc main_arg0)) (m ((c : Thread nD τ).loc main_arg1)) := by
  refine (dats m 0 c).arrAt_eq_of_covers 4 _ (by decide +kernel) fun t hf y => ?_
  blk_simp
  have h : (dats m 0 c).after 4 t = k0_pay6 (iblk m c 0 t) (iblk m c 1 t) := by
    rw [after0_4]
    by_cases h0 : t.val % 8 = 0
    · rw [outsAt0_A m c t h0 (by omega)]; frame_out
    by_cases h1 : t.val % 8 = 7
    · rw [outsAt0_C m c t h0 h1]; frame_out
    · rw [outsAt0_B m c t h0 h1]; frame_out
  rw [h]
  pointwise [k0_pay6, k0_pay5, G4, lossSlope]
  blk_point [iblk, V, index t]

theorem final6 (c : Dev nD) : (dats m 0 c).arrAt 6 cfg0.N
    = G6 (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  have h : (dats m 0 c).after 6 t = k0_pay8 (iblk m c 0 t) (iblk m c 1 t) (iblk m c 3 t) := by
    rw [after0_6]
    by_cases h0 : t.val % 8 = 0
    · rw [outsAt0_A m c t h0 (by omega)]; frame_out
    by_cases h1 : t.val % 8 = 7
    · rw [outsAt0_C m c t h0 h1]; frame_out
    · rw [outsAt0_B m c t h0 h1]; frame_out
  rw [h]
  pointwise [k0_pay8, k0_pay6, k0_pay5, G6, lossSlope]
  blk_point [iblk, V, index t]

theorem final7 (c : Dev nD) : (dats m 0 c).arrAt 7 cfg0.N
    = G7 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, Pipeline.eq_sum_fin_of_reset_step_apply_of_flush (fun n h => (outsAt0 m c n h).2.2.2.1) 8 (fun _ => 0) _
    (fun t h j => by rw [outsAt0_A m c t h (by omega)]; frame_out; rw [step7, start7])
    (fun t h j => by
      by_cases h1 : t.val % 8 = 7
      · rw [outsAt0_C m c t h h1]; frame_out; rw [step7]
      · rw [outsAt0_B m c t h h1]; frame_out; rw [step7]) t ((flush0_7 t).mp hf), zero_add]
  pointwise [G7, lossSlope]
  refine Fin.sum_mul_add_congr fun s k hl => ?_
  blk_point [iblk, V, index ⟨8 * (t.val / 8) + s.val, _⟩, index t]

theorem final5 (c : Dev nD) : (dats m 0 c).arrAt 5 cfg0.N
    = G5 (m ((c : Thread nD τ).loc main_arg0)) (m ((c : Thread nD τ).loc main_arg1)) := by
  refine (dats m 0 c).arrAt_eq_of_covers 5 _ (by decide +kernel) fun t hf y => ?_
  blk_simp
  have h1 : t.val % 8 = 7 := (flush0_5 t).mp hf
  have h : (outsAt0 m c t.val t.isLt).2.1 = k0_pay2 ((outsAt0 m c t.val t.isLt).2.2.2.2) := by
    rw [outsAt0_C m c t (by omega) h1]; frame_out
  rw [after0_5, h]
  pointwise [k0_pay2]
  rw [Pipeline.eq_sum_fin_of_reset_step_apply_of_flush (fun n h => (outsAt0 m c n h).2.2.2.2) 8 (fun _ => 0) _
    (fun t h j => by rw [outsAt0_A m c t h (by omega)]; frame_out; rw [step, start])
    (fun t h j => by
      by_cases h1 : t.val % 8 = 7
      · rw [outsAt0_C m c t h h1]; frame_out; rw [step, read_unread_whole]
      · rw [outsAt0_B m c t h h1]; frame_out; rw [step, read_unread_whole]) t h1, zero_add]
  pointwise [G5, meanSq]
  refine congrArg (Ideal.ofBits .f32 0x3F000000#32 * ·) (Fin.sum_mul_add_congr fun s k hl => ?_)
  blk_point [iblk, V, index ⟨8 * (t.val / 8) + s.val, _⟩, index t]

end Cert.Proof.LossHead

end
-- ==== Proof.LossClaim.lean ====
/- The claim about the loss head: the reference's results are the kernel's. -/
module

public import proofs.«01_k».proof.Defs
public import proofs.«01_k».proof.Proof.LossHead
public import proofs.«01_k».proof.Proof.Gen.LossRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.LossClaim

open Cert.LossIdeal Cert.LossIdeal.Gen Idealize.ShloMosaic Idealize.ShloMosaic.TcCoe Idealize.SL.Sem
open Cert.Proof.LossHead

/-- The chain rule's factors of the output's gradient are the kernel's one: a half of the mean's reciprocal, twice. -/
theorem slope_chain (e : EReal) : Ideal.div (Ideal.ofBits .f32 0x3F000000#32) (Ideal.ofBits .f32 0x44800000#32)
    * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x44800000#32 = ((1024 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, Ideal.div_coe (by norm_num), ← mul_assoc, ← EReal.coe_mul, ← EReal.coe_mul, mul_comm]
  norm_num

/-- The kernel and the reference over the extended reals. -/
theorem algebraic : Cert.algebraic_LossIdeal_LossRefIdeal := by
  intro m g m' g' _ hagree
  refine ⟨fun c => G4 (m ((c : Thread nD τ).loc main_arg0)) (m ((c : Thread nD τ).loc main_arg1)),
    fun c => G5 (m ((c : Thread nD τ).loc main_arg0)) (m ((c : Thread nD τ).loc main_arg1)),
    fun c => G6 (m ((c : Thread nD τ).loc main_arg0)) (m ((c : Thread nD τ).loc main_arg1)) (m ((c : Thread nD τ).loc main_arg3)),
    fun c => G7 (m ((c : Thread nD τ).loc main_arg0)) (m ((c : Thread nD τ).loc main_arg1)) (m ((c : Thread nD τ).loc main_arg2)),
    ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.LossRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  all_goals
    clear r0 r1 r2 r3 rest hr
    beta_reduce
    rw [h0, h1]
  · generalize m (c.tc.loc LossIdeal.main_arg0) = y at *
    generalize m (c.tc.loc LossIdeal.main_arg1) = t at *
    clear h0 h1 h2 h3 hagree
    refine funext fun i => ?_
    idx_vars i
    refine Eq.trans ?_ (slope_chain ((show EReal from y (ix2 i0 i1)) - (show EReal from t (ix2 i0 i1))))
    pointwise [G4, lossSlope]
  · generalize m (c.tc.loc LossIdeal.main_arg0) = y at *
    generalize m (c.tc.loc LossIdeal.main_arg1) = t at *
    clear h0 h1 h2 h3 hagree
    refine funext fun i => ?_
    idx_vars i
    obtain rfl : i0 = 0 := Subsingleton.elim _ _
    obtain rfl : i1 = 0 := Subsingleton.elim _ _
    pointwise [G5, meanSq]
  · rw [h3]
    generalize m (c.tc.loc LossIdeal.main_arg0) = y at *
    generalize m (c.tc.loc LossIdeal.main_arg1) = t at *
    generalize m (c.tc.loc LossIdeal.main_arg3) = gate at *
    clear h0 h1 h2 h3 hagree
    refine funext fun i => ?_
    idx_vars i
    refine Eq.trans ?_ (congrArg (· * (show EReal from gate (ix2 0 i1))) (slope_chain ((show EReal from y (ix2 i0 i1)) - (show EReal from t (ix2 i0 i1)))))
    refine Eq.trans ?_ (mul_comm _ _)
    pointwise [G6, lossSlope]
  · rw [h2]
    generalize m (c.tc.loc LossIdeal.main_arg0) = y at *
    generalize m (c.tc.loc LossIdeal.main_arg1) = t at *
    generalize m (c.tc.loc LossIdeal.main_arg2) = z at *
    clear h0 h1 h2 h3 hagree
    refine funext fun i => ?_
    idx_vars i
    obtain rfl : i0 = 0 := Subsingleton.elim _ _
    refine Eq.trans ?_ (Finset.sum_congr rfl fun r _ => congrArg (· * (show EReal from z (ix2 r i1)))
      (slope_chain ((show EReal from y (ix2 r i1)) - (show EReal from t (ix2 r i1)))))
    pointwise [G7, lossSlope]

end Cert.Proof.LossClaim

end
-- ==== Proof.Silu.lean ====
/- The gate `silu` at one number of the extended reals. -/
module

public import Idealize.ShloMosaic.Lib.Pointwise

@[expose] public section

noncomputable section

namespace Cert.Proof.Silu

open Idealize.ShloMosaic

/-- The number times its logistic value. -/
def silu (t : EReal) : EReal := t * Ideal.div 1 (1 + Ideal.exp (-t))

end Cert.Proof.Silu

end
-- ==== Proof.AdaBwd.lean ====
/- The gradient of the weight that makes the modulation: what the kernel leaves in its result, as one function of the
   conditioning vectors and the modulation's gradient, and the claim about the two programs. A grid point holds one layer
   and 512 columns. -/
module

public import proofs.«01_k».proof.Defs
public import proofs.«01_k».proof.Proof.Silu
public import proofs.«01_k».proof.Proof.Gen.AdaBwdIdeal.Frame
public import proofs.«01_k».proof.Proof.Gen.AdaBwdRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdaBwd

open Cert.AdaBwdIdeal Cert.AdaBwdIdeal.Gen Idealize.ShloMosaic Idealize.ShloMosaic.TcCoe Idealize.SL.Sem
open Cert.Proof.Silu

/-- The gradient of layer `l` at input `k` and output `j`: the sum over the conditioning vectors. -/
def G (x : Vec Ideal S8x1024 .f32) (d : Vec Ideal S2x8x1536 .f32) : Vec Ideal S2x1024x1536 .f32 :=
  fun i => ∑ r : Fin 8, silu (x (ix2 r (i 1))) * d (ix3 (i 0) r (i 2))

variable (m : (ℓ : Loc nD τ sig) → Buf (Elt Ideal) ℓ) (ρ : Dev nD → PrngReg)

/-- Where each window's block of grid point `t` lies. -/
theorem index : ∀ t : Fin cfg0.N,
    win0_0.index t = ![0, 0] ∧ win0_1.index t = ![t.val / 3, 0, t.val % 3] ∧ win0_2.index t = ![t.val / 3, 0, t.val % 3] :=
  (by decide +kernel : ∀ t : Fin grid0.N, _)

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, G, silu, zero_sub]
  blk_point [iblk, V, index t]

/-- The kernel and the reference over the extended reals. -/
theorem algebraic : Cert.algebraic_AdaBwdIdeal_AdaBwdRefIdeal := by
  intro m g m' g' _ hagree
  refine ⟨fun c => G (m ((c : Thread nD τ).loc main_arg0)) (m ((c : Thread nD τ).loc main_arg1)), ?_, ?_⟩
  · exact θ_run_mono (θ_run_and (run_main m g) (unchanged m g)) fun r hr c =>
      ⟨((hr.1 c).1 2).trans (final m c), hr.2 c⟩
  refine θ_run_mono (Cert.AdaBwdRefIdeal.Value.run m' g') fun r hr c => ?_
  obtain ⟨r0, rest⟩ := hr c
  obtain ⟨h0, h1⟩ := hagree c
  refine ⟨r0.trans ?_, rest⟩
  clear r0 rest hr
  beta_reduce
  rw [h0, h1]
  generalize m (c.tc.loc AdaBwdIdeal.main_arg0) = x at *
  generalize m (c.tc.loc AdaBwdIdeal.main_arg1) = d at *
  clear h0 h1 hagree
  refine funext fun i => ?_
  idx_vars i
  fin_cases i0
  · pointwise [G, silu]
    exact Finset.sum_congr rfl fun r _ => mul_comm _ _
  · pointwise [G, silu]
    exact Finset.sum_congr rfl fun r _ => mul_comm _ _

end Cert.Proof.AdaBwd

end
-- ==== Proof.AdaFwd.lean ====
/- The modulation of every layer from the conditioning vectors: what the kernel leaves in its result, as one function of its
   three arguments, and the claim about the two programs. A grid point holds one layer and 512 columns. -/
module

public import proofs.«01_k».proof.Defs
public import proofs.«01_k».proof.Proof.Silu
public import proofs.«01_k».proof.Proof.Gen.AdaFwdIdeal.Frame
public import proofs.«01_k».proof.Proof.Gen.AdaFwdRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdaFwd

open Cert.AdaFwdIdeal Cert.AdaFwdIdeal.Gen Idealize.ShloMosaic Idealize.ShloMosaic.TcCoe Idealize.SL.Sem
open Cert.Proof.Silu

/-- The modulation of layer `l` for vector `r` at output `j`: the product's sum over the inputs, and the offset. -/
def G (x : Vec Ideal S8x1024 .f32) (w : Vec Ideal S2x1024x1536 .f32) (b : Vec Ideal S2x1x1536 .f32) :
    Vec Ideal S2x8x1536 .f32 :=
  fun i => (∑ k : Fin 1024, silu (x (ix2 (i 1) k)) * w (ix3 (i 0) k (i 2))) + b (ix3 (i 0) 0 (i 2))

variable (m : (ℓ : Loc nD τ sig) → Buf (Elt Ideal) ℓ) (ρ : Dev nD → PrngReg)

/-- Where each window's block of grid point `t` lies. -/
theorem index : ∀ t : Fin cfg0.N,
    (win0_0.index t = ![0, 0] ∧ win0_1.index t = ![t.val / 3, 0, t.val % 3])
    ∧ win0_2.index t = ![t.val / 3, 0, t.val % 3] ∧ win0_3.index t = ![t.val / 3, 0, t.val % 3] :=
  (by decide +kernel : ∀ t : Fin grid0.N, _)

theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, G, silu, zero_sub]
  blk_point [iblk, V, index t]

/-- The kernel and the reference over the extended reals. -/
theorem algebraic : Cert.algebraic_AdaFwdIdeal_AdaFwdRefIdeal := by
  intro m g m' g' _ hagree
  refine ⟨fun c => G (m ((c : Thread nD τ).loc main_arg0)) (m ((c : Thread nD τ).loc main_arg1))
    (m ((c : Thread nD τ).loc main_arg2)), ?_, ?_⟩
  · exact θ_run_mono (θ_run_and (run_main m g) (unchanged m g)) fun r hr c =>
      ⟨((hr.1 c).1 3).trans (final m c), hr.2 c⟩
  refine θ_run_mono (Cert.AdaFwdRefIdeal.Value.run m' g') fun r hr c => ?_
  obtain ⟨r0, rest⟩ := hr c
  obtain ⟨h0, h1, h2⟩ := hagree c
  refine ⟨r0.trans ?_, rest⟩
  clear r0 rest hr
  beta_reduce
  rw [h0, h1, h2]
  generalize m (c.tc.loc AdaFwdIdeal.main_arg0) = x at *
  generalize m (c.tc.loc AdaFwdIdeal.main_arg1) = w at *
  generalize m (c.tc.loc AdaFwdIdeal.main_arg2) = b at *
  clear h0 h1 h2 hagree
  refine funext fun i => ?_
  idx_vars i
  fin_cases i0
  · pointwise [G, silu]
  · pointwise [G, silu]

end Cert.Proof.AdaFwd

end
-- ==== Proof.AdamStep.lean ====
/- The optimiser's step of one weight, over the extended reals: the two moving averages with the constants that the
   programs write, and the change of the weight that they give. -/
module

public import Idealize.ShloMosaic.Lib.Pointwise

@[expose] public section

noncomputable section

namespace Cert.Proof.AdamStep

open Idealize.ShloMosaic

/-- The new average of the gradients, from the gradient and the old average. -/
def newM (g a : EReal) : EReal := Ideal.ofBits .f32 0x3F666666#32 * a + Ideal.ofBits .f32 0x3DCCCCCD#32 * g

/-- The new average of the squared gradients, from the gradient and the old average. -/
def newV (g b : EReal) : EReal := Ideal.ofBits .f32 0x3F7FBE77#32 * b + Ideal.ofBits .f32 0x3A83126F#32 * (g * g)

/-- The change of a weight: the corrected averages' quotient with the weight's decay, times the negated rate. -/
def change (g w a b : EReal) : EReal :=
  Ideal.ofBits .f32 0xBA83126F#32
    * (Ideal.div (Ideal.div (newM g a) (Ideal.ofBits .f32 0x3F26BD02#32))
          (Ideal.sqrt (Ideal.div (newV g b) (Ideal.ofBits .f32 0x3C231ACC#32)) + Ideal.ofBits .f32 0x322BCC77#32)
        + Ideal.ofBits .f32 0x3C23D70A#32 * w)

end Cert.Proof.AdamStep

end
-- ==== Proof.AdamQkv.lean ====
/- The optimiser's step of the attention's input projection: what the kernel leaves in its four results, as functions of
   the gradient, the weight and the two averages, and the claim about the two programs. A grid point holds 128 rows. -/
module

public import proofs.«01_k».proof.Defs
public import proofs.«01_k».proof.Proof.AdamStep
public import proofs.«01_k».proof.Proof.Gen.AdamQkvIdeal.Frame
public import proofs.«01_k».proof.Proof.Gen.AdamQkvRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamQkv

open Cert.AdamQkvIdeal Cert.AdamQkvIdeal.Gen Idealize.ShloMosaic Idealize.ShloMosaic.TcCoe Idealize.SL.Sem
open Cert.Proof.AdamStep

/-- The gradient, with the weight's leading axis. -/
def G4 (g : Vec Ideal S1024x2304 .f32) : Vec Ideal S1x1024x2304 .f32 := fun i => g (ix2 (i 1) (i 2))

/-- The weight's change. -/
def G5 (g : Vec Ideal S1024x2304 .f32) (w a b : Vec Ideal S1x1024x2304 .f32) : Vec Ideal S1x1024x2304 .f32 :=
  fun i => change (g (ix2 (i 1) (i 2))) (w (ix3 0 (i 1) (i 2))) (a (ix3 0 (i 1) (i 2))) (b (ix3 0 (i 1) (i 2)))

/-- The gradients' new average. -/
def G6 (g : Vec Ideal S1024x2304 .f32) (a : Vec Ideal S1x1024x2304 .f32) : Vec Ideal S1x1024x2304 .f32 :=
  fun i => newM (g (ix2 (i 1) (i 2))) (a (ix3 0 (i 1) (i 2)))

/-- The squared gradients' new average. -/
def G7 (g : Vec Ideal S1024x2304 .f32) (b : Vec Ideal S1x1024x2304 .f32) : Vec Ideal S1x1024x2304 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S1024x2304 .f32) (h : S1024x2304.ShapeCasts AdamQkvRefIdeal.S1x1024x2304) :
    shapeCast AdamQkvRefIdeal.S1x1024x2304 g h = G4 g := by
  refine funext fun i => ?_
  idx_vars i
  obtain rfl : i0 = 0 := Subsingleton.elim _ _
  pointwise [G4]

/-- The kernel and the reference over the extended reals. -/
theorem algebraic : Cert.algebraic_AdamQkvIdeal_AdamQkvRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamQkvRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamQkvIdeal.main_arg0) = g at *
    clear h0 h1 h2 h3 hagree
    exact lead _ _
  · clear r0 r1 r2 r3 rest hr
    beta_reduce
    rw [h0, h1, h2, h3]
    generalize m (c.tc.loc AdamQkvIdeal.main_arg0) = g at *
    generalize m (c.tc.loc AdamQkvIdeal.main_arg1) = w at *
    generalize m (c.tc.loc AdamQkvIdeal.main_arg2) = a at *
    generalize m (c.tc.loc AdamQkvIdeal.main_arg3) = b at *
    clear h0 h1 h2 h3 hagree
    generalize hv : shapeCast AdamQkvRefIdeal.S1x1024x2304 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamQkvIdeal.main_arg0) = g at *
    generalize m (c.tc.loc AdamQkvIdeal.main_arg2) = a at *
    clear h0 h1 h2 h3 hagree
    generalize hv : shapeCast AdamQkvRefIdeal.S1x1024x2304 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamQkvIdeal.main_arg0) = g at *
    generalize m (c.tc.loc AdamQkvIdeal.main_arg3) = b at *
    clear h0 h1 h2 h3 hagree
    generalize hv : shapeCast AdamQkvRefIdeal.S1x1024x2304 _ _ = v
    obtain rfl : v = G4 g := hv.symm.trans (lead _ _)
    clear hv
    refine funext fun i => ?_
    idx_vars i
    obtain rfl : i0 = 0 := Subsingleton.elim _ _
    pointwise [G4, G7, newV]

end Cert.Proof.AdamQkv

end
-- ==== Proof.AdamIn.lean ====
/- The optimiser's step of the recurrence's input projection: what the kernel leaves in its four results, as functions of
   the gradient, the weight and the two averages, and the claim about the two programs. A grid point holds 128 rows. -/
module

public import proofs.«01_k».proof.Defs
public import proofs.«01_k».proof.Proof.AdamStep
public import proofs.«01_k».proof.Proof.Gen.AdamInIdeal.Frame
public import proofs.«01_k».proof.Proof.Gen.AdamInRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamIn

open Cert.AdamInIdeal Cert.AdamInIdeal.Gen Idealize.ShloMosaic Idealize.ShloMosaic.TcCoe Idealize.SL.Sem
open Cert.Proof.AdamStep

/-- The gradient, with the weight's leading axis. -/
def G4 (g : Vec Ideal S1024x1024 .f32) : Vec Ideal S1x1024x1024 .f32 := fun i => g (ix2 (i 1) (i 2))

/-- The weight's change. -/
def G5 (g : Vec Ideal S1024x1024 .f32) (w a b : Vec Ideal S1x1024x1024 .f32) : Vec Ideal S1x1024x1024 .f32 :=
  fun i => change (g (ix2 (i 1) (i 2))) (w (ix3 0 (i 1) (i 2))) (a (ix3 0 (i 1) (i 2))) (b (ix3 0 (i 1) (i 2)))

/-- The gradients' new average. -/
def G6 (g : Vec Ideal S1024x1024 .f32) (a : Vec Ideal S1x1024x1024 .f32) : Vec Ideal S1x1024x1024 .f32 :=
  fun i => newM (g (ix2 (i 1) (i 2))) (a (ix3 0 (i 1) (i 2)))

/-- The squared gradients' new average. -/
def G7 (g : Vec Ideal S1024x1024 .f32) (b : Vec Ideal S1x1024x1024 .f32) : Vec Ideal S1x1024x1024 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S1024x1024 .f32) (h : S1024x1024.ShapeCasts AdamInRefIdeal.S1x1024x1024) :
    shapeCast AdamInRefIdeal.S1x1024x1024 g h = G4 g := by
  refine funext fun i => ?_
  idx_vars i
  obtain rfl : i0 = 0 := Subsingleton.elim _ _
  pointwise [G4]

/-- The kernel and the reference over the extended reals. -/
theorem algebraic : Cert.algebraic_AdamInIdeal_AdamInRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamInRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamInIdeal.main_arg0) = g at *
    clear h0 h1 h2 h3 hagree
    exact lead _ _
  · clear r0 r1 r2 r3 rest hr
    beta_reduce
    rw [h0, h1, h2, h3]
    generalize m (c.tc.loc AdamInIdeal.main_arg0) = g at *
    generalize m (c.tc.loc AdamInIdeal.main_arg1) = w at *
    generalize m (c.tc.loc AdamInIdeal.main_arg2) = a at *
    generalize m (c.tc.loc AdamInIdeal.main_arg3) = b at *
    clear h0 h1 h2 h3 hagree
    generalize hv : shapeCast AdamInRefIdeal.S1x1024x1024 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamInIdeal.main_arg0) = g at *
    generalize m (c.tc.loc AdamInIdeal.main_arg2) = a at *
    clear h0 h1 h2 h3 hagree
    generalize hv : shapeCast AdamInRefIdeal.S1x1024x1024 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamInIdeal.main_arg0) = g at *
    generalize m (c.tc.loc AdamInIdeal.main_arg3) = b at *
    clear h0 h1 h2 h3 hagree
    generalize hv : shapeCast AdamInRefIdeal.S1x1024x1024 _ _ = v
    obtain rfl : v = G4 g := hv.symm.trans (lead _ _)
    clear hv
    refine funext fun i => ?_
    idx_vars i
    obtain rfl : i0 = 0 := Subsingleton.elim _ _
    pointwise [G4, G7, newV]

end Cert.Proof.AdamIn

end
-- ==== Proof.AdamOut.lean ====
/- The optimiser's step of a mixer's output projection: what the kernel leaves in its four results, as functions of
   the gradient, the weight and the two averages, and the claim about the two programs. A grid point holds 128 rows. -/
module

public import proofs.«01_k».proof.Defs
public import proofs.«01_k».proof.Proof.AdamStep
public import proofs.«01_k».proof.Proof.Gen.AdamOutIdeal.Frame
public import proofs.«01_k».proof.Proof.Gen.AdamOutRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamOut

open Cert.AdamOutIdeal Cert.AdamOutIdeal.Gen Idealize.ShloMosaic Idealize.ShloMosaic.TcCoe Idealize.SL.Sem
open Cert.Proof.AdamStep

/-- The gradient, with the weight's leading axis. -/
def G4 (g : Vec Ideal S256x1024 .f32) : Vec Ideal S1x256x1024 .f32 := fun i => g (ix2 (i 1) (i 2))

/-- The weight's change. -/
def G5 (g : Vec Ideal S256x1024 .f32) (w a b : Vec Ideal S1x256x1024 .f32) : Vec Ideal S1x256x1024 .f32 :=
  fun i => change (g (ix2 (i 1) (i 2))) (w (ix3 0 (i 1) (i 2))) (a (ix3 0 (i 1) (i 2))) (b (ix3 0 (i 1) (i 2)))

/-- The gradients' new average. -/
def G6 (g : Vec Ideal S256x1024 .f32) (a : Vec Ideal S1x256x1024 .f32) : Vec Ideal S1x256x1024 .f32 :=
  fun i => newM (g (ix2 (i 1) (i 2))) (a (ix3 0 (i 1) (i 2)))

/-- The squared gradients' new average. -/
def G7 (g : Vec Ideal S256x1024 .f32) (b : Vec Ideal S1x256x1024 .f32) : Vec Ideal S1x256x1024 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S256x1024 .f32) (h : S256x1024.ShapeCasts AdamOutRefIdeal.S1x256x1024) :
    shapeCast AdamOutRefIdeal.S1x256x1024 g h = G4 g := by
  refine funext fun i => ?_
  idx_vars i
  obtain rfl : i0 = 0 := Subsingleton.elim _ _
  pointwise [G4]

/-- The kernel and the reference over the extended reals. -/
theorem algebraic : Cert.algebraic_AdamOutIdeal_AdamOutRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamOutRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamOutIdeal.main_arg0) = g at *
    clear h0 h1 h2 h3 hagree
    exact lead _ _
  · clear r0 r1 r2 r3 rest hr
    beta_reduce
    rw [h0, h1, h2, h3]
    generalize m (c.tc.loc AdamOutIdeal.main_arg0) = g at *
    generalize m (c.tc.loc AdamOutIdeal.main_arg1) = w at *
    generalize m (c.tc.loc AdamOutIdeal.main_arg2) = a at *
    generalize m (c.tc.loc AdamOutIdeal.main_arg3) = b at *
    clear h0 h1 h2 h3 hagree
    generalize hv : shapeCast AdamOutRefIdeal.S1x256x1024 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamOutIdeal.main_arg0) = g at *
    generalize m (c.tc.loc AdamOutIdeal.main_arg2) = a at *
    clear h0 h1 h2 h3 hagree
    generalize hv : shapeCast AdamOutRefIdeal.S1x256x1024 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamOutIdeal.main_arg0) = g at *
    generalize m (c.tc.loc AdamOutIdeal.main_arg3) = b at *
    clear h0 h1 h2 h3 hagree
    generalize hv : shapeCast AdamOutRefIdeal.S1x256x1024 _ _ = v
    obtain rfl : v = G4 g := hv.symm.trans (lead _ _)
    clear hv
    refine funext fun i => ?_
    idx_vars i
    obtain rfl : i0 = 0 := Subsingleton.elim _ _
    pointwise [G4, G7, newV]

end Cert.Proof.AdamOut

end
-- ==== Proof.AdamAda.lean ====
/- The optimiser's step of the modulation's weight, both layers as one matrix: what the kernel leaves in its four results, as functions of
   the gradient, the weight and the two averages, and the claim about the two programs. A grid point holds 128 rows. -/
module

public import proofs.«01_k».proof.Defs
public import proofs.«01_k».proof.Proof.AdamStep
public import proofs.«01_k».proof.Proof.Gen.AdamAdaIdeal.Frame
public import proofs.«01_k».proof.Proof.Gen.AdamAdaRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamAda

open Cert.AdamAdaIdeal Cert.AdamAdaIdeal.Gen Idealize.ShloMosaic Idealize.ShloMosaic.TcCoe Idealize.SL.Sem
open Cert.Proof.AdamStep

/-- The gradient, with the weight's leading axis. -/
def G4 (g : Vec Ideal S2048x1536 .f32) : Vec Ideal S1x2048x1536 .f32 := fun i => g (ix2 (i 1) (i 2))

/-- The weight's change. -/
def G5 (g : Vec Ideal S2048x1536 .f32) (w a b : Vec Ideal S1x2048x1536 .f32) : Vec Ideal S1x2048x1536 .f32 :=
  fun i => change (g (ix2 (i 1) (i 2))) (w (ix3 0 (i 1) (i 2))) (a (ix3 0 (i 1) (i 2))) (b (ix3 0 (i 1) (i 2)))

/-- The gradients' new average. -/
def G6 (g : Vec Ideal S2048x1536 .f32) (a : Vec Ideal S1x2048x1536 .f32) : Vec Ideal S1x2048x1536 .f32 :=
  fun i => newM (g (ix2 (i 1) (i 2))) (a (ix3 0 (i 1) (i 2)))

/-- The squared gradients' new average. -/
def G7 (g : Vec Ideal S2048x1536 .f32) (b : Vec Ideal S1x2048x1536 .f32) : Vec Ideal S1x2048x1536 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S2048x1536 .f32) (h : S2048x1536.ShapeCasts AdamAdaRefIdeal.S1x2048x1536) :
    shapeCast AdamAdaRefIdeal.S1x2048x1536 g h = G4 g := by
  refine funext fun i => ?_
  idx_vars i
  obtain rfl : i0 = 0 := Subsingleton.elim _ _
  pointwise [G4]

/-- The kernel and the reference over the extended reals. -/
theorem algebraic : Cert.algebraic_AdamAdaIdeal_AdamAdaRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamAdaRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamAdaIdeal.main_arg0) = g at *
    clear h0 h1 h2 h3 hagree
    exact lead _ _
  · clear r0 r1 r2 r3 rest hr
    beta_reduce
    rw [h0, h1, h2, h3]
    generalize m (c.tc.loc AdamAdaIdeal.main_arg0) = g at *
    generalize m (c.tc.loc AdamAdaIdeal.main_arg1) = w at *
    generalize m (c.tc.loc AdamAdaIdeal.main_arg2) = a at *
    generalize m (c.tc.loc AdamAdaIdeal.main_arg3) = b at *
    clear h0 h1 h2 h3 hagree
    generalize hv : shapeCast AdamAdaRefIdeal.S1x2048x1536 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamAdaIdeal.main_arg0) = g at *
    generalize m (c.tc.loc AdamAdaIdeal.main_arg2) = a at *
    clear h0 h1 h2 h3 hagree
    generalize hv : shapeCast AdamAdaRefIdeal.S1x2048x1536 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamAdaIdeal.main_arg0) = g at *
    generalize m (c.tc.loc AdamAdaIdeal.main_arg3) = b at *
    clear h0 h1 h2 h3 hagree
    generalize hv : shapeCast AdamAdaRefIdeal.S1x2048x1536 _ _ = v
    obtain rfl : v = G4 g := hv.symm.trans (lead _ _)
    clear hv
    refine funext fun i => ?_
    idx_vars i
    obtain rfl : i0 = 0 := Subsingleton.elim _ _
    pointwise [G4, G7, newV]

end Cert.Proof.AdamAda

end
-- ==== Proof.AdamFfn.lean ====
/- The optimiser's step of a feed-forward weight: what the kernel leaves in its four results, as functions of the two layers'
   gradients, the weight and the two averages, and the claim about the two programs. A grid point holds one layer and reads
   that layer's gradient. -/
module

public import proofs.«01_k».proof.Defs
public import proofs.«01_k».proof.Proof.AdamStep
public import proofs.«01_k».proof.Proof.Gen.AdamFfnIdeal.Frame
public import proofs.«01_k».proof.Proof.Gen.AdamFfnRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamFfn

open Cert.AdamFfnIdeal Cert.AdamFfnIdeal.Gen Idealize.ShloMosaic Idealize.ShloMosaic.TcCoe Idealize.SL.Sem
open Cert.Proof.AdamStep

/-- The gradient of both layers, one after the other. -/
def G5 (g0 g1 : Vec Ideal S704x1024 .f32) : Vec Ideal S2x704x1024 .f32 :=
  fun i => if (i 0).val = 0 then g0 (ix2 (i 1) (i 2)) else g1 (ix2 (i 1) (i 2))

/-- The weight's change. -/
def G6 (g0 g1 : Vec Ideal S704x1024 .f32) (w a b : Vec Ideal S2x704x1024 .f32) : Vec Ideal S2x704x1024 .f32 :=
  fun i => change (G5 g0 g1 i) (w i) (a i) (b i)

/-- The gradients' new average. -/
def G7 (g0 g1 : Vec Ideal S704x1024 .f32) (a : Vec Ideal S2x704x1024 .f32) : Vec Ideal S2x704x1024 .f32 :=
  fun i => newM (G5 g0 g1 i) (a i)

/-- The squared gradients' new average. -/
def G8 (g0 g1 : Vec Ideal S704x1024 .f32) (b : Vec Ideal S2x704x1024 .f32) : Vec Ideal S2x704x1024 .f32 :=
  fun i => newV (G5 g0 g1 i) (b i)

variable (m : (ℓ : Loc nD τ sig) → Buf (Elt Ideal) ℓ) (ρ : Dev nD → PrngReg)

/-- Where each window's block of grid point `t` lies. -/
theorem index : ∀ t : Fin cfg0.N,
    (win0_0.index t = ![0, 0] ∧ win0_1.index t = ![0, 0])
    ∧ (win0_2.index t = ![t.val, 0, 0] ∧ win0_3.index t = ![t.val, 0, 0] ∧ win0_4.index t = ![t.val, 0, 0])
    ∧ (win0_5.index t = ![t.val, 0, 0] ∧ win0_6.index t = ![t.val, 0, 0])
    ∧ win0_7.index t = ![t.val, 0, 0] ∧ win0_8.index t = ![t.val, 0, 0] :=
  (by decide +kernel : ∀ t : Fin grid0.N, _)

/-- There are two grid points. -/
theorem two : ∀ t : Fin cfg0.N, t.val < 2 := (by decide +kernel : ∀ t : Fin grid0.N, t.val < 2)

theorem final5 (c : Dev nD) : (dats m 0 c).arrAt 5 cfg0.N
    = G5 (m ((c : Thread nD τ).loc main_arg0)) (m ((c : Thread nD τ).loc main_arg1)) := by
  refine (dats m 0 c).arrAt_eq_of_covers 5 _ (by decide +kernel) fun t hf y => ?_
  blk_simp
  rw [after0_5]
  by_cases h0 : t.val % 2 = 0
  · have z : ((win0_5.blk t).view.emb y 0).val = 0 := by
      have := two t
      blk_simp [index t]; idx_bounds y; omega
    simp only [G5, if_pos z]
    rw [outsAt0_A m c t h0 (by omega)]
    frame_out
    pointwise [k0_pay9]
    blk_point [iblk, V, index t]
  · have z : ¬((win0_5.blk t).view.emb y 0).val = 0 := by
      blk_simp [index t]; idx_bounds y; omega
    simp only [G5, if_neg z]
    rw [outsAt0_B m c t h0 (by omega)]
    frame_out
    pointwise [k0_pay13]
    blk_point [iblk, V, index t]

theorem final6 (c : Dev nD) : (dats m 0 c).arrAt 6 cfg0.N
    = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  by_cases h0 : t.val % 2 = 0
  · have z : ((win0_6.blk t).view.emb y 0).val = 0 := by
      have := two t
      blk_simp [index t]; idx_bounds y; omega
    simp only [G6, G5, if_pos z]
    rw [outsAt0_A m c t h0 (by omega)]
    frame_out
    pointwise [k0_pay1, k0_pay7, k0_pay8, k0_pay10, change, newM, newV]
    blk_point [iblk, V, index t]
  · have z : ¬((win0_6.blk t).view.emb y 0).val = 0 := by
      blk_simp [index t]; idx_bounds y; omega
    simp only [G6, G5, if_neg z]
    rw [outsAt0_B m c t h0 (by omega)]
    frame_out
    pointwise [k0_pay4, k0_pay11, k0_pay12, k0_pay14, change, newM, newV]
    blk_point [iblk, V, index t]

theorem final7 (c : Dev nD) : (dats m 0 c).arrAt 7 cfg0.N
    = G7 (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  by_cases h0 : t.val % 2 = 0
  · have z : ((win0_7.blk t).view.emb y 0).val = 0 := by
      have := two t
      blk_simp [index t]; idx_bounds y; omega
    simp only [G7, G5, if_pos z]
    rw [outsAt0_A m c t h0 (by omega)]
    frame_out
    pointwise [k0_pay2, k0_pay7, newM]
    blk_point [iblk, V, index t]
  · have z : ¬((win0_7.blk t).view.emb y 0).val = 0 := by
      blk_simp [index t]; idx_bounds y; omega
    simp only [G7, G5, if_neg z]
    rw [outsAt0_B m c t h0 (by omega)]
    frame_out
    pointwise [k0_pay5, k0_pay11, newM]
    blk_point [iblk, V, index t]

theorem final8 (c : Dev nD) : (dats m 0 c).arrAt 8 cfg0.N
    = G8 (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  by_cases h0 : t.val % 2 = 0
  · have z : ((win0_8.blk t).view.emb y 0).val = 0 := by
      have := two t
      blk_simp [index t]; idx_bounds y; omega
    simp only [G8, G5, if_pos z]
    rw [outsAt0_A m c t h0 (by omega)]
    frame_out
    pointwise [k0_pay3, k0_pay8, newV]
    blk_point [iblk, V, index t]
  · have z : ¬((win0_8.blk t).view.emb y 0).val = 0 := by
      blk_simp [index t]; idx_bounds y; omega
    simp only [G8, G5, if_neg z]
    rw [outsAt0_B m c t h0 (by omega)]
    frame_out
    pointwise [k0_pay6, k0_pay12, newV]
    blk_point [iblk, V, index t]

/-- The reference's two gradients, one after the other. -/
theorem stack (g0 g1 : Vec Ideal S704x1024 .f32) (h) :
    concatenate AdamFfnRefIdeal.S2x704x1024 0
      [⟨AdamFfnRefIdeal.S1x704x1024, broadcastInDim AdamFfnRefIdeal.S1x704x1024 ![1, 2] AdamFfnRefIdeal.Gen.bcast_S704x1024_S1x704x1024_1_2 g0⟩,
        ⟨AdamFfnRefIdeal.S1x704x1024, broadcastInDim AdamFfnRefIdeal.S1x704x1024 ![1, 2] AdamFfnRefIdeal.Gen.bcast_S704x1024_S1x704x1024_1_2 g1⟩] h
      = G5 g0 g1 := by
  refine funext fun i => ?_
  idx_vars i
  fin_cases i0
  · pointwise [G5]
  · pointwise [G5]

/-- The kernel and the reference over the extended reals. -/
theorem algebraic : Cert.algebraic_AdamFfnIdeal_AdamFfnRefIdeal := by
  intro m g m' g' _ hagree
  refine ⟨fun c => G5 (m ((c : Thread nD τ).loc main_arg0)) (m ((c : Thread nD τ).loc main_arg1)),
    fun c => G6 (m ((c : Thread nD τ).loc main_arg0)) (m ((c : Thread nD τ).loc main_arg1)) (m ((c : Thread nD τ).loc main_arg2)) (m ((c : Thread nD τ).loc main_arg3)) (m ((c : Thread nD τ).loc main_arg4)),
    fun c => G7 (m ((c : Thread nD τ).loc main_arg0)) (m ((c : Thread nD τ).loc main_arg1)) (m ((c : Thread nD τ).loc main_arg3)),
    fun c => G8 (m ((c : Thread nD τ).loc main_arg0)) (m ((c : Thread nD τ).loc main_arg1)) (m ((c : Thread nD τ).loc main_arg4)), ?_, ?_⟩
  · exact θ_run_mono (θ_run_and (run_main m g) (unchanged m g)) fun r hr c =>
      ⟨((hr.1 c).1 5).trans (final5 m c), ((hr.1 c).1 6).trans (final6 m c), ((hr.1 c).1 7).trans (final7 m c),
        ((hr.1 c).1 8).trans (final8 m c), hr.2 c⟩
  refine θ_run_mono (Cert.AdamFfnRefIdeal.Value.run m' g') fun r hr c => ?_
  obtain ⟨r0, r1, r2, r3, rest⟩ := hr c
  obtain ⟨h0, h1, h2, h3, h4⟩ := hagree c
  refine ⟨r0.trans ?_, r1.trans ?_, r2.trans ?_, r3.trans ?_, rest⟩
  · clear r0 r1 r2 r3 rest hr
    beta_reduce
    rw [h0, h1]
    generalize m (c.tc.loc AdamFfnIdeal.main_arg0) = g0 at *
    generalize m (c.tc.loc AdamFfnIdeal.main_arg1) = g1 at *
    clear h0 h1 h2 h3 h4 hagree
    exact stack _ _ _
  · clear r0 r1 r2 r3 rest hr
    beta_reduce
    rw [h0, h1, h2, h3, h4]
    generalize m (c.tc.loc AdamFfnIdeal.main_arg0) = g0 at *
    generalize m (c.tc.loc AdamFfnIdeal.main_arg1) = g1 at *
    generalize m (c.tc.loc AdamFfnIdeal.main_arg2) = w at *
    generalize m (c.tc.loc AdamFfnIdeal.main_arg3) = a at *
    generalize m (c.tc.loc AdamFfnIdeal.main_arg4) = b at *
    clear h0 h1 h2 h3 h4 hagree
    generalize hv : concatenate AdamFfnRefIdeal.S2x704x1024 _ _ _ = v
    obtain rfl : v = G5 g0 g1 := hv.symm.trans (stack _ _ _)
    clear hv
    refine funext fun i => ?_
    idx_vars i
    pointwise [G6, change, newM, newV]
  · clear r0 r1 r2 r3 rest hr
    beta_reduce
    rw [h0, h1, h3]
    generalize m (c.tc.loc AdamFfnIdeal.main_arg0) = g0 at *
    generalize m (c.tc.loc AdamFfnIdeal.main_arg1) = g1 at *
    generalize m (c.tc.loc AdamFfnIdeal.main_arg3) = a at *
    clear h0 h1 h2 h3 h4 hagree
    generalize hv : concatenate AdamFfnRefIdeal.S2x704x1024 _ _ _ = v
    obtain rfl : v = G5 g0 g1 := hv.symm.trans (stack _ _ _)
    clear hv
    refine funext fun i => ?_
    idx_vars i
    pointwise [G7, newM]
  · clear r0 r1 r2 r3 rest hr
    beta_reduce
    rw [h0, h1, h4]
    generalize m (c.tc.loc AdamFfnIdeal.main_arg0) = g0 at *
    generalize m (c.tc.loc AdamFfnIdeal.main_arg1) = g1 at *
    generalize m (c.tc.loc AdamFfnIdeal.main_arg4) = b at *
    clear h0 h1 h2 h3 h4 hagree
    generalize hv : concatenate AdamFfnRefIdeal.S2x704x1024 _ _ _ = v
    obtain rfl : v = G5 g0 g1 := hv.symm.trans (stack _ _ _)
    clear hv
    refine funext fun i => ?_
    idx_vars i
    pointwise [G8, newV]

end Cert.Proof.AdamFfn

end
-- ==== Proof.AdamRel.lean ====
/- The optimiser's step of the attention's table of relative positions: what the kernel leaves in its four results, as functions of
   the gradient, the weight and the two averages, and the claim about the two programs. A grid point holds 32 rows. -/
module

public import proofs.«01_k».proof.Defs
public import proofs.«01_k».proof.Proof.AdamStep
public import proofs.«01_k».proof.Proof.Gen.AdamRelIdeal.Frame
public import proofs.«01_k».proof.Proof.Gen.AdamRelRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamRel

open Cert.AdamRelIdeal Cert.AdamRelIdeal.Gen Idealize.ShloMosaic Idealize.ShloMosaic.TcCoe Idealize.SL.Sem
open Cert.Proof.AdamStep

/-- The gradient, with the weight's leading axis. -/
def G4 (g : Vec Ideal S32x24 .f32) : Vec Ideal S1x32x24 .f32 := fun i => g (ix2 (i 1) (i 2))

/-- The weight's change. -/
def G5 (g : Vec Ideal S32x24 .f32) (w a b : Vec Ideal S1x32x24 .f32) : Vec Ideal S1x32x24 .f32 :=
  fun i => change (g (ix2 (i 1) (i 2))) (w (ix3 0 (i 1) (i 2))) (a (ix3 0 (i 1) (i 2))) (b (ix3 0 (i 1) (i 2)))

/-- The gradients' new average. -/
def G6 (g : Vec Ideal S32x24 .f32) (a : Vec Ideal S1x32x24 .f32) : Vec Ideal S1x32x24 .f32 :=
  fun i => newM (g (ix2 (i 1) (i 2))) (a (ix3 0 (i 1) (i 2)))

/-- The squared gradients' new average. -/
def G7 (g : Vec Ideal S32x24 .f32) (b : Vec Ideal S1x32x24 .f32) : Vec Ideal S1x32x24 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S32x24 .f32) (h : S32x24.ShapeCasts AdamRelRefIdeal.S1x32x24) :
    shapeCast AdamRelRefIdeal.S1x32x24 g h = G4 g := by
  refine funext fun i => ?_
  idx_vars i
  obtain rfl : i0 = 0 := Subsingleton.elim _ _
  pointwise [G4]

/-- The kernel and the reference over the extended reals. -/
theorem algebraic : Cert.algebraic_AdamRelIdeal_AdamRelRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamRelRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamRelIdeal.main_arg0) = g at *
    clear h0 h1 h2 h3 hagree
    exact lead _ _
  · clear r0 r1 r2 r3 rest hr
    beta_reduce
    rw [h0, h1, h2, h3]
    generalize m (c.tc.loc AdamRelIdeal.main_arg0) = g at *
    generalize m (c.tc.loc AdamRelIdeal.main_arg1) = w at *
    generalize m (c.tc.loc AdamRelIdeal.main_arg2) = a at *
    generalize m (c.tc.loc AdamRelIdeal.main_arg3) = b at *
    clear h0 h1 h2 h3 hagree
    generalize hv : shapeCast AdamRelRefIdeal.S1x32x24 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamRelIdeal.main_arg0) = g at *
    generalize m (c.tc.loc AdamRelIdeal.main_arg2) = a at *
    clear h0 h1 h2 h3 hagree
    generalize hv : shapeCast AdamRelRefIdeal.S1x32x24 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamRelIdeal.main_arg0) = g at *
    generalize m (c.tc.loc AdamRelIdeal.main_arg3) = b at *
    clear h0 h1 h2 h3 hagree
    generalize hv : shapeCast AdamRelRefIdeal.S1x32x24 _ _ = v
    obtain rfl : v = G4 g := hv.symm.trans (lead _ _)
    clear hv
    refine funext fun i => ?_
    idx_vars i
    obtain rfl : i0 = 0 := Subsingleton.elim _ _
    pointwise [G4, G7, newV]

end Cert.Proof.AdamRel

end
-- ==== Proof.AdamBias.lean ====
/- The optimiser's step of the modulation's offset: what the kernel leaves in its four results, as functions of
   the gradient, the weight and the two averages, and the claim about the two programs. A grid point holds 2 rows. -/
module

public import proofs.«01_k».proof.Defs
public import proofs.«01_k».proof.Proof.AdamStep
public import proofs.«01_k».proof.Proof.Gen.AdamBiasIdeal.Frame
public import proofs.«01_k».proof.Proof.Gen.AdamBiasRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamBias

open Cert.AdamBiasIdeal Cert.AdamBiasIdeal.Gen Idealize.ShloMosaic Idealize.ShloMosaic.TcCoe Idealize.SL.Sem
open Cert.Proof.AdamStep

/-- The gradient, with the weight's leading axis. -/
def G4 (g : Vec Ideal S2x6144 .f32) : Vec Ideal S1x2x6144 .f32 := fun i => g (ix2 (i 1) (i 2))

/-- The weight's change. -/
def G5 (g : Vec Ideal S2x6144 .f32) (w a b : Vec Ideal S1x2x6144 .f32) : Vec Ideal S1x2x6144 .f32 :=
  fun i => change (g (ix2 (i 1) (i 2))) (w (ix3 0 (i 1) (i 2))) (a (ix3 0 (i 1) (i 2))) (b (ix3 0 (i 1) (i 2)))

/-- The gradients' new average. -/
def G6 (g : Vec Ideal S2x6144 .f32) (a : Vec Ideal S1x2x6144 .f32) : Vec Ideal S1x2x6144 .f32 :=
  fun i => newM (g (ix2 (i 1) (i 2))) (a (ix3 0 (i 1) (i 2)))

/-- The squared gradients' new average. -/
def G7 (g : Vec Ideal S2x6144 .f32) (b : Vec Ideal S1x2x6144 .f32) : Vec Ideal S1x2x6144 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S2x6144 .f32) (h : S2x6144.ShapeCasts AdamBiasRefIdeal.S1x2x6144) :
    shapeCast AdamBiasRefIdeal.S1x2x6144 g h = G4 g := by
  refine funext fun i => ?_
  idx_vars i
  obtain rfl : i0 = 0 := Subsingleton.elim _ _
  pointwise [G4]

/-- The kernel and the reference over the extended reals. -/
theorem algebraic : Cert.algebraic_AdamBiasIdeal_AdamBiasRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamBiasRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamBiasIdeal.main_arg0) = g at *
    clear h0 h1 h2 h3 hagree
    exact lead _ _
  · clear r0 r1 r2 r3 rest hr
    beta_reduce
    rw [h0, h1, h2, h3]
    generalize m (c.tc.loc AdamBiasIdeal.main_arg0) = g at *
    generalize m (c.tc.loc AdamBiasIdeal.main_arg1) = w at *
    generalize m (c.tc.loc AdamBiasIdeal.main_arg2) = a at *
    generalize m (c.tc.loc AdamBiasIdeal.main_arg3) = b at *
    clear h0 h1 h2 h3 hagree
    generalize hv : shapeCast AdamBiasRefIdeal.S1x2x6144 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamBiasIdeal.main_arg0) = g at *
    generalize m (c.tc.loc AdamBiasIdeal.main_arg2) = a at *
    clear h0 h1 h2 h3 hagree
    generalize hv : shapeCast AdamBiasRefIdeal.S1x2x6144 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamBiasIdeal.main_arg0) = g at *
    generalize m (c.tc.loc AdamBiasIdeal.main_arg3) = b at *
    clear h0 h1 h2 h3 hagree
    generalize hv : shapeCast AdamBiasRefIdeal.S1x2x6144 _ _ = v
    obtain rfl : v = G4 g := hv.symm.trans (lead _ _)
    clear hv
    refine funext fun i => ?_
    idx_vars i
    obtain rfl : i0 = 0 := Subsingleton.elim _ _
    pointwise [G4, G7, newV]

end Cert.Proof.AdamBias

end
-- ==== Proof.AdamNorm.lean ====
/- The optimiser's step of a norm's gain, and of the recurrence's lower bounds: what the kernel leaves in its four results, as functions of
   the gradient, the weight and the two averages, and the claim about the two programs. A grid point holds 2 rows. -/
module

public import proofs.«01_k».proof.Defs
public import proofs.«01_k».proof.Proof.AdamStep
public import proofs.«01_k».proof.Proof.Gen.AdamNormIdeal.Frame
public import proofs.«01_k».proof.Proof.Gen.AdamNormRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamNorm

open Cert.AdamNormIdeal Cert.AdamNormIdeal.Gen Idealize.ShloMosaic Idealize.ShloMosaic.TcCoe Idealize.SL.Sem
open Cert.Proof.AdamStep

/-- The gradient, with the weight's leading axis. -/
def G4 (g : Vec Ideal S2x1024 .f32) : Vec Ideal S1x2x1024 .f32 := fun i => g (ix2 (i 1) (i 2))

/-- The weight's change. -/
def G5 (g : Vec Ideal S2x1024 .f32) (w a b : Vec Ideal S1x2x1024 .f32) : Vec Ideal S1x2x1024 .f32 :=
  fun i => change (g (ix2 (i 1) (i 2))) (w (ix3 0 (i 1) (i 2))) (a (ix3 0 (i 1) (i 2))) (b (ix3 0 (i 1) (i 2)))

/-- The gradients' new average. -/
def G6 (g : Vec Ideal S2x1024 .f32) (a : Vec Ideal S1x2x1024 .f32) : Vec Ideal S1x2x1024 .f32 :=
  fun i => newM (g (ix2 (i 1) (i 2))) (a (ix3 0 (i 1) (i 2)))

/-- The squared gradients' new average. -/
def G7 (g : Vec Ideal S2x1024 .f32) (b : Vec Ideal S1x2x1024 .f32) : Vec Ideal S1x2x1024 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S2x1024 .f32) (h : S2x1024.ShapeCasts AdamNormRefIdeal.S1x2x1024) :
    shapeCast AdamNormRefIdeal.S1x2x1024 g h = G4 g := by
  refine funext fun i => ?_
  idx_vars i
  obtain rfl : i0 = 0 := Subsingleton.elim _ _
  pointwise [G4]

/-- The kernel and the reference over the extended reals. -/
theorem algebraic : Cert.algebraic_AdamNormIdeal_AdamNormRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamNormRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamNormIdeal.main_arg0) = g at *
    clear h0 h1 h2 h3 hagree
    exact lead _ _
  · clear r0 r1 r2 r3 rest hr
    beta_reduce
    rw [h0, h1, h2, h3]
    generalize m (c.tc.loc AdamNormIdeal.main_arg0) = g at *
    generalize m (c.tc.loc AdamNormIdeal.main_arg1) = w at *
    generalize m (c.tc.loc AdamNormIdeal.main_arg2) = a at *
    generalize m (c.tc.loc AdamNormIdeal.main_arg3) = b at *
    clear h0 h1 h2 h3 hagree
    generalize hv : shapeCast AdamNormRefIdeal.S1x2x1024 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamNormIdeal.main_arg0) = g at *
    generalize m (c.tc.loc AdamNormIdeal.main_arg2) = a at *
    clear h0 h1 h2 h3 hagree
    generalize hv : shapeCast AdamNormRefIdeal.S1x2x1024 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamNormIdeal.main_arg0) = g at *
    generalize m (c.tc.loc AdamNormIdeal.main_arg3) = b at *
    clear h0 h1 h2 h3 hagree
    generalize hv : shapeCast AdamNormRefIdeal.S1x2x1024 _ _ = v
    obtain rfl : v = G4 g := hv.symm.trans (lead _ _)
    clear hv
    refine funext fun i => ?_
    idx_vars i
    obtain rfl : i0 = 0 := Subsingleton.elim _ _
    pointwise [G4, G7, newV]

end Cert.Proof.AdamNorm

end
-- ==== Proof.AdamGain.lean ====
/- The optimiser's step of the attention's gains: what the kernel leaves in its four results, as functions of
   the gradient, the weight and the two averages, and the claim about the two programs. A grid point holds 3 rows. -/
module

public import proofs.«01_k».proof.Defs
public import proofs.«01_k».proof.Proof.AdamStep
public import proofs.«01_k».proof.Proof.Gen.AdamGainIdeal.Frame
public import proofs.«01_k».proof.Proof.Gen.AdamGainRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamGain

open Cert.AdamGainIdeal Cert.AdamGainIdeal.Gen Idealize.ShloMosaic Idealize.ShloMosaic.TcCoe Idealize.SL.Sem
open Cert.Proof.AdamStep

/-- The gradient, with the weight's leading axis. -/
def G4 (g : Vec Ideal S3x128 .f32) : Vec Ideal S1x3x128 .f32 := fun i => g (ix2 (i 1) (i 2))

/-- The weight's change. -/
def G5 (g : Vec Ideal S3x128 .f32) (w a b : Vec Ideal S1x3x128 .f32) : Vec Ideal S1x3x128 .f32 :=
  fun i => change (g (ix2 (i 1) (i 2))) (w (ix3 0 (i 1) (i 2))) (a (ix3 0 (i 1) (i 2))) (b (ix3 0 (i 1) (i 2)))

/-- The gradients' new average. -/
def G6 (g : Vec Ideal S3x128 .f32) (a : Vec Ideal S1x3x128 .f32) : Vec Ideal S1x3x128 .f32 :=
  fun i => newM (g (ix2 (i 1) (i 2))) (a (ix3 0 (i 1) (i 2)))

/-- The squared gradients' new average. -/
def G7 (g : Vec Ideal S3x128 .f32) (b : Vec Ideal S1x3x128 .f32) : Vec Ideal S1x3x128 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S3x128 .f32) (h : S3x128.ShapeCasts AdamGainRefIdeal.S1x3x128) :
    shapeCast AdamGainRefIdeal.S1x3x128 g h = G4 g := by
  refine funext fun i => ?_
  idx_vars i
  obtain rfl : i0 = 0 := Subsingleton.elim _ _
  pointwise [G4]

/-- The kernel and the reference over the extended reals. -/
theorem algebraic : Cert.algebraic_AdamGainIdeal_AdamGainRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamGainRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamGainIdeal.main_arg0) = g at *
    clear h0 h1 h2 h3 hagree
    exact lead _ _
  · clear r0 r1 r2 r3 rest hr
    beta_reduce
    rw [h0, h1, h2, h3]
    generalize m (c.tc.loc AdamGainIdeal.main_arg0) = g at *
    generalize m (c.tc.loc AdamGainIdeal.main_arg1) = w at *
    generalize m (c.tc.loc AdamGainIdeal.main_arg2) = a at *
    generalize m (c.tc.loc AdamGainIdeal.main_arg3) = b at *
    clear h0 h1 h2 h3 hagree
    generalize hv : shapeCast AdamGainRefIdeal.S1x3x128 _ _ = v
    obtain rfl : v = G4 g := hv.symm.trans (lead _ _)
    clear hv
    refine funext fun i => ?_
    idx_vars i
    obtain rfl : i0 = 0 := Subsingleton.elim _ _
    pointwise [G4, G5, change, newM, newV]
  · clear r0 r1 r2 r3 rest hr
    beta_reduce
    rw [h0, h2]
    generalize m (c.tc.loc AdamGainIdeal.main_arg0) = g at *
    generalize m (c.tc.loc AdamGainIdeal.main_arg2) = a at *
    clear h0 h1 h2 h3 hagree
    generalize hv : shapeCast AdamGainRefIdeal.S1x3x128 _ _ = v
    obtain rfl : v = G4 g := hv.symm.trans (lead _ _)
    clear hv
    refine funext fun i => ?_
    idx_vars i
    obtain rfl : i0 = 0 := Subsingleton.elim _ _
    pointwise [G4, G6, newM]
  · clear r0 r1 r2 r3 rest hr
    beta_reduce
    rw [h0, h3]
    generalize m (c.tc.loc AdamGainIdeal.main_arg0) = g at *
    generalize m (c.tc.loc AdamGainIdeal.main_arg3) = b at *
    clear h0 h1 h2 h3 hagree
    generalize hv : shapeCast AdamGainRefIdeal.S1x3x128 _ _ = v
    obtain rfl : v = G4 g := hv.symm.trans (lead _ _)
    clear hv
    refine funext fun i => ?_
    idx_vars i
    obtain rfl : i0 = 0 := Subsingleton.elim _ _
    pointwise [G4, G7, newV]

end Cert.Proof.AdamGain

end
-- ==== Proof.AdamGnorm.lean ====
/- The optimiser's step of the recurrence's gain: what the kernel leaves in its four results, as functions of
   the gradient, the weight and the two averages, and the claim about the two programs. A grid point holds 1 rows. -/
module

public import proofs.«01_k».proof.Defs
public import proofs.«01_k».proof.Proof.AdamStep
public import proofs.«01_k».proof.Proof.Gen.AdamGnormIdeal.Frame
public import proofs.«01_k».proof.Proof.Gen.AdamGnormRefIdeal.Run
public import Idealize.ShloMosaic.Lib.Claim
public import Idealize.ShloMosaic.Lib.Pipeline.ValueKit
public import Idealize.ShloMosaic.Lib.Pointwise

@[expose] public section

set_option maxRecDepth 16384

noncomputable section

namespace Cert.Proof.AdamGnorm

open Cert.AdamGnormIdeal Cert.AdamGnormIdeal.Gen Idealize.ShloMosaic Idealize.ShloMosaic.TcCoe Idealize.SL.Sem
open Cert.Proof.AdamStep

/-- The gradient, with the weight's leading axis. -/
def G4 (g : Vec Ideal S1x128 .f32) : Vec Ideal S1x1x128 .f32 := fun i => g (ix2 (i 1) (i 2))

/-- The weight's change. -/
def G5 (g : Vec Ideal S1x128 .f32) (w a b : Vec Ideal S1x1x128 .f32) : Vec Ideal S1x1x128 .f32 :=
  fun i => change (g (ix2 (i 1) (i 2))) (w (ix3 0 (i 1) (i 2))) (a (ix3 0 (i 1) (i 2))) (b (ix3 0 (i 1) (i 2)))

/-- The gradients' new average. -/
def G6 (g : Vec Ideal S1x128 .f32) (a : Vec Ideal S1x1x128 .f32) : Vec Ideal S1x1x128 .f32 :=
  fun i => newM (g (ix2 (i 1) (i 2))) (a (ix3 0 (i 1) (i 2)))

/-- The squared gradients' new average. -/
def G7 (g : Vec Ideal S1x128 .f32) (b : Vec Ideal S1x1x128 .f32) : Vec Ideal S1x1x128 .f32 :=
  fun i => newV (g (ix2 (i 1) (i 2))) (b (ix3 0 (i 1) (i 2)))

variable (m : (ℓ : Loc nD τ sig) → Buf (Elt Ideal) ℓ) (ρ : Dev nD → PrngReg)

/-- Where each window's block of grid point `t` lies. -/
theorem index : ∀ t : Fin cfg0.N,
    (win0_0.index t = ![t.val, 0] ∧ win0_1.index t = ![0, t.val, 0])
    ∧ (win0_2.index t = ![0, t.val, 0] ∧ win0_3.index t = ![0, t.val, 0])
    ∧ (win0_4.index t = ![0, t.val, 0] ∧ win0_5.index t = ![0, t.val, 0])
    ∧ win0_6.index t = ![0, t.val, 0] ∧ win0_7.index t = ![0, t.val, 0] :=
  (by decide +kernel : ∀ t : Fin grid0.N, _)

theorem final4 (c : Dev nD) : (dats m 0 c).arrAt 4 cfg0.N = G4 (m ((c : Thread nD τ).loc main_arg0)) := by
  refine (dats m 0 c).arrAt_eq_of_covers 4 _ (by decide +kernel) fun t hf y => ?_
  blk_simp
  rw [after0_4]; frame_out
  pointwise [k0_pay6, G4]
  blk_point [iblk, V, index t]

theorem final5 (c : Dev nD) : (dats m 0 c).arrAt 5 cfg0.N
    = G5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]; frame_out
  pointwise [k0_pay1, k0_pay4, k0_pay5, k0_pay7, G5, change, newM, newV]
  blk_point [iblk, V, index t]

theorem final6 (c : Dev nD) : (dats m 0 c).arrAt 6 cfg0.N
    = G6 (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay2, k0_pay4, G6, newM]
  blk_point [iblk, V, index t]

theorem final7 (c : Dev nD) : (dats m 0 c).arrAt 7 cfg0.N
    = G7 (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay3, k0_pay5, G7, newV]
  blk_point [iblk, V, index t]

/-- The reference's reshape of the gradient only gives it a leading axis. -/
theorem lead (g : Vec Ideal S1x128 .f32) (h : S1x128.ShapeCasts AdamGnormRefIdeal.S1x1x128) :
    shapeCast AdamGnormRefIdeal.S1x1x128 g h = G4 g := by
  refine funext fun i => ?_
  idx_vars i
  obtain rfl : i0 = 0 := Subsingleton.elim _ _
  obtain rfl : i1 = 0 := Subsingleton.elim _ _
  pointwise [G4]

/-- The kernel and the reference over the extended reals. -/
theorem algebraic : Cert.algebraic_AdamGnormIdeal_AdamGnormRefIdeal := by
  intro m g m' g' _ hagree
  refine ⟨fun c => G4 (m ((c : Thread nD τ).loc main_arg0)),
    fun c => G5 (m ((c : Thread nD τ).loc main_arg0)) (m ((c : Thread nD τ).loc main_arg1)) (m ((c : Thread nD τ).loc main_arg2))
      (m ((c : Thread nD τ).loc main_arg3)),
    fun c => G6 (m ((c : Thread nD τ).loc main_arg0)) (m ((c : Thread nD τ).loc main_arg2)),
    fun c => G7 (m ((c : Thread nD τ).loc main_arg0)) (m ((c : Thread nD τ).loc main_arg3)), ?_, ?_⟩
  · exact θ_run_mono (θ_run_and (run_main m g) (unchanged m g)) fun r hr c =>
      ⟨((hr.1 c).1 4).trans (final4 m c), ((hr.1 c).1 5).trans (final5 m c), ((hr.1 c).1 6).trans (final6 m c),
        ((hr.1 c).1 7).trans (final7 m c), hr.2 c⟩
  refine θ_run_mono (Cert.AdamGnormRefIdeal.Value.run m' g') fun r hr c => ?_
  obtain ⟨r0, r1, r2, r3, rest⟩ := hr c
  obtain ⟨h0, h1, h2, h3⟩ := hagree c
  refine ⟨r0.trans ?_, r1.trans ?_, r2.trans ?_, r3.trans ?_, rest⟩
  · clear r0 r1 r2 r3 rest hr
    beta_reduce
    rw [h0]
    generalize m (c.tc.loc AdamGnormIdeal.main_arg0) = g at *
    clear h0 h1 h2 h3 hagree
    exact lead _ _
  · clear r0 r1 r2 r3 rest hr
    beta_reduce
    rw [h0, h1, h2, h3]
    generalize m (c.tc.loc AdamGnormIdeal.main_arg0) = g at *
    generalize m (c.tc.loc AdamGnormIdeal.main_arg1) = w at *
    generalize m (c.tc.loc AdamGnormIdeal.main_arg2) = a at *
    generalize m (c.tc.loc AdamGnormIdeal.main_arg3) = b at *
    clear h0 h1 h2 h3 hagree
    generalize hv : shapeCast AdamGnormRefIdeal.S1x1x128 _ _ = v
    obtain rfl : v = G4 g := hv.symm.trans (lead _ _)
    clear hv
    refine funext fun i => ?_
    idx_vars i
    obtain rfl : i0 = 0 := Subsingleton.elim _ _
    obtain rfl : i1 = 0 := Subsingleton.elim _ _
    pointwise [G4, G5, change, newM, newV]
  · clear r0 r1 r2 r3 rest hr
    beta_reduce
    rw [h0, h2]
    generalize m (c.tc.loc AdamGnormIdeal.main_arg0) = g at *
    generalize m (c.tc.loc AdamGnormIdeal.main_arg2) = a at *
    clear h0 h1 h2 h3 hagree
    generalize hv : shapeCast AdamGnormRefIdeal.S1x1x128 _ _ = v
    obtain rfl : v = G4 g := hv.symm.trans (lead _ _)
    clear hv
    refine funext fun i => ?_
    idx_vars i
    obtain rfl : i0 = 0 := Subsingleton.elim _ _
    obtain rfl : i1 = 0 := Subsingleton.elim _ _
    pointwise [G4, G6, newM]
  · clear r0 r1 r2 r3 rest hr
    beta_reduce
    rw [h0, h3]
    generalize m (c.tc.loc AdamGnormIdeal.main_arg0) = g at *
    generalize m (c.tc.loc AdamGnormIdeal.main_arg3) = b at *
    clear h0 h1 h2 h3 hagree
    generalize hv : shapeCast AdamGnormRefIdeal.S1x1x128 _ _ = v
    obtain rfl : v = G4 g := hv.symm.trans (lead _ _)
    clear hv
    refine funext fun i => ?_
    idx_vars i
    obtain rfl : i0 = 0 := Subsingleton.elim _ _
    obtain rfl : i1 = 0 := Subsingleton.elim _ _
    pointwise [G4, G7, newV]

end Cert.Proof.AdamGnorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdRefIdeal
public import proofs.«01_k».proof.Proof.Gen.UpBwdRefIdeal.Run
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwUpRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownRefIdeal
public import proofs.«01_k».proof.Proof.Gen.DwDownRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Run
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.OutBwdRefIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.InBwdRefIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvRefIdeal
public import proofs.«01_k».proof.Proof.Gen.DwQkvRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.Up
public import proofs.«01_k».proof.Proof.Gen.UpIdeal
public import proofs.«01_k».proof.Proof.Gen.UpRefIdeal
public import proofs.«01_k».proof.Proof.Gen.UpRefIdeal.Run
public import proofs.«01_k».proof.Proof.Gen.Qkv
public import proofs.«01_k».proof.Proof.Gen.QkvIdeal
public import proofs.«01_k».proof.Proof.Gen.QkvRefIdeal
public import proofs.«01_k».proof.Proof.Gen.QkvRefIdeal.Run
public import proofs.«01_k».proof.Proof.Gen.In
public import proofs.«01_k».proof.Proof.Gen.InIdeal
public import proofs.«01_k».proof.Proof.Gen.InRefIdeal
public import proofs.«01_k».proof.Proof.Gen.InRefIdeal.Run
public import proofs.«01_k».proof.Proof.Gen.UpBwd0
public import proofs.«01_k».proof.Proof.Gen.UpBwd0.Skeleton
public import proofs.«01_k».proof.Proof.Gen.UpBwd0.Launch
public import proofs.«01_k».proof.Proof.Gen.UpBwd0.Points
public import proofs.«01_k».proof.Proof.Gen.UpBwd0.Frame
public import proofs.«01_k».proof.Proof.Gen.UpBwd0Ideal
public import proofs.«01_k».proof.Proof.Gen.UpBwd0Ideal.Skeleton
public import proofs.«01_k».proof.Proof.Gen.UpBwd0Ideal.Launch
public import proofs.«01_k».proof.Proof.Gen.UpBwd0Ideal.Points
public import proofs.«01_k».proof.Proof.Gen.UpBwd0Ideal.Frame
public import proofs.«01_k».proof.Proof.Gen.UpBwd0RefIdeal
public import proofs.«01_k».proof.Proof.Gen.UpBwd0RefIdeal.Run
public import proofs.«01_k».proof.Proof.Gen.Down0
public import proofs.«01_k».proof.Proof.Gen.Down0.Skeleton
public import proofs.«01_k».proof.Proof.Gen.Down0.Launch
public import proofs.«01_k».proof.Proof.Gen.Down0.Points
public import proofs.«01_k».proof.Proof.Gen.Down0.Frame
public import proofs.«01_k».proof.Proof.Gen.Down0Ideal
public import proofs.«01_k».proof.Proof.Gen.Down0Ideal.Skeleton
public import proofs.«01_k».proof.Proof.Gen.Down0Ideal.Launch
public import proofs.«01_k».proof.Proof.Gen.Down0Ideal.Points
public import proofs.«01_k».proof.Proof.Gen.Down0Ideal.Frame
public import proofs.«01_k».proof.Proof.Gen.Down0RefIdeal
public import proofs.«01_k».proof.Proof.Gen.Down0RefIdeal.Run
public import proofs.«01_k».proof.Proof.Gen.Up0
public import proofs.«01_k».proof.Proof.Gen.Up0Ideal
public import proofs.«01_k».proof.Proof.Gen.Up0RefIdeal
public import proofs.«01_k».proof.Proof.Gen.Up0RefIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.NormBwdRefIdeal.Run
public import proofs.«01_k».proof.Proof.Gen.NormBwd0
public import proofs.«01_k».proof.Proof.Gen.NormBwd0.Skeleton
public import proofs.«01_k».proof.Proof.Gen.NormBwd0.Launch
public import proofs.«01_k».proof.Proof.Gen.NormBwd0.Points
public import proofs.«01_k».proof.Proof.Gen.NormBwd0.Frame
public import proofs.«01_k».proof.Proof.Gen.NormBwd0Ideal
public import proofs.«01_k».proof.Proof.Gen.NormBwd0Ideal.Skeleton
public import proofs.«01_k».proof.Proof.Gen.NormBwd0Ideal.Launch
public import proofs.«01_k».proof.Proof.Gen.NormBwd0Ideal.Points
public import proofs.«01_k».proof.Proof.Gen.NormBwd0Ideal.Frame
public import proofs.«01_k».proof.Proof.Gen.NormBwd0RefIdeal
public import proofs.«01_k».proof.Proof.Gen.NormBwd0RefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdRefIdeal
public import proofs.«01_k».proof.Proof.Gen.AdaBwdRefIdeal.Run
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdRefIdeal
public import proofs.«01_k».proof.Proof.Gen.AdaFwdRefIdeal.Run
public import proofs.«01_k».proof.Proof.Gen.AdamQkv
public import proofs.«01_k».proof.Proof.Gen.AdamQkv.Skeleton
public import proofs.«01_k».proof.Proof.Gen.AdamQkv.Launch
public import proofs.«01_k».proof.Proof.Gen.AdamQkv.Points
public import proofs.«01_k».proof.Proof.Gen.AdamQkv.Frame
public import proofs.«01_k».proof.Proof.Gen.AdamQkvIdeal
public import proofs.«01_k».proof.Proof.Gen.AdamQkvIdeal.Skeleton
public import proofs.«01_k».proof.Proof.Gen.AdamQkvIdeal.Launch
public import proofs.«01_k».proof.Proof.Gen.AdamQkvIdeal.Points
public import proofs.«01_k».proof.Proof.Gen.AdamQkvIdeal.Frame
public import proofs.«01_k».proof.Proof.Gen.AdamQkvRefIdeal
public import proofs.«01_k».proof.Proof.Gen.AdamQkvRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaRefIdeal
public import proofs.«01_k».proof.Proof.Gen.AdamAdaRefIdeal.Run
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnRefIdeal
public import proofs.«01_k».proof.Proof.Gen.AdamFfnRefIdeal.Run
public import proofs.«01_k».proof.Proof.Gen.AdamRel
public import proofs.«01_k».proof.Proof.Gen.AdamRel.Skeleton
public import proofs.«01_k».proof.Proof.Gen.AdamRel.Launch
public import proofs.«01_k».proof.Proof.Gen.AdamRel.Points
public import proofs.«01_k».proof.Proof.Gen.AdamRel.Frame
public import proofs.«01_k».proof.Proof.Gen.AdamRelIdeal
public import proofs.«01_k».proof.Proof.Gen.AdamRelIdeal.Skeleton
public import proofs.«01_k».proof.Proof.Gen.AdamRelIdeal.Launch
public import proofs.«01_k».proof.Proof.Gen.AdamRelIdeal.Points
public import proofs.«01_k».proof.Proof.Gen.AdamRelIdeal.Frame
public import proofs.«01_k».proof.Proof.Gen.AdamRelRefIdeal
public import proofs.«01_k».proof.Proof.Gen.AdamRelRefIdeal.Run
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasRefIdeal
public import proofs.«01_k».proof.Proof.Gen.AdamBiasRefIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormRefIdeal
public import proofs.«01_k».proof.Proof.Gen.AdamNormRefIdeal.Run
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainRefIdeal
public import proofs.«01_k».proof.Proof.Gen.AdamGainRefIdeal.Run
public import proofs.«01_k».proof.Proof.Gen.AdamGnorm
public import proofs.«01_k».proof.Proof.Gen.AdamGnorm.Skeleton
public import proofs.«01_k».proof.Proof.Gen.AdamGnorm.Launch
public import proofs.«01_k».proof.Proof.Gen.AdamGnorm.Points
public import proofs.«01_k».proof.Proof.Gen.AdamGnorm.Frame
public import proofs.«01_k».proof.Proof.Gen.AdamGnormIdeal
public import proofs.«01_k».proof.Proof.Gen.AdamGnormIdeal.Skeleton
public import proofs.«01_k».proof.Proof.Gen.AdamGnormIdeal.Launch
public import proofs.«01_k».proof.Proof.Gen.AdamGnormIdeal.Points
public import proofs.«01_k».proof.Proof.Gen.AdamGnormIdeal.Frame
public import proofs.«01_k».proof.Proof.Gen.AdamGnormRefIdeal
public import proofs.«01_k».proof.Proof.Gen.AdamGnormRefIdeal.Run
public import proofs.«01_k».proof.Proof.Gen.Pre_finite
public import proofs.«01_k».proof.Proof.Gen.Pre_finite_norm
public import proofs.«01_k».proof.Proof.Gen.Pre_finite_first
public import proofs.«01_k».proof.Proof.Gate
public import proofs.«01_k».proof.Proof.UpBwd
public import proofs.«01_k».proof.Proof.DwUp
public import proofs.«01_k».proof.Proof.DwDown
public import proofs.«01_k».proof.Proof.DwOut
public import proofs.«01_k».proof.Proof.OutBwd
public import proofs.«01_k».proof.Proof.InBwd
public import proofs.«01_k».proof.Proof.DwIn
public import proofs.«01_k».proof.Proof.DwQkv
public import proofs.«01_k».proof.Proof.Down
public import proofs.«01_k».proof.Proof.Out
public import proofs.«01_k».proof.Proof.Up
public import proofs.«01_k».proof.Proof.Qkv
public import proofs.«01_k».proof.Proof.In
public import proofs.«01_k».proof.Proof.UpBwd0
public import proofs.«01_k».proof.Proof.Down0
public import proofs.«01_k».proof.Proof.Up0
public import proofs.«01_k».proof.Proof.NormBwdClaim
public import proofs.«01_k».proof.Proof.NormBwd0Claim
public import proofs.«01_k».proof.Proof.LossClaim
public import proofs.«01_k».proof.Proof.AdaBwd
public import proofs.«01_k».proof.Proof.AdaFwd
public import proofs.«01_k».proof.Proof.AdamQkv
public import proofs.«01_k».proof.Proof.AdamIn
public import proofs.«01_k».proof.Proof.AdamOut
public import proofs.«01_k».proof.Proof.AdamAda
public import proofs.«01_k».proof.Proof.AdamFfn
public import proofs.«01_k».proof.Proof.AdamRel
public import proofs.«01_k».proof.Proof.AdamBias
public import proofs.«01_k».proof.Proof.AdamNorm
public import proofs.«01_k».proof.Proof.AdamGain
public import proofs.«01_k».proof.Proof.AdamGnorm
public import Idealize.ShloMosaic.Adequacy
public import Idealize.ShloMosaic.Init

@[expose] public section

noncomputable section

namespace Cert.Proof

open Idealize.ShloMosaic Idealize.SL.Sem Cert.Kernel

/-! The references run and leave their arguments as they were; they declare no semaphore. -/

theorem frame_ReferenceIdeal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

theorem frame_UpBwdRefIdeal : Cert.quiescent_UpBwdRefIdeal := fun m g _ =>
  (θ_run Cert.UpBwdRefIdeal.defs _ _).mono (fun r h => ⟨fun c => (h c).2, sem_eq_zero_of_no_sems (by decide) r.2⟩)
    (Cert.UpBwdRefIdeal.Value.run m g)

theorem frame_DwUpRefIdeal : Cert.quiescent_DwUpRefIdeal := fun m g _ =>
  (θ_run Cert.DwUpRefIdeal.defs _ _).mono (fun r h => ⟨fun c => (h c).2.2, sem_eq_zero_of_no_sems (by decide) r.2⟩)
    (Cert.DwUpRefIdeal.Value.run m g)

theorem frame_DwDownRefIdeal : Cert.quiescent_DwDownRefIdeal := fun m g _ =>
  (θ_run Cert.DwDownRefIdeal.defs _ _).mono (fun r h => ⟨fun c => (h c).2, sem_eq_zero_of_no_sems (by decide) r.2⟩)
    (Cert.DwDownRefIdeal.Value.run m g)

theorem frame_DwOutRefIdeal : Cert.quiescent_DwOutRefIdeal := fun m g _ =>
  (θ_run Cert.DwOutRefIdeal.defs _ _).mono (fun r h => ⟨fun c => (h c).2, sem_eq_zero_of_no_sems (by decide) r.2⟩)
    (Cert.DwOutRefIdeal.Value.run m g)

theorem frame_OutBwdRefIdeal : Cert.quiescent_OutBwdRefIdeal := fun m g _ =>
  (θ_run Cert.OutBwdRefIdeal.defs _ _).mono (fun r h => ⟨fun c => (h c).2, sem_eq_zero_of_no_sems (by decide) r.2⟩)
    (Cert.OutBwdRefIdeal.Value.run m g)

theorem frame_InBwdRefIdeal : Cert.quiescent_InBwdRefIdeal := fun m g _ =>
  (θ_run Cert.InBwdRefIdeal.defs _ _).mono (fun r h => ⟨fun c => (h c).2, sem_eq_zero_of_no_sems (by decide) r.2⟩)
    (Cert.InBwdRefIdeal.Value.run m g)

theorem frame_DwInRefIdeal : Cert.quiescent_DwInRefIdeal := fun m g _ =>
  (θ_run Cert.DwInRefIdeal.defs _ _).mono (fun r h => ⟨fun c => (h c).2, sem_eq_zero_of_no_sems (by decide) r.2⟩)
    (Cert.DwInRefIdeal.Value.run m g)

theorem frame_DwQkvRefIdeal : Cert.quiescent_DwQkvRefIdeal := fun m g _ =>
  (θ_run Cert.DwQkvRefIdeal.defs _ _).mono (fun r h => ⟨fun c => (h c).2, sem_eq_zero_of_no_sems (by decide) r.2⟩)
    (Cert.DwQkvRefIdeal.Value.run m g)

theorem frame_DownRefIdeal : Cert.quiescent_DownRefIdeal := fun m g _ =>
  (θ_run Cert.DownRefIdeal.defs _ _).mono (fun r h => ⟨fun c => (h c).2.2, sem_eq_zero_of_no_sems (by decide) r.2⟩)
    (Cert.DownRefIdeal.Value.run m g)

theorem frame_OutRefIdeal : Cert.quiescent_OutRefIdeal := fun m g _ =>
  (θ_run Cert.OutRefIdeal.defs _ _).mono (fun r h => ⟨fun c => (h c).2.2, sem_eq_zero_of_no_sems (by decide) r.2⟩)
    (Cert.OutRefIdeal.Value.run m g)

theorem frame_UpRefIdeal : Cert.quiescent_UpRefIdeal := fun m g _ =>
  (θ_run Cert.UpRefIdeal.defs _ _).mono (fun r h => ⟨fun c => (h c).2.2.2.2, sem_eq_zero_of_no_sems (by decide) r.2⟩)
    (Cert.UpRefIdeal.Value.run m g)

theorem frame_QkvRefIdeal : Cert.quiescent_QkvRefIdeal := fun m g _ =>
  (θ_run Cert.QkvRefIdeal.defs _ _).mono (fun r h => ⟨fun c => (h c).2.2, sem_eq_zero_of_no_sems (by decide) r.2⟩)
    (Cert.QkvRefIdeal.Value.run m g)

theorem frame_InRefIdeal : Cert.quiescent_InRefIdeal := fun m g _ =>
  (θ_run Cert.InRefIdeal.defs _ _).mono (fun r h => ⟨fun c => (h c).2.2, sem_eq_zero_of_no_sems (by decide) r.2⟩)
    (Cert.InRefIdeal.Value.run m g)

theorem frame_UpBwd0RefIdeal : Cert.quiescent_UpBwd0RefIdeal := fun m g _ =>
  (θ_run Cert.UpBwd0RefIdeal.defs _ _).mono (fun r h => ⟨fun c => (h c).2, sem_eq_zero_of_no_sems (by decide) r.2⟩)
    (Cert.UpBwd0RefIdeal.Value.run m g)

theorem frame_Down0RefIdeal : Cert.quiescent_Down0RefIdeal := fun m g _ =>
  (θ_run Cert.Down0RefIdeal.defs _ _).mono (fun r h => ⟨fun c => (h c).2.2, sem_eq_zero_of_no_sems (by decide) r.2⟩)
    (Cert.Down0RefIdeal.Value.run m g)

theorem frame_Up0RefIdeal : Cert.quiescent_Up0RefIdeal := fun m g _ =>
  (θ_run Cert.Up0RefIdeal.defs _ _).mono (fun r h => ⟨fun c => (h c).2.2.2.2, sem_eq_zero_of_no_sems (by decide) r.2⟩)
    (Cert.Up0RefIdeal.Value.run m g)

theorem frame_NormBwdRefIdeal : Cert.quiescent_NormBwdRefIdeal := fun m g _ =>
  (θ_run Cert.NormBwdRefIdeal.defs _ _).mono (fun r h => ⟨fun c => (h c).2.2.2.2.2.2, sem_eq_zero_of_no_sems (by decide) r.2⟩)
    (Cert.NormBwdRefIdeal.Value.run m g)

theorem frame_NormBwd0RefIdeal : Cert.quiescent_NormBwd0RefIdeal := fun m g _ =>
  (θ_run Cert.NormBwd0RefIdeal.defs _ _).mono (fun r h => ⟨fun c => (h c).2.2.2.2, sem_eq_zero_of_no_sems (by decide) r.2⟩)
    (Cert.NormBwd0RefIdeal.Value.run m g)

theorem frame_LossRefIdeal : Cert.quiescent_LossRefIdeal := fun m g _ =>
  (θ_run Cert.LossRefIdeal.defs _ _).mono (fun r h => ⟨fun c => (h c).2.2.2.2, sem_eq_zero_of_no_sems (by decide) r.2⟩)
    (Cert.LossRefIdeal.Value.run m g)

theorem frame_AdaBwdRefIdeal : Cert.quiescent_AdaBwdRefIdeal := fun m g _ =>
  (θ_run Cert.AdaBwdRefIdeal.defs _ _).mono (fun r h => ⟨fun c => (h c).2, sem_eq_zero_of_no_sems (by decide) r.2⟩)
    (Cert.AdaBwdRefIdeal.Value.run m g)

theorem frame_AdaFwdRefIdeal : Cert.quiescent_AdaFwdRefIdeal := fun m g _ =>
  (θ_run Cert.AdaFwdRefIdeal.defs _ _).mono (fun r h => ⟨fun c => (h c).2, sem_eq_zero_of_no_sems (by decide) r.2⟩)
    (Cert.AdaFwdRefIdeal.Value.run m g)

theorem frame_AdamQkvRefIdeal : Cert.quiescent_AdamQkvRefIdeal := fun m g _ =>
  (θ_run Cert.AdamQkvRefIdeal.defs _ _).mono (fun r h => ⟨fun c => (h c).2.2.2.2, sem_eq_zero_of_no_sems (by decide) r.2⟩)
    (Cert.AdamQkvRefIdeal.Value.run m g)

theorem frame_AdamInRefIdeal : Cert.quiescent_AdamInRefIdeal := fun m g _ =>
  (θ_run Cert.AdamInRefIdeal.defs _ _).mono (fun r h => ⟨fun c => (h c).2.2.2.2, sem_eq_zero_of_no_sems (by decide) r.2⟩)
    (Cert.AdamInRefIdeal.Value.run m g)

theorem frame_AdamOutRefIdeal : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run m g)

theorem frame_AdamAdaRefIdeal : Cert.quiescent_AdamAdaRefIdeal := fun m g _ =>
  (θ_run Cert.AdamAdaRefIdeal.defs _ _).mono (fun r h => ⟨fun c => (h c).2.2.2.2, sem_eq_zero_of_no_sems (by decide) r.2⟩)
    (Cert.AdamAdaRefIdeal.Value.run m g)

theorem frame_AdamFfnRefIdeal : Cert.quiescent_AdamFfnRefIdeal := fun m g _ =>
  (θ_run Cert.AdamFfnRefIdeal.defs _ _).mono (fun r h => ⟨fun c => (h c).2.2.2.2, sem_eq_zero_of_no_sems (by decide) r.2⟩)
    (Cert.AdamFfnRefIdeal.Value.run m g)

theorem frame_AdamRelRefIdeal : Cert.quiescent_AdamRelRefIdeal := fun m g _ =>
  (θ_run Cert.AdamRelRefIdeal.defs _ _).mono (fun r h => ⟨fun c => (h c).2.2.2.2, sem_eq_zero_of_no_sems (by decide) r.2⟩)
    (Cert.AdamRelRefIdeal.Value.run m g)

theorem frame_AdamBiasRefIdeal : Cert.quiescent_AdamBiasRefIdeal := fun m g _ =>
  (θ_run Cert.AdamBiasRefIdeal.defs _ _).mono (fun r h => ⟨fun c => (h c).2.2.2.2, sem_eq_zero_of_no_sems (by decide) r.2⟩)
    (Cert.AdamBiasRefIdeal.Value.run m g)

theorem frame_AdamNormRefIdeal : Cert.quiescent_AdamNormRefIdeal := fun m g _ =>
  (θ_run Cert.AdamNormRefIdeal.defs _ _).mono (fun r h => ⟨fun c => (h c).2.2.2.2, sem_eq_zero_of_no_sems (by decide) r.2⟩)
    (Cert.AdamNormRefIdeal.Value.run m g)

theorem frame_AdamGainRefIdeal : Cert.quiescent_AdamGainRefIdeal := fun m g _ =>
  (θ_run Cert.AdamGainRefIdeal.defs _ _).mono (fun r h => ⟨fun c => (h c).2.2.2.2, sem_eq_zero_of_no_sems (by decide) r.2⟩)
    (Cert.AdamGainRefIdeal.Value.run m g)

theorem frame_AdamGnormRefIdeal : Cert.quiescent_AdamGnormRefIdeal := fun m g _ =>
  (θ_run Cert.AdamGnormRefIdeal.defs _ _).mono (fun r h => ⟨fun c => (h c).2.2.2.2, sem_eq_zero_of_no_sems (by decide) r.2⟩)
    (Cert.AdamGnormRefIdeal.Value.run m g)

set_option maxHeartbeats 1000000 in
theorem claim : Cert.Claim := ⟨Cert.Kernel.Gen.facts, Cert.KernelIdeal.Gen.facts, Cert.ReferenceIdeal.Gen.facts, Cert.UpBwd.Gen.facts, Cert.UpBwdIdeal.Gen.facts, Cert.UpBwdRefIdeal.Gen.facts, Cert.DwUp.Gen.facts, Cert.DwUpIdeal.Gen.facts, Cert.DwUpRefIdeal.Gen.facts, Cert.DwDown.Gen.facts, Cert.DwDownIdeal.Gen.facts, Cert.DwDownRefIdeal.Gen.facts, Cert.DwOut.Gen.facts, Cert.DwOutIdeal.Gen.facts, Cert.DwOutRefIdeal.Gen.facts, Cert.OutBwd.Gen.facts, Cert.OutBwdIdeal.Gen.facts, Cert.OutBwdRefIdeal.Gen.facts, Cert.InBwd.Gen.facts, Cert.InBwdIdeal.Gen.facts, Cert.InBwdRefIdeal.Gen.facts, Cert.DwIn.Gen.facts, Cert.DwInIdeal.Gen.facts, Cert.DwInRefIdeal.Gen.facts, Cert.DwQkv.Gen.facts, Cert.DwQkvIdeal.Gen.facts, Cert.DwQkvRefIdeal.Gen.facts, Cert.Down.Gen.facts, Cert.DownIdeal.Gen.facts, Cert.DownRefIdeal.Gen.facts, Cert.Out.Gen.facts, Cert.OutIdeal.Gen.facts, Cert.OutRefIdeal.Gen.facts, Cert.Up.Gen.facts, Cert.UpIdeal.Gen.facts, Cert.UpRefIdeal.Gen.facts, Cert.Qkv.Gen.facts, Cert.QkvIdeal.Gen.facts, Cert.QkvRefIdeal.Gen.facts, Cert.In.Gen.facts, Cert.InIdeal.Gen.facts, Cert.InRefIdeal.Gen.facts, Cert.UpBwd0.Gen.facts, Cert.UpBwd0Ideal.Gen.facts, Cert.UpBwd0RefIdeal.Gen.facts, Cert.Down0.Gen.facts, Cert.Down0Ideal.Gen.facts, Cert.Down0RefIdeal.Gen.facts, Cert.Up0.Gen.facts, Cert.Up0Ideal.Gen.facts, Cert.Up0RefIdeal.Gen.facts, Cert.NormBwd.Gen.facts, Cert.NormBwdIdeal.Gen.facts, Cert.NormBwdRefIdeal.Gen.facts, Cert.NormBwd0.Gen.facts, Cert.NormBwd0Ideal.Gen.facts, Cert.NormBwd0RefIdeal.Gen.facts, Cert.Loss.Gen.facts, Cert.LossIdeal.Gen.facts, Cert.LossRefIdeal.Gen.facts, Cert.AdaBwd.Gen.facts, Cert.AdaBwdIdeal.Gen.facts, Cert.AdaBwdRefIdeal.Gen.facts, Cert.AdaFwd.Gen.facts, Cert.AdaFwdIdeal.Gen.facts, Cert.AdaFwdRefIdeal.Gen.facts, Cert.AdamQkv.Gen.facts, Cert.AdamQkvIdeal.Gen.facts, Cert.AdamQkvRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamAda.Gen.facts, Cert.AdamAdaIdeal.Gen.facts, Cert.AdamAdaRefIdeal.Gen.facts, Cert.AdamFfn.Gen.facts, Cert.AdamFfnIdeal.Gen.facts, Cert.AdamFfnRefIdeal.Gen.facts, Cert.AdamRel.Gen.facts, Cert.AdamRelIdeal.Gen.facts, Cert.AdamRelRefIdeal.Gen.facts, Cert.AdamBias.Gen.facts, Cert.AdamBiasIdeal.Gen.facts, Cert.AdamBiasRefIdeal.Gen.facts, Cert.AdamNorm.Gen.facts, Cert.AdamNormIdeal.Gen.facts, Cert.AdamNormRefIdeal.Gen.facts, Cert.AdamGain.Gen.facts, Cert.AdamGainIdeal.Gen.facts, Cert.AdamGainRefIdeal.Gen.facts, Cert.AdamGnorm.Gen.facts, Cert.AdamGnormIdeal.Gen.facts, Cert.AdamGnormRefIdeal.Gen.facts, Cert.Pre_finite.Gen.facts, Cert.Pre_finite_norm.Gen.facts, Cert.Pre_finite_first.Gen.facts,
  fun m ρ _ => Cert.Kernel.Gen.frame m ρ, fun m ρ _ => Cert.KernelIdeal.Gen.frame m ρ, fun m ρ _ => Cert.KernelIdeal.Gen.frame m ρ,
  frame_ReferenceIdeal, fun m g _ => frame_ReferenceIdeal m g trivial,
  fun m ρ _ => Cert.UpBwd.Gen.frame m ρ, fun m ρ _ => Cert.UpBwdIdeal.Gen.frame m ρ, frame_UpBwdRefIdeal,
  fun m ρ _ => Cert.DwUp.Gen.frame m ρ, fun m ρ _ => Cert.DwUpIdeal.Gen.frame m ρ, frame_DwUpRefIdeal,
  fun m ρ _ => Cert.DwDown.Gen.frame m ρ, fun m ρ _ => Cert.DwDownIdeal.Gen.frame m ρ, frame_DwDownRefIdeal,
  fun m ρ _ => Cert.DwOut.Gen.frame m ρ, fun m ρ _ => Cert.DwOutIdeal.Gen.frame m ρ, frame_DwOutRefIdeal,
  fun m ρ _ => Cert.OutBwd.Gen.frame m ρ, fun m ρ _ => Cert.OutBwdIdeal.Gen.frame m ρ, frame_OutBwdRefIdeal,
  fun m ρ _ => Cert.InBwd.Gen.frame m ρ, fun m ρ _ => Cert.InBwdIdeal.Gen.frame m ρ, frame_InBwdRefIdeal,
  fun m ρ _ => Cert.DwIn.Gen.frame m ρ, fun m ρ _ => Cert.DwInIdeal.Gen.frame m ρ, frame_DwInRefIdeal,
  fun m ρ _ => Cert.DwQkv.Gen.frame m ρ, fun m ρ _ => Cert.DwQkvIdeal.Gen.frame m ρ, frame_DwQkvRefIdeal,
  fun m ρ _ => Cert.Down.Gen.frame m ρ, fun m ρ _ => Cert.DownIdeal.Gen.frame m ρ, frame_DownRefIdeal,
  fun m ρ _ => Cert.Out.Gen.frame m ρ, fun m ρ _ => Cert.OutIdeal.Gen.frame m ρ, frame_OutRefIdeal,
  Up.frame_kernel, fun m ρ _ => Up.frame m ρ, frame_UpRefIdeal,
  Qkv.frame_kernel, fun m ρ _ => Qkv.frame m ρ, frame_QkvRefIdeal,
  In.frame_kernel, fun m ρ _ => In.frame m ρ, frame_InRefIdeal,
  fun m ρ _ => Cert.UpBwd0.Gen.frame m ρ, fun m ρ _ => Cert.UpBwd0Ideal.Gen.frame m ρ, frame_UpBwd0RefIdeal,
  fun m ρ _ => Cert.Down0.Gen.frame m ρ, fun m ρ _ => Cert.Down0Ideal.Gen.frame m ρ, frame_Down0RefIdeal,
  Up0.frame_kernel, fun m ρ _ => Up0.frame m ρ, frame_Up0RefIdeal,
  fun m ρ _ => Cert.NormBwd.Gen.frame m ρ, fun m ρ _ => Cert.NormBwdIdeal.Gen.frame m ρ, fun m ρ _ => Cert.NormBwdIdeal.Gen.frame m ρ,
  frame_NormBwdRefIdeal, fun m g _ => frame_NormBwdRefIdeal m g trivial,
  fun m ρ _ => Cert.NormBwd0.Gen.frame m ρ, fun m ρ _ => Cert.NormBwd0Ideal.Gen.frame m ρ, fun m ρ _ => Cert.NormBwd0Ideal.Gen.frame m ρ,
  frame_NormBwd0RefIdeal, fun m g _ => frame_NormBwd0RefIdeal m g trivial,
  fun m ρ _ => Cert.Loss.Gen.frame m ρ, fun m ρ _ => Cert.LossIdeal.Gen.frame m ρ, frame_LossRefIdeal,
  fun m ρ _ => Cert.AdaBwd.Gen.frame m ρ, fun m ρ _ => Cert.AdaBwdIdeal.Gen.frame m ρ, frame_AdaBwdRefIdeal,
  fun m ρ _ => Cert.AdaFwd.Gen.frame m ρ, fun m ρ _ => Cert.AdaFwdIdeal.Gen.frame m ρ, frame_AdaFwdRefIdeal,
  fun m ρ _ => Cert.AdamQkv.Gen.frame m ρ, fun m ρ _ => Cert.AdamQkvIdeal.Gen.frame m ρ, frame_AdamQkvRefIdeal,
  fun m ρ _ => Cert.AdamIn.Gen.frame m ρ, fun m ρ _ => Cert.AdamInIdeal.Gen.frame m ρ, frame_AdamInRefIdeal,
  fun m ρ _ => Cert.AdamOut.Gen.frame m ρ, fun m ρ _ => Cert.AdamOutIdeal.Gen.frame m ρ, frame_AdamOutRefIdeal,
  fun m ρ _ => Cert.AdamAda.Gen.frame m ρ, fun m ρ _ => Cert.AdamAdaIdeal.Gen.frame m ρ, frame_AdamAdaRefIdeal,
  fun m ρ _ => Cert.AdamFfn.Gen.frame m ρ, fun m ρ _ => Cert.AdamFfnIdeal.Gen.frame m ρ, frame_AdamFfnRefIdeal,
  fun m ρ _ => Cert.AdamRel.Gen.frame m ρ, fun m ρ _ => Cert.AdamRelIdeal.Gen.frame m ρ, frame_AdamRelRefIdeal,
  fun m ρ _ => Cert.AdamBias.Gen.frame m ρ, fun m ρ _ => Cert.AdamBiasIdeal.Gen.frame m ρ, frame_AdamBiasRefIdeal,
  fun m ρ _ => Cert.AdamNorm.Gen.frame m ρ, fun m ρ _ => Cert.AdamNormIdeal.Gen.frame m ρ, frame_AdamNormRefIdeal,
  fun m ρ _ => Cert.AdamGain.Gen.frame m ρ, fun m ρ _ => Cert.AdamGainIdeal.Gen.frame m ρ, frame_AdamGainRefIdeal,
  fun m ρ _ => Cert.AdamGnorm.Gen.frame m ρ, fun m ρ _ => Cert.AdamGnormIdeal.Gen.frame m ρ, frame_AdamGnormRefIdeal,
  trivial, Gate.algebraic, trivial, UpBwd.algebraic, trivial, DwUp.algebraic, trivial, DwDown.algebraic, trivial, DwOut.algebraic, trivial, OutBwd.algebraic, trivial, InBwd.algebraic, trivial, DwIn.algebraic, trivial, DwQkv.algebraic, trivial, Down.algebraic, trivial, Out.algebraic, trivial, Up.algebraic, trivial, Qkv.algebraic, trivial, In.algebraic, trivial, UpBwd0.algebraic, trivial, Down0.algebraic, trivial, Up0.algebraic, trivial, NormBwdClaim.algebraic, trivial, NormBwd0Claim.algebraic, trivial, LossClaim.algebraic, trivial, AdaBwd.algebraic, trivial, AdaFwd.algebraic, trivial, AdamQkv.algebraic, trivial, AdamIn.algebraic, trivial, AdamOut.algebraic, trivial, AdamAda.algebraic, trivial, AdamFfn.algebraic, trivial, AdamRel.algebraic, trivial, AdamBias.algebraic, trivial, AdamNorm.algebraic, trivial, AdamGain.algebraic, trivial, AdamGnorm.algebraic⟩

end Cert.Proof

end
